-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_gates_ok [hPre_gates_ok : Cert.Pre_gates_ok.Facts] (m : (ℓ : Loc Cert.FfnIdeal.nD Cert.FfnIdeal.τ Cert.FfnIdeal.sig) → Buf (Elt Ideal) ℓ) : Prop :=
  ∀ c : Dev Cert.FfnIdeal.nD,
    (Cert.Pre_gates_ok.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_gates_ok [hPre_gates_ok : Cert.Pre_gates_ok.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_gates_ok.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_gates_ok [hFfnIdeal : Cert.FfnIdeal.Facts] [hPre_gates_ok : Cert.Pre_gates_ok.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_gates_ok m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_gates_ok [hFfnReferenceIdeal : Cert.FfnReferenceIdeal.Facts] [hPre_gates_ok : Cert.Pre_gates_ok.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_gates_ok m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1)
      ∧ r.2.mem ((c.tc : Thread Cert.KvProjReferenceIdeal.nD Cert.KvProjReferenceIdeal.τ).loc Cert.KvProjReferenceIdeal.main_arg2) = m ((c.tc : Thread Cert.KvProjReferenceIdeal.nD Cert.KvProjReferenceIdeal.τ).loc Cert.KvProjReferenceIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_gates_ok [hFfnIdeal : Cert.FfnIdeal.Facts] [hFfnReferenceIdeal : Cert.FfnReferenceIdeal.Facts] [hPre_gates_ok : Cert.Pre_gates_ok.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_gates_ok m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v13) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v1) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v8) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v4) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v49) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v38) = v0 c
          ∧ r.2.mem ((c.tc : Thread Cert.OutProjReferenceIdeal.nD Cert.OutProjReferenceIdeal.τ).loc Cert.OutProjReferenceIdeal.main_v39) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)
      ∧ m' ((c.tc : Thread Cert.KvProjReferenceIdeal.nD Cert.KvProjReferenceIdeal.τ).loc Cert.KvProjReferenceIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0_0)) (v1 : (c : Dev Cert.KvProjIdeal.nD) → Buf (Elt Ideal) ((c.tc : Thread Cert.KvProjIdeal.nD Cert.KvProjIdeal.τ).loc Cert.KvProjIdeal.main_v1_0)) (v2 : (c : Dev Cert.KvProjIdeal.nD) → Buf (Elt Ideal) ((c.tc : Thread Cert.KvProjIdeal.nD Cert.KvProjIdeal.τ).loc Cert.KvProjIdeal.main_v1_1)) (v3 : (c : Dev Cert.KvProjIdeal.nD) → Buf (Elt Ideal) ((c.tc : Thread Cert.KvProjIdeal.nD Cert.KvProjIdeal.τ).loc Cert.KvProjIdeal.main_v1_2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0_0) = v0 c
          ∧ r.2.mem ((c.tc : Thread Cert.KvProjIdeal.nD Cert.KvProjIdeal.τ).loc Cert.KvProjIdeal.main_v1_0) = v1 c
          ∧ r.2.mem ((c.tc : Thread Cert.KvProjIdeal.nD Cert.KvProjIdeal.τ).loc Cert.KvProjIdeal.main_v1_1) = v2 c
          ∧ r.2.mem ((c.tc : Thread Cert.KvProjIdeal.nD Cert.KvProjIdeal.τ).loc Cert.KvProjIdeal.main_v1_2) = v3 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v5) = v0 c
          ∧ r.2.mem ((c.tc : Thread Cert.KvProjReferenceIdeal.nD Cert.KvProjReferenceIdeal.τ).loc Cert.KvProjReferenceIdeal.main_v11) = v1 c
          ∧ r.2.mem ((c.tc : Thread Cert.KvProjReferenceIdeal.nD Cert.KvProjReferenceIdeal.τ).loc Cert.KvProjReferenceIdeal.main_v18) = v2 c
          ∧ r.2.mem ((c.tc : Thread Cert.KvProjReferenceIdeal.nD Cert.KvProjReferenceIdeal.τ).loc Cert.KvProjReferenceIdeal.main_v25) = v3 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1)
          ∧ r.2.mem ((c.tc : Thread Cert.KvProjReferenceIdeal.nD Cert.KvProjReferenceIdeal.τ).loc Cert.KvProjReferenceIdeal.main_arg2) = m' ((c.tc : Thread Cert.KvProjReferenceIdeal.nD Cert.KvProjReferenceIdeal.τ).loc Cert.KvProjReferenceIdeal.main_arg2))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v1_0)) (v1 : (c : Dev Cert.MidIdeal.nD) → Buf (Elt Ideal) ((c.tc : Thread Cert.MidIdeal.nD Cert.MidIdeal.τ).loc Cert.MidIdeal.main_v1_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1_0) = v0 c
          ∧ r.2.mem ((c.tc : Thread Cert.MidIdeal.nD Cert.MidIdeal.τ).loc Cert.MidIdeal.main_v1_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v50) = v0 c
          ∧ r.2.mem ((c.tc : Thread Cert.MidReferenceIdeal.nD Cert.MidReferenceIdeal.τ).loc Cert.MidReferenceIdeal.main_v51) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hDense : Cert.Dense.Facts) (hDenseIdeal : Cert.DenseIdeal.Facts) (hDenseReferenceIdeal : Cert.DenseReferenceIdeal.Facts) (hInProj : Cert.InProj.Facts) (hInProjIdeal : Cert.InProjIdeal.Facts) (hInProjReferenceIdeal : Cert.InProjReferenceIdeal.Facts) (hQProj : Cert.QProj.Facts) (hQProjIdeal : Cert.QProjIdeal.Facts) (hQProjReferenceIdeal : Cert.QProjReferenceIdeal.Facts) (hFinal : Cert.Final.Facts) (hFinalIdeal : Cert.FinalIdeal.Facts) (hFinalReferenceIdeal : Cert.FinalReferenceIdeal.Facts) (hOutProj : Cert.OutProj.Facts) (hOutProjIdeal : Cert.OutProjIdeal.Facts) (hOutProjReferenceIdeal : Cert.OutProjReferenceIdeal.Facts) (hKvProj : Cert.KvProj.Facts) (hKvProjIdeal : Cert.KvProjIdeal.Facts) (hKvProjReferenceIdeal : Cert.KvProjReferenceIdeal.Facts) (hMid : Cert.Mid.Facts) (hMidIdeal : Cert.MidIdeal.Facts) (hMidReferenceIdeal : Cert.MidReferenceIdeal.Facts) (hPre_scores_finite : Cert.Pre_scores_finite.Facts) (hPre_gates_ok : Cert.Pre_gates_ok.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Ffn (hFfn := hFfn)
    ∧ quiescent_FfnIdeal (hFfnIdeal := hFfnIdeal)
    ∧ quiescent_FfnIdeal_pre_gates_ok (hFfnIdeal := hFfnIdeal) (hPre_gates_ok := hPre_gates_ok)
    ∧ quiescent_FfnReferenceIdeal (hFfnReferenceIdeal := hFfnReferenceIdeal)
    ∧ quiescent_FfnReferenceIdeal_pre_gates_ok (hFfnReferenceIdeal := hFfnReferenceIdeal) (hPre_gates_ok := hPre_gates_ok)
    ∧ quiescent_Dense (hDense := hDense)
    ∧ quiescent_DenseIdeal (hDenseIdeal := hDenseIdeal)
    ∧ quiescent_DenseReferenceIdeal (hDenseReferenceIdeal := hDenseReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_Mid (hMid := hMid)
    ∧ quiescent_MidIdeal (hMidIdeal := hMidIdeal)
    ∧ quiescent_MidReferenceIdeal (hMidReferenceIdeal := hMidReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Ffn_FfnIdeal
    ∧ algebraic_FfnIdeal_FfnReferenceIdeal_pre_gates_ok (hFfnIdeal := hFfnIdeal) (hFfnReferenceIdeal := hFfnReferenceIdeal) (hPre_gates_ok := hPre_gates_ok)
    ∧ preserves_Dense_DenseIdeal
    ∧ algebraic_DenseIdeal_DenseReferenceIdeal (hDenseIdeal := hDenseIdeal) (hDenseReferenceIdeal := hDenseReferenceIdeal)
    ∧ preserves_InProj_InProjIdeal
    ∧ algebraic_InProjIdeal_InProjReferenceIdeal (hInProjIdeal := hInProjIdeal) (hInProjReferenceIdeal := hInProjReferenceIdeal)
    ∧ preserves_QProj_QProjIdeal
    ∧ algebraic_QProjIdeal_QProjReferenceIdeal (hQProjIdeal := hQProjIdeal) (hQProjReferenceIdeal := hQProjReferenceIdeal)
    ∧ preserves_Final_FinalIdeal
    ∧ algebraic_FinalIdeal_FinalReferenceIdeal (hFinalIdeal := hFinalIdeal) (hFinalReferenceIdeal := hFinalReferenceIdeal)
    ∧ preserves_OutProj_OutProjIdeal
    ∧ algebraic_OutProjIdeal_OutProjReferenceIdeal (hOutProjIdeal := hOutProjIdeal) (hOutProjReferenceIdeal := hOutProjReferenceIdeal)
    ∧ preserves_KvProj_KvProjIdeal
    ∧ algebraic_KvProjIdeal_KvProjReferenceIdeal (hKvProjIdeal := hKvProjIdeal) (hKvProjReferenceIdeal := hKvProjReferenceIdeal)
    ∧ preserves_Mid_MidIdeal
    ∧ algebraic_MidIdeal_MidReferenceIdeal (hMidIdeal := hMidIdeal) (hMidReferenceIdeal := hMidReferenceIdeal)
-- ==== Pre_gates_ok.lean ====
abbrev S8320x2048 : Shape := ⟨2, ![8320, 2048]⟩
abbrev S8320x128 : Shape := ⟨2, ![8320, 128]⟩
abbrev S8x2048x5632 : Shape := ⟨3, ![8, 2048, 5632]⟩
abbrev S8x5632x2048 : Shape := ⟨3, ![8, 5632, 2048]⟩
abbrev S8320x8 : Shape := ⟨2, ![8320, 8]⟩
abbrev S_ : Shape := ⟨0, ![]⟩

class Facts : Prop where
  slices_S8320x128_S8320x8_0_0 : S8320x128.Slices ![0, 0] S8320x8
  bcast_S_S8320x8 : S_.BroadcastsInDim S8320x8 (![] : Fin 0 → Fin S8320x8.rank)

variable [Facts]

def fn {F : FTy → Type} [FloatOps F] (main_arg0 : FVec F S8320x2048 .bf16) (main_arg1 : FVec F S8320x128 .f32) (main_arg2 : FVec F S8x2048x5632 .f32) (main_arg3 : FVec F S8x2048x5632 .f32) (main_arg4 : FVec F S8x5632x2048 .f32) : IVec S8320x8 1 :=
  let main_v0 : FVec F S8320x8 .f32 := (extractStridedSlice S8320x8 ![0, 0] · slices_S8320x128_S8320x8_0_0) main_arg1
  let main_cst : FVec F S_ .f32 := constant S_ .f32 0x00000000#32
  let main_v1 : FVec F S8320x8 .f32 := broadcastInDim S8320x8 ![] bcast_S_S8320x8 main_cst
  let main_v2 : IVec S8320x8 1 := cmpf .oge main_v0 main_v1
  let main_cst_0 : FVec F S_ .f32 := constant S_ .f32 0x7F800000#32
  let main_v3 : FVec F S8320x8 .f32 := broadcastInDim S8320x8 ![] bcast_S_S8320x8 main_cst_0
  let main_v4 : IVec S8320x8 1 := cmpf .olt main_v0 main_v3
  let main_v5 : IVec S8320x8 1 := andi main_v2 main_v4
  main_v5
-- ==== Pre_scores_finite.lean ====
abbrev S2x8 : Shape := ⟨2, ![2, 8]⟩
abbrev S8320x1280 : Shape := ⟨2, ![8320, 1280]⟩
abbrev S8192x2048 : Shape := ⟨2, ![8192, 2048]⟩
abbrev S2x1x128 : Shape := ⟨3, ![2, 1, 128]⟩
abbrev S1x8 : Shape := ⟨2, ![1, 8]⟩
abbrev S8 : Shape := ⟨1, ![8]⟩
abbrev S_ : Shape := ⟨0, ![]⟩
abbrev S8192x1024 : Shape := ⟨2, ![8192, 1024]⟩

class Facts : Prop where
  slices_S2x8_S1x8_0_0 : S2x8.Slices ![0, 0] S1x8
  shapeCasts_S1x8_S8 : S1x8.ShapeCasts S8
  bcast_S_S8 : S_.BroadcastsInDim S8 (![] : Fin 0 → Fin S8.rank)
  slices_S8320x1280_S8192x1024_0_0 : S8320x1280.Slices ![0, 0] S8192x1024
  bcast_S_S8192x1024 : S_.BroadcastsInDim S8192x1024 (![] : Fin 0 → Fin S8192x1024.rank)
  slices_S8192x2048_S8192x1024_0_0 : S8192x2048.Slices ![0, 0] S8192x1024

variable [Facts]

def fn {F : FTy → Type} [FloatOps F] (main_arg0 : FVec F S2x8 .f32) (main_arg1 : FVec F S8320x1280 .f32) (main_arg2 : FVec F S8192x2048 .f32) (main_arg3 : FVec F S2x1x128 .f32) : IVec S8 1 × IVec S8192x1024 1 × IVec S8192x1024 1 :=
  let main_v0 : FVec F S1x8 .f32 := (extractStridedSlice S1x8 ![0, 0] · slices_S2x8_S1x8_0_0) main_arg0
  let main_v1 : FVec F S8 .f32 := shapeCast S8 main_v0 shapeCasts_S1x8_S8
  let main_v2 : FVec F S8 .f32 := Host.absf main_v1
  let main_cst : FVec F S_ .f32 := constant S_ .f32 0x7F800000#32
  let main_v3 : FVec F S8 .f32 := broadcastInDim S8 ![] bcast_S_S8 main_cst
  let main_v4 : IVec S8 1 := cmpf .olt main_v2 main_v3
  let main_v5 : FVec F S8192x1024 .f32 := (extractStridedSlice S8192x1024 ![0, 0] · slices_S8320x1280_S8192x1024_0_0) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : FVec F S8192x1024 .f32 := (extractStridedSlice S8192x1024 ![0, 0] · slices_S8192x2048_S8192x1024_0_0) main_arg2
  let main_v10 : FVec F S8192x1024 .f32 := Host.absf main_v9
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  (main_v4, main_v8, main_v12)
-- ==== Kernel.lean ====
abbrev S2x8 : Shape := ⟨2, ![2, 8]⟩
abbrev S8320x1280 : Shape := ⟨2, ![8320, 1280]⟩
abbrev S8192x2048 : Shape := ⟨2, ![8192, 2048]⟩
abbrev S2x1x128 : Shape := ⟨3, ![2, 1, 128]⟩
abbrev S8192x1024 : Shape := ⟨2, ![8192, 1024]⟩
abbrev S512x128 : Shape := ⟨2, ![512, 128]⟩
abbrev S4096x128 : Shape := ⟨2, ![4096, 128]⟩
abbrev S1x1x128 : Shape := ⟨3, ![1, 1, 128]⟩
abbrev S1x1 : Shape := ⟨2, ![1, 1]⟩
abbrev S128x256 : Shape := ⟨2, ![128, 256]⟩
abbrev S512x512 : Shape := ⟨2, ![512, 512]⟩
abbrev S2048x128 : Shape := ⟨2, ![2048, 128]⟩
abbrev S2048x256 : Shape := ⟨2, ![2048, 256]⟩
abbrev S256x256 : Shape := ⟨2, ![256, 256]⟩
abbrev S512x256 : Shape := ⟨2, ![512, 256]⟩
abbrev S1x128 : Shape := ⟨2, ![1, 128]⟩
abbrev S512 : Shape := ⟨1, ![512]⟩
abbrev S512x1 : Shape := ⟨2, ![512, 1]⟩

abbrev nBuf : Space → Nat
  | .hbm => 5
  | .vmem => 9
  | .smem => 1
  | _ => 0

abbrev bufTy : (tb : Table) → Fin (tcTables nBuf tb) → BufTy
  | .hbm, ⟨0, _⟩ => ⟨S2x8, .f32⟩
  | .hbm, ⟨1, _⟩ => ⟨S8320x1280, .f32⟩
  | .hbm, ⟨2, _⟩ => ⟨S8192x2048, .f32⟩
  | .hbm, ⟨3, _⟩ => ⟨S2x1x128, .f32⟩
  | .hbm, ⟨4, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x128, .f32⟩
  | .local _ .vmem, ⟨7, _⟩ => ⟨S512x128, .f32⟩
  | .local _ .vmem, ⟨8, _⟩ => ⟨S512x128, .f32⟩
  | .local _ .smem, ⟨0, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 2 → Nat :=
  let c0_1 : Index := 0#32
  let arg1 : BitVec 32 := BitVec.ofNat 32 (i 1).val
  let v4 : Index := Scalar.indexCast arg1
  ![0, v4.toNat]
def k0_mult1 (i : grid0.Coords) : BitVec 32 :=
  let arg2 : BitVec 32 := BitVec.ofNat 32 (i 2).val
  let c512_i32 : BitVec 32 := 512#32
  let v19 : BitVec 32 := Scalar.muli arg2 c512_i32
  v19
def k0_off2 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v22 : Index := Scalar.indexCast v20
  let c0_4 : Index := 0#32
  ![v22.toNat, 0]
def k0_cond1 (i : grid0.Coords) : BitVec 1 :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let c1_i32_17 : BitVec 32 := 1#32
  let v116 : BitVec 1 := Scalar.cmpi .eq v115 c1_i32_17
  let v117 : BitVec 32 := Scalar.extui v116
  let c0_i32_18 : BitVec 32 := 0#32
  let v118 : BitVec 1 := Scalar.cmpi .ne v117 c0_i32_18
  v118

def k0_mult2 (i : grid0.Coords) : BitVec 32 :=
  let arg2 : BitVec 32 := BitVec.ofNat 32 (i 2).val
  let c1_i32_38 : BitVec 32 := 1#32
  let v160 : BitVec 32 := Scalar.subi arg2 c1_i32_38
  let c512_i32_39 : BitVec 32 := 512#32
  let v161 : BitVec 32 := Scalar.muli v160 c512_i32_39
  v161
def k0_off3 (i : grid0.Coords) : Fin 2 → Nat :=
  let arg2 : BitVec 32 := BitVec.ofNat 32 (i 2).val
  let c1_i32_38 : BitVec 32 := 1#32
  let v160 : BitVec 32 := Scalar.subi arg2 c1_i32_38
  let c512_i32_39 : BitVec 32 := 512#32
  let v161 : BitVec 32 := Scalar.muli v160 c512_i32_39
  let v162 : BitVec 32 := v161
  let v163 : Index := Scalar.indexCast v162
  let c0_40 : Index := 0#32
  ![v163.toNat, 0]
@[reducible] def k0_t1_loop (i : grid0.Coords) : Scf.Loop 32 :=
  let c0_i32_26 : BitVec 32 := 0#32
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let c1_i32_28 : BitVec 32 := 1#32
  ⟨c0_i32_26, v142, c1_i32_28⟩
def k0_mult3 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let c1_i32_28 : BitVec 32 := 1#32
  let arg9 : BitVec 32 := Scf.iv c0_i32_26 c1_i32_28 k0_t1
  let v162 : BitVec 32 := Scalar.muli c2_i32_39 arg9
  let v163 : BitVec 32 := Scalar.subi v161 v162
  let c512_i32_41 : BitVec 32 := 512#32
  let v165 : BitVec 32 := Scalar.muli v163 c512_i32_41
  v165
def k0_off4 (i : grid0.Coords) (k0_t1 : Fin (k0_t1_loop i).trips) : Fin 2 → Nat :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let c1_i32_28 : BitVec 32 := 1#32
  let arg9 : BitVec 32 := Scf.iv c0_i32_26 c1_i32_28 k0_t1
  let v162 : BitVec 32 := Scalar.muli c2_i32_39 arg9
  let v163 : BitVec 32 := Scalar.subi v161 v162
  let c512_i32_41 : BitVec 32 := 512#32
  let v165 : BitVec 32 := Scalar.muli v163 c512_i32_41
  let v166 : BitVec 32 := v165
  let v167 : Index := Scalar.indexCast v166
  let c0_42 : Index := 0#32
  ![v167.toNat, 0]
def k0_mult4 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let c1_i32_28 : BitVec 32 := 1#32
  let arg9 : BitVec 32 := Scf.iv c0_i32_26 c1_i32_28 k0_t1
  let v162 : BitVec 32 := Scalar.muli c2_i32_39 arg9
  let v163 : BitVec 32 := Scalar.subi v161 v162
  let c1_i32_40 : BitVec 32 := 1#32
  let v164 : BitVec 32 := Scalar.subi v163 c1_i32_40
  let c512_i32_50 : BitVec 32 := 512#32
  let v247 : BitVec 32 := Scalar.muli v164 c512_i32_50
  v247
def k0_off5 (i : grid0.Coords) (k0_t1 : Fin (k0_t1_loop i).trips) : Fin 2 → Nat :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let c1_i32_28 : BitVec 32 := 1#32
  let arg9 : BitVec 32 := Scf.iv c0_i32_26 c1_i32_28 k0_t1
  let v162 : BitVec 32 := Scalar.muli c2_i32_39 arg9
  let v163 : BitVec 32 := Scalar.subi v161 v162
  let c1_i32_40 : BitVec 32 := 1#32
  let v164 : BitVec 32 := Scalar.subi v163 c1_i32_40
  let c512_i32_50 : BitVec 32 := 512#32
  let v247 : BitVec 32 := Scalar.muli v164 c512_i32_50
  let v248 : BitVec 32 := v247
  let v249 : Index := Scalar.indexCast v248
  let c0_51 : Index := 0#32
  ![v249.toNat, 0]
@[reducible] def k0_t2_loop (i : grid0.Coords) : Scf.Loop 32 :=
  let c0_i32_26 : BitVec 32 := 0#32
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let v139 : BitVec 32 := Scalar.addi c0_i32_26 v138
  let c1_i32_29 : BitVec 32 := 1#32
  ⟨v142, v139, c1_i32_29⟩
def k0_mult5 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let c1_i32_29 : BitVec 32 := 1#32
  let arg9 : BitVec 32 := Scf.iv v142 c1_i32_29 k0_t2
  let v162 : BitVec 32 := Scalar.muli c2_i32_39 arg9
  let v163 : BitVec 32 := Scalar.subi v161 v162
  let c512_i32_41 : BitVec 32 := 512#32
  let v165 : BitVec 32 := Scalar.muli v163 c512_i32_41
  v165
def k0_off6 (i : grid0.Coords) (k0_t2 : Fin (k0_t2_loop i).trips) : Fin 2 → Nat :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let c1_i32_29 : BitVec 32 := 1#32
  let arg9 : BitVec 32 := Scf.iv v142 c1_i32_29 k0_t2
  let v162 : BitVec 32 := Scalar.muli c2_i32_39 arg9
  let v163 : BitVec 32 := Scalar.subi v161 v162
  let c512_i32_41 : BitVec 32 := 512#32
  let v165 : BitVec 32 := Scalar.muli v163 c512_i32_41
  let v166 : BitVec 32 := v165
  let v167 : Index := Scalar.indexCast v166
  let c0_42 : Index := 0#32
  ![v167.toNat, 0]
def k0_mult6 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let c1_i32_29 : BitVec 32 := 1#32
  let arg9 : BitVec 32 := Scf.iv v142 c1_i32_29 k0_t2
  let v162 : BitVec 32 := Scalar.muli c2_i32_39 arg9
  let v163 : BitVec 32 := Scalar.subi v161 v162
  let c1_i32_40 : BitVec 32 := 1#32
  let v164 : BitVec 32 := Scalar.subi v163 c1_i32_40
  let c512_i32_50 : BitVec 32 := 512#32
  let v247 : BitVec 32 := Scalar.muli v164 c512_i32_50
  v247
def k0_off7 (i : grid0.Coords) (k0_t2 : Fin (k0_t2_loop i).trips) : Fin 2 → Nat :=
  let arg2 : BitVec 32 := BitVec.ofNat 32 (i 2).val
  let c2_i32 : BitVec 32 := 2#32
  let c0_i32 : BitVec 32 := 0#32
  let v106 : BitVec 1 := Scalar.cmpi .eq c2_i32 c0_i32
  let c1_i32 : BitVec 32 := 1#32
  let v107 : BitVec 32 := Scalar.select v106 c1_i32 c2_i32
  let v108 : BitVec 32 := Scalar.remsi arg2 v107
  let c0_i32_15 : BitVec 32 := 0#32
  let v110 : BitVec 1 := Scalar.cmpi .slt v108 c0_i32_15
  let c0_i32_16 : BitVec 32 := 0#32
  let v111 : BitVec 1 := Scalar.cmpi .slt v107 c0_i32_16
  let v112 : BitVec 1 := Scalar.xori v110 v111
  let c0_i32_14 : BitVec 32 := 0#32
  let v109 : BitVec 1 := Scalar.cmpi .ne v108 c0_i32_14
  let v113 : BitVec 1 := Scalar.andi v112 v109
  let v114 : BitVec 32 := Scalar.addi v108 v107
  let v115 : BitVec 32 := Scalar.select v113 v114 v108
  let v160 : BitVec 32 := Scalar.subi arg2 v115
  let c1_i32_38 : BitVec 32 := 1#32
  let v161 : BitVec 32 := Scalar.subi v160 c1_i32_38
  let c2_i32_39 : BitVec 32 := 2#32
  let c0_i32_26 : BitVec 32 := 0#32
  let v120 : BitVec 32 := Scalar.subi arg2 v115
  let c0_i32_20 : BitVec 32 := 0#32
  let v122 : BitVec 1 := Scalar.cmpi .sgt v120 c0_i32_20
  let v123 : BitVec 32 := Scalar.extui v122
  let c0_i32_21 : BitVec 32 := 0#32
  let v124 : BitVec 1 := Scalar.cmpi .slt v120 c0_i32_21
  let v125 : BitVec 32 := Scalar.extui v124
  let v126 : BitVec 32 := Scalar.subi v123 v125
  let c2_i32_19 : BitVec 32 := 2#32
  let c0_i32_22 : BitVec 32 := 0#32
  let v127 : BitVec 1 := Scalar.cmpi .sgt c2_i32_19 c0_i32_22
  let v128 : BitVec 32 := Scalar.extui v127
  let c0_i32_23 : BitVec 32 := 0#32
  let v129 : BitVec 1 := Scalar.cmpi .slt c2_i32_19 c0_i32_23
  let v130 : BitVec 32 := Scalar.extui v129
  let v131 : BitVec 32 := Scalar.subi v128 v130
  let v132 : BitVec 1 := Scalar.cmpi .ne v126 v131
  let v133 : BitVec 32 := Scalar.remsi v120 c2_i32_19
  let c0_i32_24 : BitVec 32 := 0#32
  let v134 : BitVec 1 := Scalar.cmpi .ne v133 c0_i32_24
  let v135 : BitVec 1 := Scalar.andi v132 v134
  let v121 : BitVec 32 := Scalar.divsi v120 c2_i32_19
  let c1_i32_25 : BitVec 32 := 1#32
  let v136 : BitVec 32 := Scalar.subi v121 c1_i32_25
  let v137 : BitVec 32 := Scalar.select v135 v136 v121
  let v138 : BitVec 32 := Scalar.subi v137 c0_i32_26
  let c1_i32_27 : BitVec 32 := 1#32
  let v140 : BitVec 32 := Scalar.divsi v138 c1_i32_27
  let v141 : BitVec 32 := Scalar.muli v140 c1_i32_27
  let v142 : BitVec 32 := Scalar.addi c0_i32_26 v141
  let c1_i32_29 : BitVec 32 := 1#32
  let arg9 : BitVec 32 := Scf.iv v142 c1_i32_29 k0_t2
  let v162 : BitVec 32 := Scalar.muli c2_i32_39 arg9
  let v163 : BitVec 32 := Scalar.subi v161 v162
  let c1_i32_40 : BitVec 32 := 1#32
  let v164 : BitVec 32 := Scalar.subi v163 c1_i32_40
  let c512_i32_50 : BitVec 32 := 512#32
  let v247 : BitVec 32 := Scalar.muli v164 c512_i32_50
  let v248 : BitVec 32 := v247
  let v249 : Index := Scalar.indexCast v248
  let c0_51 : Index := 0#32
  ![v249.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8 : Shape := ⟨2, ![2, 8]⟩
abbrev S8320x1280 : Shape := ⟨2, ![8320, 1280]⟩
abbrev S8192x2048 : Shape := ⟨2, ![8192, 2048]⟩
abbrev S2x1x128 : Shape := ⟨3, ![2, 1, 128]⟩
abbrev S8192x1024 : Shape := ⟨2, ![8192, 1024]⟩
abbrev S2x4096x8x128 : Shape := ⟨4, ![2, 4096, 8, 128]⟩
abbrev S1x8 : Shape := ⟨2, ![1, 8]⟩
abbrev S8 : Shape := ⟨1, ![8]⟩
abbrev S4096 : Shape := ⟨1, ![4096]⟩
abbrev S2x8x4096x4096 : Shape := ⟨4, ![2, 8, 4096, 4096]⟩
abbrev S_ : Shape := ⟨0, ![]⟩
abbrev S1x8x1x1 : Shape := ⟨4, ![1, 8, 1, 1]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x128 : Shape := ⟨3, ![1, 1, 128]⟩
abbrev S128 : Shape := ⟨1, ![128]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S8320x1280, .f32⟩
  | .hbm, ⟨2, _⟩ => ⟨S8192x2048, .f32⟩
  | .hbm, ⟨3, _⟩ => ⟨S2x1x128, .f32⟩
  | .hbm, ⟨4, _⟩ => ⟨S8192x1024, .f32⟩
  | .hbm, ⟨5, _⟩ => ⟨S2x4096x8x128, .f32⟩
  | .hbm, ⟨6, _⟩ => ⟨S8192x1024, .f32⟩
  | .hbm, ⟨7, _⟩ => ⟨S2x4096x8x128, .f32⟩
  | .hbm, ⟨8, _⟩ => ⟨S8192x1024, .f32⟩
  | .hbm, ⟨9, _⟩ => ⟨S2x4096x8x128, .f32⟩
  | .hbm, ⟨10, _⟩ => ⟨S1x8, .f32⟩
  | .hbm, ⟨11, _⟩ => ⟨S8, .f32⟩
  | .hbm, ⟨12, _⟩ => ⟨S4096, .i32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S1x8x1x1, .f32⟩
  | .hbm, ⟨18, _⟩ => ⟨S2x8x4096x4096, .f32⟩
  | .hbm, ⟨19, _⟩ => ⟨S2x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .i1⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S_, .f32⟩
  | .hbm, ⟨44, _⟩ => ⟨S2x8x4096x4096, .i1⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S_, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S_, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .i1⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S2x8x4096x4096, .f32⟩
  | .hbm, ⟨64, _⟩ => ⟨S2x8x4096x4096, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S2x8x4096x4096, .f32⟩
  | .hbm, ⟨69, _⟩ => ⟨S_, .f32⟩
  | .hbm, ⟨70, _⟩ => ⟨S_, .f32⟩
  | .hbm, ⟨71, _⟩ => ⟨S2x8x4096x4096, .i1⟩
  | .hbm, ⟨72, _⟩ => ⟨S2x8x4096x4096, .f32⟩
  | .hbm, ⟨73, _⟩ => ⟨S2x8x4096x4096, .f32⟩
  | .hbm, ⟨74, _⟩ => ⟨S2x8x128x4096, .f32⟩
  | .hbm, ⟨75, _⟩ => ⟨S2x4096x8x128, .f32⟩
  | .hbm, ⟨76, _⟩ => ⟨S2x4096x8x128, .f32⟩
  | .hbm, ⟨77, _⟩ => ⟨S_, .f32⟩
  | .hbm, ⟨78, _⟩ => ⟨S2x4096x8, .f32⟩
  | .hbm, ⟨79, _⟩ => ⟨S2x4096x8x1, .f32⟩
  | .hbm, ⟨80, _⟩ => ⟨S_, .f32⟩
  | .hbm, ⟨81, _⟩ => ⟨S2x4096x8x1, .f32⟩
  | .hbm, ⟨82, _⟩ => ⟨S2x4096x8x1, .f32⟩
  | .hbm, ⟨83, _⟩ => ⟨S_, .f32⟩
  | .hbm, ⟨84, _⟩ => ⟨S2x4096x8x1, .f32⟩
  | .hbm, ⟨85, _⟩ => ⟨S2x4096x8x1, .f32⟩
  | .hbm, ⟨86, _⟩ => ⟨S2x4096x8x1, .f32⟩
  | .hbm, ⟨87, _⟩ => ⟨S2x4096x8x128, .f32⟩
  | .hbm, ⟨88, _⟩ => ⟨S2x4096x8x128, .f32⟩
  | .hbm, ⟨89, _⟩ => ⟨S1x1x128, .f32⟩
  | .hbm, ⟨90, _⟩ => ⟨S128, .f32⟩
  | .hbm, ⟨91, _⟩ => ⟨S1x1x1x128, .f32⟩
  | .hbm, ⟨92, _⟩ => ⟨S2x4096x8x128, .f32⟩
  | .hbm, ⟨93, _⟩ => ⟨S2x4096x8x128, .f32⟩
  | .hbm, ⟨94, _⟩ => ⟨S8192x1024, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v21 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_2 : Ref sig .tc := ⟨.hbm, 77, rfl⟩
abbrev main_v32 : Ref sig .tc := ⟨.hbm, 78, rfl⟩
abbrev main_v33 : Ref sig .tc := ⟨.hbm, 79, rfl⟩
abbrev main_cst_3 : Ref sig .tc := ⟨.hbm, 80, rfl⟩
abbrev main_v34 : Ref sig .tc := ⟨.hbm, 81, rfl⟩
abbrev main_v35 : Ref sig .tc := ⟨.hbm, 82, rfl⟩
abbrev main_cst_4 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩

abbrev nD : Nat := 1
abbrev τ : Topo := Topo.v7x

variable {F : FTy → Type} [FloatOps F]
-- ==== Ffn.lean ====
abbrev S8320x2048 : Shape := ⟨2, ![8320, 2048]⟩
abbrev S8320x128 : Shape := ⟨2, ![8320, 128]⟩
abbrev S8x2048x5632 : Shape := ⟨3, ![8, 2048, 5632]⟩
abbrev S8x5632x2048 : Shape := ⟨3, ![8, 5632, 2048]⟩
abbrev S832x2048 : Shape := ⟨2, ![832, 2048]⟩
abbrev S832x128 : Shape := ⟨2, ![832, 128]⟩
abbrev S1x2048x512 : Shape := ⟨3, ![1, 2048, 512]⟩
abbrev S1x512x2048 : Shape := ⟨3, ![1, 512, 2048]⟩
abbrev S2048x512 : Shape := ⟨2, ![2048, 512]⟩
abbrev S832x512 : Shape := ⟨2, ![832, 512]⟩
abbrev S832 : Shape := ⟨1, ![832]⟩
abbrev S832x1 : Shape := ⟨2, ![832, 1]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S8320x128, .f32⟩
  | .hbm, ⟨2, _⟩ => ⟨S8x2048x5632, .f32⟩
  | .hbm, ⟨3, _⟩ => ⟨S8x2048x5632, .f32⟩
  | .hbm, ⟨4, _⟩ => ⟨S8x5632x2048, .f32⟩
  | .hbm, ⟨5, _⟩ => ⟨S8320x2048, .f32⟩
  | .local _ .vmem, ⟨0, _⟩ => ⟨S832x2048, .bf16⟩
  | .local _ .vmem, ⟨1, _⟩ => ⟨S832x2048, .bf16⟩
  | .local _ .vmem, ⟨2, _⟩ => ⟨S832x128, .f32⟩
  | .local _ .vmem, ⟨3, _⟩ => ⟨S832x128, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512x2048, .f32⟩
  | .local _ .vmem, ⟨9, _⟩ => ⟨S1x512x2048, .f32⟩
  | .local _ .vmem, ⟨10, _⟩ => ⟨S832x2048, .f32⟩
  | .local _ .vmem, ⟨11, _⟩ => ⟨S832x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![10, 8, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnReferenceIdeal.lean ====
abbrev S8320x2048 : Shape := ⟨2, ![8320, 2048]⟩
abbrev S8320x128 : Shape := ⟨2, ![8320, 128]⟩
abbrev S8x2048x5632 : Shape := ⟨3, ![8, 2048, 5632]⟩
abbrev S8x5632x2048 : Shape := ⟨3, ![8, 5632, 2048]⟩
abbrev S8x5632x8320 : Shape := ⟨3, ![8, 5632, 8320]⟩
abbrev S8x8320x5632 : Shape := ⟨3, ![8, 8320, 5632]⟩
abbrev S_ : Shape := ⟨0, ![]⟩
abbrev S8x8320x2048 : Shape := ⟨3, ![8, 8320, 2048]⟩
abbrev S8320x8 : Shape := ⟨2, ![8320, 8]⟩
abbrev S8x8320 : Shape := ⟨2, ![8, 8320]⟩
abbrev S8x8320x1 : Shape := ⟨3, ![8, 8320, 1]⟩

abbrev nBuf : Space → Nat
  | .hbm => 28
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x128, .f32⟩
  | .hbm, ⟨2, _⟩ => ⟨S8x2048x5632, .f32⟩
  | .hbm, ⟨3, _⟩ => ⟨S8x2048x5632, .f32⟩
  | .hbm, ⟨4, _⟩ => ⟨S8x5632x2048, .f32⟩
  | .hbm, ⟨5, _⟩ => ⟨S8320x2048, .f32⟩
  | .hbm, ⟨6, _⟩ => ⟨S8x5632x8320, .f32⟩
  | .hbm, ⟨7, _⟩ => ⟨S8x8320x5632, .f32⟩
  | .hbm, ⟨8, _⟩ => ⟨S8x5632x8320, .f32⟩
  | .hbm, ⟨9, _⟩ => ⟨S8x8320x5632, .f32⟩
  | .hbm, ⟨10, _⟩ => ⟨S8x8320x5632, .f32⟩
  | .hbm, ⟨11, _⟩ => ⟨S8x8320x5632, .f32⟩
  | .hbm, ⟨12, _⟩ => ⟨S_, .f32⟩
  | .hbm, ⟨13, _⟩ => ⟨S8x8320x5632, .f32⟩
  | .hbm, ⟨14, _⟩ => ⟨S8x8320x5632, .f32⟩
  | .hbm, ⟨15, _⟩ => ⟨S_, .f32⟩
  | .hbm, ⟨16, _⟩ => ⟨S8x8320x5632, .f32⟩
  | .hbm, ⟨17, _⟩ => ⟨S8x8320x5632, .f32⟩
  | .hbm, ⟨18, _⟩ => ⟨S8x8320x5632, .f32⟩
  | .hbm, ⟨19, _⟩ => ⟨S8x8320x5632, .f32⟩
  | .hbm, ⟨20, _⟩ => ⟨S8x8320x2048, .f32⟩
  | .hbm, ⟨21, _⟩ => ⟨S8320x8, .f32⟩
  | .hbm, ⟨22, _⟩ => ⟨S8x8320, .f32⟩
  | .hbm, ⟨23, _⟩ => ⟨S8x8320x1, .f32⟩
  | .hbm, ⟨24, _⟩ => ⟨S8x8320x2048, .f32⟩
  | .hbm, ⟨25, _⟩ => ⟨S8x8320x2048, .f32⟩
  | .hbm, ⟨26, _⟩ => ⟨S_, .f32⟩
  | .hbm, ⟨27, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Dense.lean ====
abbrev S8320x2048 : Shape := ⟨2, ![8320, 2048]⟩
abbrev S1x2048x5632 : Shape := ⟨3, ![1, 2048, 5632]⟩
abbrev S1x5632x2048 : Shape := ⟨3, ![1, 5632, 2048]⟩
abbrev S_ : Shape := ⟨0, ![]⟩
abbrev S8320x128 : Shape := ⟨2, ![8320, 128]⟩
abbrev S832x2048 : Shape := ⟨2, ![832, 2048]⟩
abbrev S832x128 : Shape := ⟨2, ![832, 128]⟩
abbrev S1x2048x512 : Shape := ⟨3, ![1, 2048, 512]⟩
abbrev S1x512x2048 : Shape := ⟨3, ![1, 512, 2048]⟩
abbrev S2048x512 : Shape := ⟨2, ![2048, 512]⟩
abbrev S832x512 : Shape := ⟨2, ![832, 512]⟩
abbrev S832 : Shape := ⟨1, ![832]⟩
abbrev S832x1 : Shape := ⟨2, ![832, 1]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S_, .f32⟩
  | .hbm, ⟨5, _⟩ => ⟨S8320x128, .f32⟩
  | .hbm, ⟨6, _⟩ => ⟨S8320x2048, .f32⟩
  | .local _ .vmem, ⟨0, _⟩ => ⟨S832x2048, .bf16⟩
  | .local _ .vmem, ⟨1, _⟩ => ⟨S832x2048, .bf16⟩
  | .local _ .vmem, ⟨2, _⟩ => ⟨S832x128, .f32⟩
  | .local _ .vmem, ⟨3, _⟩ => ⟨S832x128, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512x2048, .f32⟩
  | .local _ .vmem, ⟨9, _⟩ => ⟨S1x512x2048, .f32⟩
  | .local _ .vmem, ⟨10, _⟩ => ⟨S832x2048, .f32⟩
  | .local _ .vmem, ⟨11, _⟩ => ⟨S832x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![10, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DenseReferenceIdeal.lean ====
abbrev S8320x2048 : Shape := ⟨2, ![8320, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S8320x5632 : Shape := ⟨2, ![8320, 5632]⟩
abbrev S_ : Shape := ⟨0, ![]⟩
abbrev S5632x2048 : Shape := ⟨2, ![5632, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8320x2048, .f32⟩
  | .hbm, ⟨5, _⟩ => ⟨S2048x5632, .f32⟩
  | .hbm, ⟨6, _⟩ => ⟨S8320x5632, .f32⟩
  | .hbm, ⟨7, _⟩ => ⟨S8320x5632, .f32⟩
  | .hbm, ⟨8, _⟩ => ⟨S8320x5632, .f32⟩
  | .hbm, ⟨9, _⟩ => ⟨S_, .f32⟩
  | .hbm, ⟨10, _⟩ => ⟨S8320x5632, .f32⟩
  | .hbm, ⟨11, _⟩ => ⟨S8320x5632, .f32⟩
  | .hbm, ⟨12, _⟩ => ⟨S_, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S2048x5632, .f32⟩
  | .hbm, ⟨17, _⟩ => ⟨S8320x5632, .f32⟩
  | .hbm, ⟨18, _⟩ => ⟨S8320x5632, .f32⟩
  | .hbm, ⟨19, _⟩ => ⟨S5632x2048, .f32⟩
  | .hbm, ⟨20, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== InProj.lean ====
abbrev S8320x2048 : Shape := ⟨2, ![8320, 2048]⟩
abbrev S2x2048x7184 : Shape := ⟨3, ![2, 2048, 7184]⟩
abbrev S8320x4096 : Shape := ⟨2, ![8320, 4096]⟩
abbrev S1040x2048 : Shape := ⟨2, ![1040, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x2048x7184, .bf16⟩
  | .hbm, ⟨2, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1040x2048, .f32⟩
  | .local _ .vmem, ⟨5, _⟩ => ⟨S1040x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8320x2048 : Shape := ⟨2, ![8320, 2048]⟩
abbrev S2x2048x7184 : Shape := ⟨3, ![2, 2048, 7184]⟩
abbrev S1x2048x4096 : Shape := ⟨3, ![1, 2048, 4096]⟩
abbrev S2048x4096 : Shape := ⟨2, ![2048, 4096]⟩
abbrev S8320x4096 : Shape := ⟨2, ![8320, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x7184, .bf16⟩
  | .hbm, ⟨2, _⟩ => ⟨S8320x2048, .f32⟩
  | .hbm, ⟨3, _⟩ => ⟨S1x2048x4096, .bf16⟩
  | .hbm, ⟨4, _⟩ => ⟨S2048x4096, .bf16⟩
  | .hbm, ⟨5, _⟩ => ⟨S2048x4096, .f32⟩
  | .hbm, ⟨6, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QProj.lean ====
abbrev S8320x2048 : Shape := ⟨2, ![8320, 2048]⟩
abbrev S2x2048x1280 : Shape := ⟨3, ![2, 2048, 1280]⟩
abbrev S8320x1280 : Shape := ⟨2, ![8320, 1280]⟩
abbrev S1040x2048 : Shape := ⟨2, ![1040, 2048]⟩
abbrev S1x2048x1280 : Shape := ⟨3, ![1, 2048, 1280]⟩
abbrev S1040x1280 : Shape := ⟨2, ![1040, 1280]⟩
abbrev S2048x1280 : Shape := ⟨2, ![2048, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2x2048x1280, .bf16⟩
  | .hbm, ⟨2, _⟩ => ⟨S8320x1280, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1280, .bf16⟩
  | .local _ .vmem, ⟨3, _⟩ => ⟨S1040x1280, .f32⟩
  | .local _ .vmem, ⟨4, _⟩ => ⟨S1040x1280, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1040x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QProjReferenceIdeal.lean ====
abbrev S8320x2048 : Shape := ⟨2, ![8320, 2048]⟩
abbrev S2x2048x1280 : Shape := ⟨3, ![2, 2048, 1280]⟩
abbrev S1x2048x1280 : Shape := ⟨3, ![1, 2048, 1280]⟩
abbrev S2048x1280 : Shape := ⟨2, ![2048, 1280]⟩
abbrev S8320x1280 : Shape := ⟨2, ![8320, 1280]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x1280, .bf16⟩
  | .hbm, ⟨2, _⟩ => ⟨S8320x2048, .f32⟩
  | .hbm, ⟨3, _⟩ => ⟨S1x2048x1280, .bf16⟩
  | .hbm, ⟨4, _⟩ => ⟨S2048x1280, .bf16⟩
  | .hbm, ⟨5, _⟩ => ⟨S2048x1280, .f32⟩
  | .hbm, ⟨6, _⟩ => ⟨S8320x1280, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Final.lean ====
abbrev S8320x2048 : Shape := ⟨2, ![8320, 2048]⟩
abbrev S2x8192x256 : Shape := ⟨3, ![2, 8192, 256]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S8192x2048 : Shape := ⟨2, ![8192, 2048]⟩
abbrev S256x2048 : Shape := ⟨2, ![256, 2048]⟩
abbrev S1x256x256 : Shape := ⟨3, ![1, 256, 256]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S2048x2048 : Shape := ⟨2, ![2048, 2048]⟩
abbrev S256x256 : Shape := ⟨2, ![256, 256]⟩
abbrev S1x2048 : Shape := ⟨2, ![1, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2x8192x256, .f32⟩
  | .hbm, ⟨3, _⟩ => ⟨S2x2048x2048, .bf16⟩
  | .hbm, ⟨4, _⟩ => ⟨S2x256x2048, .f32⟩
  | .hbm, ⟨5, _⟩ => ⟨S2x1x2048, .f32⟩
  | .hbm, ⟨6, _⟩ => ⟨S2x1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256x256, .f32⟩
  | .local _ .vmem, ⟨5, _⟩ => ⟨S1x256x256, .f32⟩
  | .local _ .vmem, ⟨6, _⟩ => ⟨S1x2048x2048, .bf16⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalReferenceIdeal.lean ====
abbrev S8320x2048 : Shape := ⟨2, ![8320, 2048]⟩
abbrev S2x8192x256 : Shape := ⟨3, ![2, 8192, 256]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S8192x2048 : Shape := ⟨2, ![8192, 2048]⟩
abbrev S1x2048x2048 : Shape := ⟨3, ![1, 2048, 2048]⟩
abbrev S2048x2048 : Shape := ⟨2, ![2048, 2048]⟩
abbrev S_ : Shape := ⟨0, ![]⟩
abbrev S1x8192x256 : Shape := ⟨3, ![1, 8192, 256]⟩
abbrev S8192x256 : Shape := ⟨2, ![8192, 256]⟩
abbrev S1x256x2048 : Shape := ⟨3, ![1, 256, 2048]⟩
abbrev S256x2048 : Shape := ⟨2, ![256, 2048]⟩
abbrev S1x1x2048 : Shape := ⟨3, ![1, 1, 2048]⟩
abbrev S2048 : Shape := ⟨1, ![2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2x8192x256, .f32⟩
  | .hbm, ⟨3, _⟩ => ⟨S2x2048x2048, .bf16⟩
  | .hbm, ⟨4, _⟩ => ⟨S2x256x2048, .f32⟩
  | .hbm, ⟨5, _⟩ => ⟨S2x1x2048, .f32⟩
  | .hbm, ⟨6, _⟩ => ⟨S2x1x2048, .f32⟩
  | .hbm, ⟨7, _⟩ => ⟨S8192x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S1x8192x256, .f32⟩
  | .hbm, ⟨21, _⟩ => ⟨S8192x256, .f32⟩
  | .hbm, ⟨22, _⟩ => ⟨S1x256x2048, .f32⟩
  | .hbm, ⟨23, _⟩ => ⟨S256x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x1x2048, .f32⟩
  | .hbm, ⟨33, _⟩ => ⟨S2048, .f32⟩
  | .hbm, ⟨34, _⟩ => ⟨S1x1x2048, .f32⟩
  | .hbm, ⟨35, _⟩ => ⟨S2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S1x2048, .f32⟩
  | .hbm, ⟨63, _⟩ => ⟨S8192x2048, .f32⟩
  | .hbm, ⟨64, _⟩ => ⟨S8192x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== OutProj.lean ====
abbrev S8192x1024 : Shape := ⟨2, ![8192, 1024]⟩
abbrev S128x1024 : Shape := ⟨2, ![128, 1024]⟩
abbrev S2x2048x2048 : Shape := ⟨3, ![2, 2048, 2048]⟩
abbrev S8192x2048 : Shape := ⟨2, ![8192, 2048]⟩
abbrev S128x2048 : Shape := ⟨2, ![128, 2048]⟩
abbrev S2x1x2048 : Shape := ⟨3, ![2, 1, 2048]⟩
abbrev S8320x2048 : Shape := ⟨2, ![8320, 2048]⟩
abbrev S512x1024 : Shape := ⟨2, ![512, 1024]⟩
abbrev S1x2048x2048 : Shape := ⟨3, ![1, 2048, 2048]⟩
abbrev S512x2048 : Shape := ⟨2, ![512, 2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S1x2048 : Shape := ⟨2, ![1, 2048]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S128x1024, .f32⟩
  | .hbm, ⟨4, _⟩ => ⟨S2x2048x2048, .bf16⟩
  | .hbm, ⟨5, _⟩ => ⟨S8192x2048, .f32⟩
  | .hbm, ⟨6, _⟩ => ⟨S128x2048, .f32⟩
  | .hbm, ⟨7, _⟩ => ⟨S2x1x2048, .f32⟩
  | .hbm, ⟨8, _⟩ => ⟨S2x1x2048, .f32⟩
  | .hbm, ⟨9, _⟩ => ⟨S8320x2048, .f32⟩
  | .hbm, ⟨10, _⟩ => ⟨S8320x2048, .bf16⟩
  | .hbm, ⟨11, _⟩ => ⟨S8320x2048, .f32⟩
  | .hbm, ⟨12, _⟩ => ⟨S8320x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S128x1024, .f32⟩
  | .local _ .vmem, ⟨14, _⟩ => ⟨S128x1024, .f32⟩
  | .local _ .vmem, ⟨15, _⟩ => ⟨S1x2048x2048, .bf16⟩
  | .local _ .vmem, ⟨16, _⟩ => ⟨S128x2048, .f32⟩
  | .local _ .vmem, ⟨17, _⟩ => ⟨S1x1x2048, .f32⟩
  | .local _ .vmem, ⟨18, _⟩ => ⟨S1x1x2048, .f32⟩
  | .local _ .vmem, ⟨19, _⟩ => ⟨S128x2048, .f32⟩
  | .local _ .vmem, ⟨20, _⟩ => ⟨S128x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== OutProjReferenceIdeal.lean ====
abbrev S8192x1024 : Shape := ⟨2, ![8192, 1024]⟩
abbrev S128x1024 : Shape := ⟨2, ![128, 1024]⟩
abbrev S2x2048x2048 : Shape := ⟨3, ![2, 2048, 2048]⟩
abbrev S8192x2048 : Shape := ⟨2, ![8192, 2048]⟩
abbrev S128x2048 : Shape := ⟨2, ![128, 2048]⟩
abbrev S2x1x2048 : Shape := ⟨3, ![2, 1, 2048]⟩
abbrev S8320x1024 : Shape := ⟨2, ![8320, 1024]⟩
abbrev S8320x2048 : Shape := ⟨2, ![8320, 2048]⟩
abbrev S_ : Shape := ⟨0, ![]⟩
abbrev S1x2048x2048 : Shape := ⟨3, ![1, 2048, 2048]⟩
abbrev S2048x2048 : Shape := ⟨2, ![2048, 2048]⟩
abbrev S1x1x2048 : Shape := ⟨3, ![1, 1, 2048]⟩
abbrev S2048 : Shape := ⟨1, ![2048]⟩
abbrev S8320 : Shape := ⟨1, ![8320]⟩
abbrev S8320x1 : Shape := ⟨2, ![8320, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S128x1024, .f32⟩
  | .hbm, ⟨4, _⟩ => ⟨S2x2048x2048, .bf16⟩
  | .hbm, ⟨5, _⟩ => ⟨S8192x2048, .f32⟩
  | .hbm, ⟨6, _⟩ => ⟨S128x2048, .f32⟩
  | .hbm, ⟨7, _⟩ => ⟨S2x1x2048, .f32⟩
  | .hbm, ⟨8, _⟩ => ⟨S2x1x2048, .f32⟩
  | .hbm, ⟨9, _⟩ => ⟨S8320x1024, .f32⟩
  | .hbm, ⟨10, _⟩ => ⟨S8320x1024, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S1x2048x2048, .bf16⟩
  | .hbm, ⟨17, _⟩ => ⟨S2048x2048, .bf16⟩
  | .hbm, ⟨18, _⟩ => ⟨S2048x2048, .f32⟩
  | .hbm, ⟨19, _⟩ => ⟨S8320x2048, .f32⟩
  | .hbm, ⟨20, _⟩ => ⟨S8320x2048, .f32⟩
  | .hbm, ⟨21, _⟩ => ⟨S1x1x2048, .f32⟩
  | .hbm, ⟨22, _⟩ => ⟨S2048, .f32⟩
  | .hbm, ⟨23, _⟩ => ⟨S1x1x2048, .f32⟩
  | .hbm, ⟨24, _⟩ => ⟨S2048, .f32⟩
  | .hbm, ⟨25, _⟩ => ⟨S_, .f32⟩
  | .hbm, ⟨26, _⟩ => ⟨S8320, .f32⟩
  | .hbm, ⟨27, _⟩ => ⟨S8320x1, .f32⟩
  | .hbm, ⟨28, _⟩ => ⟨S_, .f32⟩
  | .hbm, ⟨29, _⟩ => ⟨S8320x1, .f32⟩
  | .hbm, ⟨30, _⟩ => ⟨S8320x1, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S_, .f32⟩
  | .hbm, ⟨35, _⟩ => ⟨S8320, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S8320x2048, .f32⟩
  | .hbm, ⟨41, _⟩ => ⟨S8320x2048, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S8320x1, .f32⟩
  | .hbm, ⟨46, _⟩ => ⟨S8320x2048, .f32⟩
  | .hbm, ⟨47, _⟩ => ⟨S8320x2048, .f32⟩
  | .hbm, ⟨48, _⟩ => ⟨S1x2048, .f32⟩
  | .hbm, ⟨49, _⟩ => ⟨S8320x2048, .f32⟩
  | .hbm, ⟨50, _⟩ => ⟨S8320x2048, .f32⟩
  | .hbm, ⟨51, _⟩ => ⟨S1x2048, .f32⟩
  | .hbm, ⟨52, _⟩ => ⟨S8320x2048, .f32⟩
  | .hbm, ⟨53, _⟩ => ⟨S8320x2048, .f32⟩
  | .hbm, ⟨54, _⟩ => ⟨S8320x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== KvProj.lean ====
abbrev S8320x2048 : Shape := ⟨2, ![8320, 2048]⟩
abbrev S2x2048x2048 : Shape := ⟨3, ![2, 2048, 2048]⟩
abbrev S8192x2048 : Shape := ⟨2, ![8192, 2048]⟩
abbrev S2x65536x128 : Shape := ⟨3, ![2, 65536, 128]⟩
abbrev S512x2048 : Shape := ⟨2, ![512, 2048]⟩
abbrev S1x2048x2048 : Shape := ⟨3, ![1, 2048, 2048]⟩
abbrev S1x4096x128 : Shape := ⟨3, ![1, 4096, 128]⟩
abbrev S2048x2048 : Shape := ⟨2, ![2048, 2048]⟩
abbrev S512x128 : Shape := ⟨2, ![512, 128]⟩
abbrev S1x512x128 : Shape := ⟨3, ![1, 512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2x2048x2048, .bf16⟩
  | .hbm, ⟨3, _⟩ => ⟨S8192x2048, .f32⟩
  | .hbm, ⟨4, _⟩ => ⟨S2x65536x128, .f32⟩
  | .hbm, ⟨5, _⟩ => ⟨S2x65536x128, .f32⟩
  | .hbm, ⟨6, _⟩ => ⟨S8192x2048, .f32⟩
  | .hbm, ⟨7, _⟩ => ⟨S2x65536x128, .f32⟩
  | .hbm, ⟨8, _⟩ => ⟨S2x65536x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S512x2048, .bf16⟩
  | .local _ .vmem, ⟨10, _⟩ => ⟨S512x2048, .bf16⟩
  | .local _ .vmem, ⟨11, _⟩ => ⟨S1x2048x2048, .bf16⟩
  | .local _ .vmem, ⟨12, _⟩ => ⟨S512x2048, .f32⟩
  | .local _ .vmem, ⟨13, _⟩ => ⟨S512x2048, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KvProjReferenceIdeal.lean ====
abbrev S8320x2048 : Shape := ⟨2, ![8320, 2048]⟩
abbrev S2x2048x2048 : Shape := ⟨3, ![2, 2048, 2048]⟩
abbrev S8192x2048 : Shape := ⟨2, ![8192, 2048]⟩
abbrev S1x2048x2048 : Shape := ⟨3, ![1, 2048, 2048]⟩
abbrev S2048x2048 : Shape := ⟨2, ![2048, 2048]⟩
abbrev S8192x1024 : Shape := ⟨2, ![8192, 1024]⟩
abbrev S65536x128 : Shape := ⟨2, ![65536, 128]⟩
abbrev S1x65536x128 : Shape := ⟨3, ![1, 65536, 128]⟩
abbrev S2x65536x128 : Shape := ⟨3, ![2, 65536, 128]⟩

abbrev nBuf : Space → Nat
  | .hbm => 29
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2x2048x2048, .bf16⟩
  | .hbm, ⟨3, _⟩ => ⟨S8192x2048, .bf16⟩
  | .hbm, ⟨4, _⟩ => ⟨S8192x2048, .f32⟩
  | .hbm, ⟨5, _⟩ => ⟨S1x2048x2048, .bf16⟩
  | .hbm, ⟨6, _⟩ => ⟨S2048x2048, .bf16⟩
  | .hbm, ⟨7, _⟩ => ⟨S2048x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S1x2048x2048, .bf16⟩
  | .hbm, ⟨12, _⟩ => ⟨S2048x2048, .bf16⟩
  | .hbm, ⟨13, _⟩ => ⟨S2048x2048, .f32⟩
  | .hbm, ⟨14, _⟩ => ⟨S8192x2048, .f32⟩
  | .hbm, ⟨15, _⟩ => ⟨S8192x1024, .f32⟩
  | .hbm, ⟨16, _⟩ => ⟨S65536x128, .f32⟩
  | .hbm, ⟨17, _⟩ => ⟨S8192x1024, .f32⟩
  | .hbm, ⟨18, _⟩ => ⟨S65536x128, .f32⟩
  | .hbm, ⟨19, _⟩ => ⟨S1x65536x128, .f32⟩
  | .hbm, ⟨20, _⟩ => ⟨S1x65536x128, .f32⟩
  | .hbm, ⟨21, _⟩ => ⟨S2x65536x128, .f32⟩
  | .hbm, ⟨22, _⟩ => ⟨S8192x1024, .f32⟩
  | .hbm, ⟨23, _⟩ => ⟨S65536x128, .f32⟩
  | .hbm, ⟨24, _⟩ => ⟨S8192x1024, .f32⟩
  | .hbm, ⟨25, _⟩ => ⟨S65536x128, .f32⟩
  | .hbm, ⟨26, _⟩ => ⟨S1x65536x128, .f32⟩
  | .hbm, ⟨27, _⟩ => ⟨S1x65536x128, .f32⟩
  | .hbm, ⟨28, _⟩ => ⟨S2x65536x128, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== Mid.lean ====
abbrev S8320x2048 : Shape := ⟨2, ![8320, 2048]⟩
abbrev S2x8192x256 : Shape := ⟨3, ![2, 8192, 256]⟩
abbrev S2x128x256 : Shape := ⟨3, ![2, 128, 256]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S256x2048 : Shape := ⟨2, ![256, 2048]⟩
abbrev S1x256x256 : Shape := ⟨3, ![1, 256, 256]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S2048x2048 : Shape := ⟨2, ![2048, 2048]⟩
abbrev S256x256 : Shape := ⟨2, ![256, 256]⟩
abbrev S1x2048 : Shape := ⟨2, ![1, 2048]⟩
abbrev S256 : Shape := ⟨1, ![256]⟩
abbrev S256x1 : Shape := ⟨2, ![256, 1]⟩
abbrev S128x2048 : Shape := ⟨2, ![128, 2048]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩

abbrev nBuf : Space → Nat
  | .hbm => 12
  | .vmem => 23
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2x8192x256, .f32⟩
  | .hbm, ⟨3, _⟩ => ⟨S2x128x256, .f32⟩
  | .hbm, ⟨4, _⟩ => ⟨S2x2048x2048, .bf16⟩
  | .hbm, ⟨5, _⟩ => ⟨S2x256x2048, .f32⟩
  | .hbm, ⟨6, _⟩ => ⟨S2x1x2048, .f32⟩
  | .hbm, ⟨7, _⟩ => ⟨S2x1x2048, .f32⟩
  | .hbm, ⟨8, _⟩ => ⟨S8320x2048, .f32⟩
  | .hbm, ⟨9, _⟩ => ⟨S8320x2048, .bf16⟩
  | .hbm, ⟨10, _⟩ => ⟨S8320x2048, .f32⟩
  | .hbm, ⟨11, _⟩ => ⟨S8320x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256x256, .f32⟩
  | .local _ .vmem, ⟨5, _⟩ => ⟨S1x256x256, .f32⟩
  | .local _ .vmem, ⟨6, _⟩ => ⟨S1x2048x2048, .bf16⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S128x2048, .f32⟩
  | .local _ .vmem, ⟨15, _⟩ => ⟨S128x2048, .f32⟩
  | .local _ .vmem, ⟨16, _⟩ => ⟨S1x128x256, .f32⟩
  | .local _ .vmem, ⟨17, _⟩ => ⟨S1x2048x2048, .bf16⟩
  | .local _ .vmem, ⟨18, _⟩ => ⟨S1x256x2048, .f32⟩
  | .local _ .vmem, ⟨19, _⟩ => ⟨S1x1x2048, .f32⟩
  | .local _ .vmem, ⟨20, _⟩ => ⟨S1x1x2048, .f32⟩
  | .local _ .vmem, ⟨21, _⟩ => ⟨S128x2048, .f32⟩
  | .local _ .vmem, ⟨22, _⟩ => ⟨S128x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S128x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]
-- ==== MidReferenceIdeal.lean ====
abbrev S8320x2048 : Shape := ⟨2, ![8320, 2048]⟩
abbrev S2x8192x256 : Shape := ⟨3, ![2, 8192, 256]⟩
abbrev S2x128x256 : Shape := ⟨3, ![2, 128, 256]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S1x8192x256 : Shape := ⟨3, ![1, 8192, 256]⟩
abbrev S8192x256 : Shape := ⟨2, ![8192, 256]⟩
abbrev S1x128x256 : Shape := ⟨3, ![1, 128, 256]⟩
abbrev S128x256 : Shape := ⟨2, ![128, 256]⟩
abbrev S8320x256 : Shape := ⟨2, ![8320, 256]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩
abbrev S1x1x2048 : Shape := ⟨3, ![1, 1, 2048]⟩
abbrev S2048 : Shape := ⟨1, ![2048]⟩
abbrev S8320 : Shape := ⟨1, ![8320]⟩
abbrev S8320x1 : Shape := ⟨2, ![8320, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2x8192x256, .f32⟩
  | .hbm, ⟨3, _⟩ => ⟨S2x128x256, .f32⟩
  | .hbm, ⟨4, _⟩ => ⟨S2x2048x2048, .bf16⟩
  | .hbm, ⟨5, _⟩ => ⟨S2x256x2048, .f32⟩
  | .hbm, ⟨6, _⟩ => ⟨S2x1x2048, .f32⟩
  | .hbm, ⟨7, _⟩ => ⟨S2x1x2048, .f32⟩
  | .hbm, ⟨8, _⟩ => ⟨S1x8192x256, .f32⟩
  | .hbm, ⟨9, _⟩ => ⟨S8192x256, .f32⟩
  | .hbm, ⟨10, _⟩ => ⟨S1x128x256, .f32⟩
  | .hbm, ⟨11, _⟩ => ⟨S128x256, .f32⟩
  | .hbm, ⟨12, _⟩ => ⟨S8320x256, .f32⟩
  | .hbm, ⟨13, _⟩ => ⟨S1x2048x2048, .bf16⟩
  | .hbm, ⟨14, _⟩ => ⟨S2048x2048, .bf16⟩
  | .hbm, ⟨15, _⟩ => ⟨S2048x2048, .f32⟩
  | .hbm, ⟨16, _⟩ => ⟨S8320x2048, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320x2048, .f32⟩
  | .hbm, ⟨24, _⟩ => ⟨S8320x2048, .f32⟩
  | .hbm, ⟨25, _⟩ => ⟨S1x256x2048, .f32⟩
  | .hbm, ⟨26, _⟩ => ⟨S256x2048, .f32⟩
  | .hbm, ⟨27, _⟩ => ⟨S8320x2048, .f32⟩
  | .hbm, ⟨28, _⟩ => ⟨S8320x2048, .f32⟩
  | .hbm, ⟨29, _⟩ => ⟨S_, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S1x1x2048, .f32⟩
  | .hbm, ⟨35, _⟩ => ⟨S2048, .f32⟩
  | .hbm, ⟨36, _⟩ => ⟨S1x1x2048, .f32⟩
  | .hbm, ⟨37, _⟩ => ⟨S2048, .f32⟩
  | .hbm, ⟨38, _⟩ => ⟨S_, .f32⟩
  | .hbm, ⟨39, _⟩ => ⟨S8320, .f32⟩
  | .hbm, ⟨40, _⟩ => ⟨S8320x1, .f32⟩
  | .hbm, ⟨41, _⟩ => ⟨S_, .f32⟩
  | .hbm, ⟨42, _⟩ => ⟨S8320x1, .f32⟩
  | .hbm, ⟨43, _⟩ => ⟨S8320x1, .f32⟩
  | .hbm, ⟨44, _⟩ => ⟨S8320x2048, .f32⟩
  | .hbm, ⟨45, _⟩ => ⟨S8320x2048, .f32⟩
  | .hbm, ⟨46, _⟩ => ⟨S8320x2048, .f32⟩
  | .hbm, ⟨47, _⟩ => ⟨S_, .f32⟩
  | .hbm, ⟨48, _⟩ => ⟨S8320, .f32⟩
  | .hbm, ⟨49, _⟩ => ⟨S8320x1, .f32⟩
  | .hbm, ⟨50, _⟩ => ⟨S_, .f32⟩
  | .hbm, ⟨51, _⟩ => ⟨S8320x1, .f32⟩
  | .hbm, ⟨52, _⟩ => ⟨S8320x1, .f32⟩
  | .hbm, ⟨53, _⟩ => ⟨S8320x2048, .f32⟩
  | .hbm, ⟨54, _⟩ => ⟨S8320x2048, .f32⟩
  | .hbm, ⟨55, _⟩ => ⟨S_, .f32⟩
  | .hbm, ⟨56, _⟩ => ⟨S8320x1, .f32⟩
  | .hbm, ⟨57, _⟩ => ⟨S8320x1, .f32⟩
  | .hbm, ⟨58, _⟩ => ⟨S8320x1, .f32⟩
  | .hbm, ⟨59, _⟩ => ⟨S8320x2048, .f32⟩
  | .hbm, ⟨60, _⟩ => ⟨S8320x2048, .f32⟩
  | .hbm, ⟨61, _⟩ => ⟨S1x2048, .f32⟩
  | .hbm, ⟨62, _⟩ => ⟨S8320x2048, .f32⟩
  | .hbm, ⟨63, _⟩ => ⟨S8320x2048, .f32⟩
  | .hbm, ⟨64, _⟩ => ⟨S1x2048, .f32⟩
  | .hbm, ⟨65, _⟩ => ⟨S8320x2048, .f32⟩
  | .hbm, ⟨66, _⟩ => ⟨S8320x2048, .f32⟩
  | .hbm, ⟨67, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.FfnBlock.lean ====
/- What one grid point of the feed-forward kernel adds to its output block, element by element, over
   extended reals: the sum over the point's 512 hidden features of
   `silu(gate projection) · up projection · routing weight · down projection`. -/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.FfnIdeal.Val

open Cert.FfnIdeal Cert.FfnIdeal.Gen Idealize.ShloMosaic Idealize.ShloMosaic.TcCoe Idealize.SL.Sem
open scoped BigOperators

variable (m : (ℓ : Loc nD τ sig) → Buf (Elt Ideal) ℓ)

/-- `g · logistic(g)` over extended reals. -/
def silu (g : EReal) : EReal := g * Ideal.logistic g

/-- Row `t` of the activations against column `f` of expert `e`'s gate (`W` = argument 2) or up
    (`W` = argument 3) weights. -/
def proj (x : FVec Ideal S8320x2048 .bf16) (W : FVec Ideal S8x2048x5632 .f32) (t : Fin 8320) (e : Fin 8) (f : Fin 5632) : EReal :=
  ∑ k : Fin 2048, x (ix2 t k) * W (ix3 e k f)

/-- Hidden feature `f` of expert `e` for token `t`. -/
def hidden (x : FVec Ideal S8320x2048 .bf16) (wg wu : FVec Ideal S8x2048x5632 .f32) (t : Fin 8320) (e : Fin 8) (f : Fin 5632) : EReal :=
  silu (proj x wg t e f) * proj x wu t e f

/-- One hidden feature's contribution to the output, the routing weight inside as the kernel has it. -/
def contrib (x : FVec Ideal S8320x2048 .bf16) (g : FVec Ideal S8320x128 .f32) (wg wu : FVec Ideal S8x2048x5632 .f32)
    (wd : FVec Ideal S8x5632x2048 .f32) (t : Fin 8320) (d : Fin 2048) (e : Fin 8) (f : Fin 5632) : EReal :=
  hidden x wg wu t e f * g (ix2 t ⟨e.val, by omega⟩) * wd (ix3 e f d)

/-- Selecting the lane whose number is `e` and summing the 128 lanes reads lane `e`. -/
theorem lane_sum (v : Fin 128 → EReal) (p : ℕ) (e : Fin 8) (he : p = e.val) :
    ∑ k : Fin 128, Scalar.select (IntOp.cmpi CmpIPredicate.eq (BitVec.ofNat 32 ↑k) (BitVec.ofNat 32 p)) (v k) (0 : EReal)
      = v ⟨e.val, by omega⟩ := by
  subst he
  rw [Finset.sum_eq_single (⟨e.val, by omega⟩ : Fin 128)]
  · simp [Scalar.select, IntOp.cmpi]
  · intro b _ hb
    have hne : ¬ BitVec.ofNat 32 b.val = BitVec.ofNat 32 e.val := by
      intro h
      have h' := congrArg BitVec.toNat h
      simp only [BitVec.toNat_ofNat] at h'
      apply hb; apply Fin.ext
      have := b.isLt; have := e.isLt
      show b.val = e.val
      omega
    simp [Scalar.select, IntOp.cmpi, beq_eq_false_iff_ne.mpr hne]
  · simp

theorem step_at (i : grid0.Coords) (acc : Vec Ideal S832x2048 .f32) (x : Vec Ideal S832x2048 .bf16)
    (gt : Vec Ideal S832x128 .f32) (wg wu : Vec Ideal S1x2048x512 .f32) (wd : Vec Ideal S1x512x2048 .f32)
    (r : Fin 832) (d : Fin 2048) (e : Fin 8) (he : (i 1).val = e.val) :
    k0_pay1 (k0_pay3 i x wg wu gt) (k0_pay4 acc) (k0_pay5 wd) (constant S832x2048 .f32 0x00000000#32) (ix2 r d)
      = acc (ix2 r d) + ∑ f : Fin 512, silu (∑ k : Fin 2048, x (ix2 r k) * wg (ix3 0 k f))
          * (∑ k : Fin 2048, x (ix2 r k) * wu (ix3 0 k f)) * gt (ix2 r ⟨e.val, by omega⟩) * wd (ix3 0 f d) := by
  have h := lane_sum (fun k => gt (ix2 r k)) _ e he
  pointwise [k0_pay1, k0_pay3, k0_pay4, k0_pay5]
  simp only [silu]
  rw [h]

/-- The block indices of the six windows at grid point `t` = (token tile, expert, hidden tile). -/
theorem idx_at : ∀ t : Fin cfg0.N,
    win0_0.index t = ![t.val / 88, 0] ∧ win0_1.index t = ![t.val / 88, 0]
    ∧ win0_2.index t = ![t.val / 11 % 8, 0, t.val % 11] ∧ win0_3.index t = ![t.val / 11 % 8, 0, t.val % 11]
    ∧ win0_4.index t = ![t.val / 11 % 8, t.val % 11, 0] ∧ (grid0.coords t 1).val = t.val / 11 % 8 :=
  (by decide +kernel : ∀ t : Fin grid0.N, _)

/-- The addend of point `n` at element `(r, d)` of its block. -/
def addend (c : Dev nD) (n : ℕ) (j : S832x2048.Idx) : EReal :=
  ∑ f : Fin 512, contrib (m (c.tc.loc main_arg0)) (m (c.tc.loc main_arg1)) (m (c.tc.loc main_arg2)) (m (c.tc.loc main_arg3))
    (m (c.tc.loc main_arg4)) ⟨(832 * (n / 88) + (j 0).val) % 8320, Nat.mod_lt _ (by decide)⟩ (j 1)
    ⟨n / 11 % 8, Nat.mod_lt _ (by decide)⟩ ⟨n % 11 * 512 + f.val, by have := f.isLt; omega⟩

/-- Token `r` of point `n`'s tile. -/
abbrev tokOf (n : ℕ) (r : Fin 832) : Fin 8320 := ⟨(832 * (n / 88) + r.val) % 8320, Nat.mod_lt _ (by decide)⟩
/-- The expert of point `n`. -/
abbrev expOf (n : ℕ) : Fin 8 := ⟨n / 11 % 8, Nat.mod_lt _ (by decide)⟩
/-- Hidden feature `f` of point `n`'s tile. -/
abbrev featOf (n : ℕ) (f : Fin 512) : Fin 5632 := ⟨n % 11 * 512 + f.val, by have := f.isLt; omega⟩

section reads
variable (c : Dev nD) (n : ℕ) (h : n < cfg0.N)

theorem read_x (r : Fin 832) (k : Fin 2048) :
    iblk m c 0 ⟨n, h⟩ (ix2 r k) = m (c.tc.loc main_arg0) (ix2 (tokOf n r) k) := by
  have e := (idx_at ⟨n, h⟩).1
  have hN : n < 880 := lt_of_lt_of_eq h N_0
  blk_ext [iblk, V, e]

theorem read_g (r : Fin 832) (k : Fin 128) :
    iblk m c 1 ⟨n, h⟩ (ix2 r k) = m (c.tc.loc main_arg1) (ix2 (tokOf n r) k) := by
  have e := (idx_at ⟨n, h⟩).2.1
  have hN : n < 880 := lt_of_lt_of_eq h N_0
  blk_ext [iblk, V, e]

theorem read_wg (k : Fin 2048) (f : Fin 512) :
    iblk m c 2 ⟨n, h⟩ (ix3 0 k f) = m (c.tc.loc main_arg2) (ix3 (expOf n) k (featOf n f)) := by
  have e := (idx_at ⟨n, h⟩).2.2.1
  blk_ext [iblk, V, e]

theorem read_wu (k : Fin 2048) (f : Fin 512) :
    iblk m c 3 ⟨n, h⟩ (ix3 0 k f) = m (c.tc.loc main_arg3) (ix3 (expOf n) k (featOf n f)) := by
  have e := (idx_at ⟨n, h⟩).2.2.2.1
  blk_ext [iblk, V, e]

theorem read_wd (f : Fin 512) (d : Fin 2048) :
    iblk m c 4 ⟨n, h⟩ (ix3 0 f d) = m (c.tc.loc main_arg4) (ix3 (expOf n) (featOf n f) d) := by
  have e := (idx_at ⟨n, h⟩).2.2.2.2.1
  blk_ext [iblk, V, e]

end reads

theorem point_at (c : Dev nD) (n : ℕ) (h : n < cfg0.N) (acc : Vec Ideal S832x2048 .f32) (j : S832x2048.Idx) :
    Value.step5 m c n h acc j = acc j + addend m c n j := by
  obtain ⟨r, d, rfl⟩ : ∃ (r : Fin 832) (d : Fin 2048), j = ix2 r d := ⟨j 0, j 1, eq_ix2 j⟩
  unfold Value.step5
  refine (step_at _ _ _ _ _ _ _ r d (expOf n) (idx_at ⟨n, h⟩).2.2.2.2.2).trans (congrArg (acc (ix2 r d) + ·) ?_)
  refine Finset.sum_congr rfl fun f _ => ?_
  rw [read_g, read_wd]
  simp only [read_x, read_wg, read_wu]
  rfl

theorem reset_at (c : Dev nD) (n : ℕ) (h : n < cfg0.N) (j : S832x2048.Idx) :
    Value.reset5 m c n h j = 0 + addend m c n j := by
  have hz : (k0_pay2 (F := Ideal)) j = 0 := by pointwise [k0_pay2]
  rw [← hz]
  exact point_at m c n h _ j

/-- The kernel's result at token `t`, output feature `d`: the contributions of all experts' hidden features. -/
theorem result_at (c : Dev nD) (t : Fin 8320) (d : Fin 2048) :
    Value.G5 m c (ix2 t d) = ∑ e : Fin 8, ∑ f : Fin 5632,
      contrib (m (c.tc.loc main_arg0)) (m (c.tc.loc main_arg1)) (m (c.tc.loc main_arg2)) (m (c.tc.loc main_arg3))
        (m (c.tc.loc main_arg4)) t d e f := by
  have ht := t.isLt
  have hd := d.isLt
  have hrun : Value.run5Of (ix2 t d) = t.val / 832 := by
    show 1 * (t.val / 832 - 0) + 1 * (d.val / 2048 - 0) = _
    omega
  have hN : (cfg0.N : ℕ) = 880 := N_0
  unfold Value.G5
  rw [dif_pos (by rw [hrun, hN]; omega)]
  rw [Pipeline.accAt_add_apply (Value.reset5 m c) (Value.step5 m c) (fun _ => 0) (addend m c) _ 87
    (fun h i => reset_at m c _ h i) (fun n h acc i _ _ => point_at m c n h acc i) 87 le_rfl]
  rw [zero_add, ← Fin.sum_univ_eq_sum_range (fun s => addend m c (88 * Value.run5Of (ix2 t d) + s) (Value.loc5Of (ix2 t d)))]
  unfold addend
  rw [hrun]
  refine Fin.sum_points_lanes_congr 11 fun s f ha hl => ?_
  have hs := s.isLt
  have hf := f.isLt
  congr 1
  · apply Fin.ext
    show (832 * ((88 * (t.val / 832) + s.val) / 88) + t.val % 832) % 8320 = t.val
    omega
  · apply Fin.ext
    show d.val % 2048 = d.val
    omega
  · apply Fin.ext
    show (88 * (t.val / 832) + s.val) / 11 % 8 = s.val / 11
    omega
  · apply Fin.ext
    show (88 * (t.val / 832) + s.val) % 11 * 512 + f.val = s.val % 11 * 512 + f.val
    omega

end Cert.FfnIdeal.Val

end
-- ==== Proof.FfnEquation.lean ====
/- The feed-forward reference at an element, and its equality with the kernel's sum where every
   routing weight is finite and not negative. -/
module

public import proofs.«01_k».proof.Proof.FfnBlock
public import proofs.«01_k».proof.Proof.Gen.FfnReferenceIdeal.Run

@[expose] public section

set_option maxRecDepth 16384

noncomputable section

namespace Cert.FfnIdeal.Val

open Cert.FfnReferenceIdeal Cert.FfnReferenceIdeal.Gen Idealize.ShloMosaic Idealize.ShloMosaic.TcCoe Idealize.SL.Sem
open scoped BigOperators

/-- A finite factor that is not negative moves inside a sum of extended reals. -/
theorem mul_sum_of_nonneg {ι : Type*} (s : Finset ι) (c : EReal) (h0 : 0 ≤ c) (h1 : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

theorem reference_at (x : FVec Ideal S8320x2048 .bf16) (g : FVec Ideal S8320x128 .f32) (wg wu : FVec Ideal S8x2048x5632 .f32)
    (wd : FVec Ideal S8x5632x2048 .f32) (t : Fin 8320) (d : Fin 2048) :
    (Host.reduceAdd (mulf (broadcastInDim S8x8320x2048 ![0, 1, 2] bcast_S8x8320x1_S8x8320x2048_0_1_2 (broadcastInDim S8x8320x1 ![0, 1] bcast_S8x8320_S8x8320x1_0_1 (transpose S8x8320 [1, 0] (extractStridedSlice S8320x8 ![0, 0] g slices_S8320x128_S8320x8_0_0) transposes_S8320x8_S8x8320_1_0))) (Host.dotGeneral dot_S8x8320x5632_S8x5632x2048_S8x8320x2048_2_1_1_2_0_0 none (mulf (mulf (transpose S8x8320x5632 [0, 2, 1] (Host.dotGeneral dot_S8x2048x5632_S8320x2048_S8x5632x8320_1_1_02_0_n_n none wg (extf .f32 x bitsLt_bf16_f32)) transposes_S8x5632x8320_S8x8320x5632_0_2_1) (Host.divf (broadcastInDim S8x8320x5632 ![] bcast_S_S8x8320x5632 (constant S_ .f32 0x3F800000#32)) (addf (broadcastInDim S8x8320x5632 ![] bcast_S_S8x8320x5632 (constant S_ .f32 0x3F800000#32)) (Host.exp (Host.negf (transpose S8x8320x5632 [0, 2, 1] (Host.dotGeneral dot_S8x2048x5632_S8320x2048_S8x5632x8320_1_1_02_0_n_n none wg (extf .f32 x bitsLt_bf16_f32)) transposes_S8x5632x8320_S8x8320x5632_0_2_1)))))) (transpose S8x8320x5632 [0, 2, 1] (Host.dotGeneral dot_S8x2048x5632_S8320x2048_S8x5632x8320_1_1_02_0_n_n none wu (extf .f32 x bitsLt_bf16_f32)) transposes_S8x5632x8320_S8x8320x5632_0_2_1)) wd)) (constant S_ .f32 0x00000000#32) reducesTo_S8x8320x2048_S8320x2048_d0 h_S_ : FVec Ideal S8320x2048 .f32) (ix2 t d)
      = ∑ e : Fin 8, g (ix2 t ⟨e.val, by omega⟩) * ∑ f : Fin 5632, hidden x wg wu t e f * wd (ix3 e f d) := by
  pointwise
  refine Finset.sum_congr rfl fun e _ => ?_
  congr 1
  refine Finset.sum_congr rfl fun f _ => ?_
  have hp : ∀ w : FVec Ideal S8x2048x5632 .f32, ∑ k : Fin 2048, w (ix3 e k f) * x (ix2 t k) = proj x w t e f :=
    fun w => Finset.sum_congr rfl fun k _ => mul_comm _ _
  rw [hp wg, hp wu]
  rfl

/-- One expert's sum: the routing weight may stand inside or outside. -/
theorem expert_sum (x : FVec Ideal S8320x2048 .bf16) (g : FVec Ideal S8320x128 .f32) (wg wu : FVec Ideal S8x2048x5632 .f32)
    (wd : FVec Ideal S8x5632x2048 .f32) (t : Fin 8320) (d : Fin 2048) (e : Fin 8)
    (h0 : 0 ≤ g (ix2 t ⟨e.val, by omega⟩)) (h1 : g (ix2 t ⟨e.val, by omega⟩) ≠ ⊤) :
    ∑ f : Fin 5632, contrib x g wg wu wd t d e f
      = g (ix2 t ⟨e.val, by omega⟩) * ∑ f : Fin 5632, hidden x wg wu t e f * wd (ix3 e f d) := by
  rw [mul_sum_of_nonneg _ _ h0 h1]
  refine Finset.sum_congr rfl fun f _ => ?_
  unfold contrib
  rw [mul_comm (hidden x wg wu t e f), mul_assoc]

/-- All the experts' sums. -/
theorem experts_sum (x : FVec Ideal S8320x2048 .bf16) (g : FVec Ideal S8320x128 .f32) (wg wu : FVec Ideal S8x2048x5632 .f32)
    (wd : FVec Ideal S8x5632x2048 .f32) (t : Fin 8320) (d : Fin 2048)
    (h : ∀ e : Fin 8, 0 ≤ g (ix2 t (⟨e.val, by omega⟩ : Fin 128)) ∧ g (ix2 t (⟨e.val, by omega⟩ : Fin 128)) ≠ ⊤) :
    ∑ e : Fin 8, ∑ f : Fin 5632, contrib x g wg wu wd t d e f
      = ∑ e : Fin 8, g (ix2 t ⟨e.val, by omega⟩) * ∑ f : Fin 5632, hidden x wg wu t e f * wd (ix3 e f d) :=
  Finset.sum_congr rfl fun e _ => expert_sum x g wg wu wd t d e (h e).1 (h e).2

end Cert.FfnIdeal.Val

end
-- ==== Proof.FfnClaims.lean ====
/- The claims about the feed-forward call: every argument unchanged and every counter back at zero for
   the kernel, its idealization and its reference, and the two results equal over extended reals. -/
module

public import proofs.«01_k».proof.Defs
public import proofs.«01_k».proof.Proof.FfnEquation
public import proofs.«01_k».proof.Proof.Gen.Ffn.Frame
public import proofs.«01_k».proof.Proof.Gen.Pre_gates_ok
public import Idealize.ShloMosaic.Lib.Claim

@[expose] public section

set_option maxRecDepth 16384

noncomputable section

namespace Cert.FfnIdeal.Val

open Idealize.ShloMosaic Idealize.ShloMosaic.TcCoe Idealize.SL.Sem
open scoped BigOperators

/-- The pattern of positive infinity denotes the top extended real. -/
theorem ofBits_inf : Ideal.ofBits .f32 0x7F800000#32 = ⊤ := by
  simp [Ideal.ofBits, Ideal.ieee]

/-- What the precondition says of one routing weight. -/
theorem gates_of_pre {x : FVec Ideal Cert.Pre_gates_ok.S8320x2048 .bf16} {g : FVec Ideal Cert.Pre_gates_ok.S8320x128 .f32}
    {wg wu : FVec Ideal Cert.Pre_gates_ok.S8x2048x5632 .f32} {wd : FVec Ideal Cert.Pre_gates_ok.S8x5632x2048 .f32}
    (h : Cert.Pre_gates_ok.fn (F := Ideal) x g wg wu wd = fun _ => 1#1) (t : Fin 8320) (e : Fin 8) :
    0 ≤ g (ix2 t (⟨e.val, by omega⟩ : Fin 128)) ∧ g (ix2 t (⟨e.val, by omega⟩ : Fin 128)) ≠ ⊤ := by
  have h' := congrFun h (ix2 t e)
  pointwise [Cert.Pre_gates_ok.fn] at h'
  rw [ofBits_inf] at h'
  generalize g (ix2 t (⟨e.val, by omega⟩ : Fin 128)) = y at h' ⊢
  by_cases h0 : (0 : EReal) ≤ y
  · by_cases h1 : y < ⊤
    · exact ⟨h0, h1.ne⟩
    · simp [h0, h1, IntOp.andi] at h'
  · simp [h0, IntOp.andi] at h'

theorem quiescent_P : Cert.quiescent_Ffn := fun m ρ _ => Cert.Ffn.Gen.frame m ρ
theorem quiescent_PI : Cert.quiescent_FfnIdeal := fun m ρ _ => Cert.FfnIdeal.Gen.frame m ρ
theorem quiescent_PI_pre : Cert.quiescent_FfnIdeal_pre_gates_ok := fun m ρ _ => Cert.FfnIdeal.Gen.frame m ρ
theorem quiescent_RI : Cert.quiescent_FfnReferenceIdeal := by
  intro m ρ _
  exact (θ_run _ _ _).mono (fun r h => ⟨fun c => (h c).2, sem_eq_zero_of_no_sems (by decide) r.2⟩)
    (Cert.FfnReferenceIdeal.Value.run m ρ)
theorem quiescent_RI_pre : Cert.quiescent_FfnReferenceIdeal_pre_gates_ok := fun m g _ => quiescent_RI m g trivial

theorem results_equal : Cert.algebraic_FfnIdeal_FfnReferenceIdeal_pre_gates_ok := by
  intro m ρ m' ρ' hpre hag
  refine ⟨fun c => Cert.FfnIdeal.Value.G5 m c, Cert.FfnIdeal.Value.run m ρ,
    (θ_run _ _ _).mono (fun _ h c => ⟨(h c).1.trans ?_, (h c).2⟩) (Cert.FfnReferenceIdeal.Value.run m' ρ')⟩
  obtain ⟨h0, h1, h2, h3, h4⟩ := hag c
  rw [h0, h1, h2, h3, h4]
  funext i
  obtain ⟨t, d, rfl⟩ : ∃ (t : Fin 8320) (d : Fin 2048), i = ix2 t d := ⟨i 0, i 1, eq_ix2 i⟩
  refine (reference_at _ _ _ _ _ t d).trans ((result_at m c t d).trans ?_).symm
  exact experts_sum _ _ _ _ _ t d fun e => gates_of_pre (hpre c) t e

end Cert.FfnIdeal.Val

end
-- ==== Proof.SbBody.lean ====
/- One grid point of the stick-breaking attention of the prompt: the body's triple in its two cases (the query block's
   position in the sequence odd or even), the piece it leaves in the output's buffer being what the run finds. -/
module

public import proofs.«01_k».proof.Proof.Gen.KernelIdeal.Frame
public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 4000000 in
/-- The body at a query block of odd position: one older block is read before the pairs. -/
noncomputable def runOdd (c : Dev nD) (i : grid0.Coords) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (hc : k0_cond1 i = 1#1) (x0 : Vec F S2x8 .f32) (x1 : Vec F S512x128 .f32)
    (x2 x3 : Vec F S4096x128 .f32) (x4 : Vec F S1x1x128 .f32) :
    { L : List (View.Piece (Elt F) S512x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ (∃ d, owns (c : Thread nD τ) arg8 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E
              (cc0_sb_prompt i arg3 harg3 arg4 harg4 arg5 harg5 arg6 harg6 arg7 harg7 arg8 harg8) K } := by
  refine ⟨?_, fun E K => ?run⟩
  case run =>
    simp only [cc0_sb_prompt_eq_skeleton]; unfold cc0_sb_prompt_skel
    simp only [k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 4000000 in
/-- The body at a query block of even position: the older blocks are read in pairs. -/
noncomputable def runEven (c : Dev nD) (i : grid0.Coords) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (hc : ¬k0_cond1 i = 1#1) (x0 : Vec F S2x8 .f32) (x1 : Vec F S512x128 .f32)
    (x2 x3 : Vec F S4096x128 .f32) (x4 : Vec F S1x1x128 .f32) :
    { L : List (View.Piece (Elt F) S512x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ (∃ d, owns (c : Thread nD τ) arg8 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E
              (cc0_sb_prompt i arg3 harg3 arg4 harg4 arg5 harg5 arg6 harg6 arg7 harg7 arg8 harg8) K } := by
  refine ⟨?_, fun E K => ?run⟩
  case run =>
    simp only [cc0_sb_prompt_eq_skeleton]; unfold cc0_sb_prompt_skel
    simp only [k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Sb

end
-- ==== Proof.SbFrame.lean ====
/- The stick-breaking attention's launch: what each grid point leaves in the output's buffer, the pipeline's proof data
   over it, the body obligation at every point, the run, and the frame. -/
module

public import proofs.«01_k».proof.Proof.SbBody
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the output's buffer -/

/-- The pieces the body leaves at point `t`, by the parity of the query block's position. -/
def pieces (c : Dev nD) (t : Fin cfg0.N) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (x0 : Vec F S2x8 .f32) (x1 : Vec F S512x128 .f32)
    (x2 x3 : Vec F S4096x128 .f32) (x4 : Vec F S1x1x128 .f32) : List (View.Piece (Elt F) S512x128 .f32) :=
  if hc : k0_cond1 (grid0.coords t) = 1#1 then
    (runOdd c (grid0.coords t) arg3 harg3 arg4 harg4 arg5 harg5 arg6 harg6 arg7 harg7 arg8 harg8 hc x0 x1 x2 x3 x4).1
  else
    (runEven c (grid0.coords t) arg3 harg3 arg4 harg4 arg5 harg5 arg6 harg6 arg7 harg7 arg8 harg8 hc x0 x1 x2 x3 x4).1

/-- The one store of the body covers the output's block. -/
theorem pieces_cover (c : Dev nD) (t : Fin cfg0.N) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (x0 : Vec F S2x8 .f32) (x1 : Vec F S512x128 .f32)
    (x2 x3 : Vec F S4096x128 .f32) (x4 : Vec F S1x1x128 .f32) (y : S512x128.Idx) :
    ∃ pc ∈ pieces c t arg3 harg3 arg4 harg4 arg5 harg5 arg6 harg6 arg7 harg7 arg8 harg8 x0 x1 x2 x3 x4, y ∈ pc.1.set := by
  unfold pieces
  split_ifs with hc
  · exact View.cover_of_tiledL (runOdd c (grid0.coords t) arg3 harg3 arg4 harg4 arg5 harg5 arg6 harg6 arg7 harg7 arg8 harg8 hc x0 x1 x2 x3 x4).1
      S512x128.size (by sl_kernel_rfl) y
  · exact View.cover_of_tiledL (runEven c (grid0.coords t) arg3 harg3 arg4 harg4 arg5 harg5 arg6 harg6 arg7 harg7 arg8 harg8 hc x0 x1 x2 x3 x4).1
      S512x128.size (by sl_kernel_rfl) y

/-- The view the output's contents are read through, any whole buffer of the block's shape doing. -/
abbrev outView : View sig .tc .vmem S512x128 .f32 := (Memref.whole cc0_stg5_0 : Memref sig .tc .vmem S512x128 .f32).view

abbrev ms0 (t : Fin cfg0.N) : Memref sig .tc .smem S2x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)

/-- What the output's buffer holds after the body at point `t`. -/
def outAt (c : Dev nD) (t : Fin cfg0.N) : Vec F S512x128 .f32 :=
  outView.read (Elt F) (outView.writes (Elt F) outView.junk
    (pieces c t (ms0 t) (hs0 t) (ms1 t) (hs1 t) (ms2 t) (hs2 t) (ms3 t) (hs3 t) (ms4 t) (hs4 t) (ms5 t) (hs5 t)
      (iblk m c 0 t) (X0_1 m c t) (iblk m c 2 t) (iblk m c 3 t) (iblk m c 4 t)))

/-! ## The pipeline's proof data -/

/-- The arrays as the region finds them, the inputs' buffers left at their blocks, the output's at `outAt`; the keys
    and the values are one array read by two windows, each at its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => outAt m c t
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at every point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body's triple at the pieces `pieces`, whichever case the point is in. -/
theorem run_pieces (c : Dev nD) (t : Fin cfg0.N) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (x0 : Vec F S2x8 .f32) (x1 : Vec F S512x128 .f32)
    (x2 x3 : Vec F S4096x128 .f32) (x4 : Vec F S1x1x128 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ (∃ f, arg8.view.loc (c : Thread nD τ) ↦[arg8.view.set]{fullShare} arg8.view.writes (Elt F) f
                (pieces c t arg3 harg3 arg4 harg4 arg5 harg5 arg6 harg6 arg7 harg7 arg8 harg8 x0 x1 x2 x3 x4))) -∗ K ⟨⟩))
      ⊢ wp frame (wpE (defs₀ (F := F)) Variants.none c none) E
          (cc0_sb_prompt (grid0.coords t) arg3 harg3 arg4 harg4 arg5 harg5 arg6 harg6 arg7 harg7 arg8 harg8) K := by
  unfold pieces
  split_ifs with hc
  · exact (runOdd c (grid0.coords t) arg3 harg3 arg4 harg4 arg5 harg5 arg6 harg6 arg7 harg7 arg8 harg8 hc x0 x1 x2 x3 x4).2 E K
  · exact (runEven c (grid0.coords t) arg3 harg3 arg4 harg4 arg5 harg5 arg6 harg6 arg7 harg7 arg8 harg8 hc x0 x1 x2 x3 x4).2 E K

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  unfold outAt
  iintro ⟨HΦ, Ho, ⟨%d0, H0⟩, ⟨%d1, H1⟩, ⟨%d2, H2⟩, ⟨%d3, H3⟩, ⟨%d4, H4⟩, ⟨%d5, H5⟩⟩
  iapply (run_pieces c t _ _ _ _ _ _ _ _ _ _ _ _ (iblk m c 0 t) (X0_1 m c t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (pieces_cover c t _ _ _ _ _ _ _ _ _ _ _ _ _ _ _ _ _)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- Every array ends at what the proof data computes, every other buffer as launched, every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Sb

end
-- ==== Proof.SbStep.lean ====
/- What the body of the stick-breaking attention computes, block by block: a visit of a key block (`visit`), the
   diagonal block's visit (`diagonal`), the visits of the older blocks one after the other (`visited`), and the piece
   the body stores in terms of them (`pieces_eq`): the loop over pairs of blocks and the odd block before it are one
   chain of visits, the newest block first. -/
module

public import proofs.«01_k».proof.Proof.SbFrame
public import Idealize.ShloMosaic.Lib.WholeRead
public import Idealize.ShloMosaic.Lib.Pointwise

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open Idealize.SL.Sem
open Cert.KernelIdeal.Gen

variable {F : FTy → Type} [FloatOps F]

/-! ## A visit -/

/-- The scores of a block: queries (already scaled) against keys, plus the head's bias. -/
def scores (q : FVec F S512x128 .bf16) (b : Elt F .f32) (k : Vec F S512x128 .f32) : FVec F S512x512 .f32 :=
  addf (matmul dot_S512x128_S512x128_S512x512_1_1_0_0_n_n none q (truncf .bf16 k bitsLt_bf16_f32)
    (constant S512x512 .f32 0x00000000#32)) (broadcast S512x512 b)

/-- What a score spends of the stick. -/
def spend (z : FVec F S512x512 .f32) : FVec F S512x512 .f32 :=
  addf (maximumf z (broadcast S512x512 (Scalar.ofBits .f32 0x00000000#32)))
    (log (addf (broadcast S512x512 (Scalar.ofBits .f32 0x3F800000#32))
      (exp (subf (broadcast S512x512 (Scalar.ofBits .f32 0x00000000#32)) (absf z)))))

/-- The four tiles of 128 columns, one under the other. -/
def stack (x : FVec F S512x512 .bf16) : FVec F S2048x128 .bf16 :=
  concatenate S2048x128 0 [⟨S512x128, extractStridedSlice S512x128 ![0, 0] x slices_S512x512_o0_0_S512x128⟩,
    ⟨S512x128, extractStridedSlice S512x128 ![0, 128] x slices_S512x512_o0_128_S512x128⟩,
    ⟨S512x128, extractStridedSlice S512x128 ![0, 256] x slices_S512x512_o0_256_S512x128⟩,
    ⟨S512x128, extractStridedSlice S512x128 ![0, 384] x slices_S512x512_o0_384_S512x128⟩]
    concatenates_S512x128_S512x128_S512x128_S512x128_S2048x128_d0

/-- Each tile's suffix sums (left half) and totals (right half), the spends taken as a rounding and a rest. -/
def sums (mat : FVec F S128x256 .bf16) (s : FVec F S512x512 .f32) : FVec F S2048x256 .f32 :=
  matmul dot_S2048x256_S256x256_S2048x256_1_0_0_1_n_n none
    (concatenate S2048x256 1 [⟨S2048x128, stack (truncf .bf16 s bitsLt_bf16_f32)⟩,
      ⟨S2048x128, stack (truncf .bf16 (subf s (extf .f32 (truncf .bf16 s bitsLt_bf16_f32) bitsLt_bf16_f32)) bitsLt_bf16_f32)⟩]
      concatenates_S2048x128_S2048x128_S2048x256_d1)
    (concatenate S256x256 0 [⟨S128x256, mat⟩, ⟨S128x256, mat⟩] concatenates_S128x256_S128x256_S256x256_d0)
    (constant S2048x256 .f32 0x00000000#32)

/-- Tile `c`'s sums. -/
def tile3 (u : FVec F S2048x256 .f32) : FVec F S512x256 .f32 := extractStridedSlice S512x256 ![1536, 0] u slices_S2048x256_o1536_0_S512x256
def tile2 (u : FVec F S2048x256 .f32) : FVec F S512x256 .f32 := extractStridedSlice S512x256 ![1024, 0] u slices_S2048x256_o1024_0_S512x256
def tile1 (u : FVec F S2048x256 .f32) : FVec F S512x256 .f32 := extractStridedSlice S512x256 ![512, 0] u slices_S2048x256_o512_0_S512x256
def tile0 (u : FVec F S2048x256 .f32) : FVec F S512x256 .f32 := extractStridedSlice S512x256 ![0, 0] u slices_S2048x256_o0_0_S512x256
def suffix (u : FVec F S512x256 .f32) : FVec F S512x128 .f32 := extractStridedSlice S512x128 ![0, 0] u slices_S512x256_o0_0_S512x128
def total (u : FVec F S512x256 .f32) : FVec F S512x128 .f32 := extractStridedSlice S512x128 ![0, 128] u slices_S512x256_o0_128_S512x128

/-- What is spent after tiles 3, 2, 1 and 0 in turn. -/
def spent3 (r : FVec F S512x128 .f32) (u : FVec F S2048x256 .f32) : FVec F S512x128 .f32 := addf r (total (tile3 u))
def spent2 (r : FVec F S512x128 .f32) (u : FVec F S2048x256 .f32) : FVec F S512x128 .f32 := addf (spent3 r u) (total (tile2 u))
def spent1 (r : FVec F S512x128 .f32) (u : FVec F S2048x256 .f32) : FVec F S512x128 .f32 := addf (spent2 r u) (total (tile1 u))
def spent0 (r : FVec F S512x128 .f32) (u : FVec F S2048x256 .f32) : FVec F S512x128 .f32 := addf (spent1 r u) (total (tile0 u))

/-- The block's weights. -/
def weights (z s : FVec F S512x512 .f32) (u : FVec F S2048x256 .f32) (r : FVec F S512x128 .f32) : FVec F S512x512 .f32 :=
  concatenate S512x512 1 [
    ⟨S512x128, exp (subf (subf (subf (extractStridedSlice S512x128 ![0, 0] z slices_S512x512_o0_0_S512x128)
      (extractStridedSlice S512x128 ![0, 0] s slices_S512x512_o0_0_S512x128)) (suffix (tile0 u))) (spent1 r u))⟩,
    ⟨S512x128, exp (subf (subf (subf (extractStridedSlice S512x128 ![0, 128] z slices_S512x512_o0_128_S512x128)
      (extractStridedSlice S512x128 ![0, 128] s slices_S512x512_o0_128_S512x128)) (suffix (tile1 u))) (spent2 r u))⟩,
    ⟨S512x128, exp (subf (subf (subf (extractStridedSlice S512x128 ![0, 256] z slices_S512x512_o0_256_S512x128)
      (extractStridedSlice S512x128 ![0, 256] s slices_S512x512_o0_256_S512x128)) (suffix (tile2 u))) (spent3 r u))⟩,
    ⟨S512x128, exp (subf (subf (subf (extractStridedSlice S512x128 ![0, 384] z slices_S512x512_o0_384_S512x128)
      (extractStridedSlice S512x128 ![0, 384] s slices_S512x512_o0_384_S512x128)) (suffix (tile3 u))) r)⟩]
    concatenates_S512x128_S512x128_S512x128_S512x128_S512x512_d1

/-- The weighted values, added to what is accumulated. -/
def gather (w : FVec F S512x512 .f32) (v : Vec F S512x128 .f32) (a : FVec F S512x128 .f32) : FVec F S512x128 .f32 :=
  addf a (matmul dot_S512x512_S512x128_S512x128_1_0_0_1_n_n none (truncf .bf16 w bitsLt_bf16_f32)
    (truncf .bf16 v bitsLt_bf16_f32) (constant S512x128 .f32 0x00000000#32))

/-- A visit of an older block, from what is spent and what is accumulated. -/
def visit (q : FVec F S512x128 .bf16) (b : Elt F .f32) (mat : FVec F S128x256 .bf16) (k v : Vec F S512x128 .f32)
    (ra : FVec F S512x128 .f32 × FVec F S512x128 .f32) : FVec F S512x128 .f32 × FVec F S512x128 .f32 :=
  (spent0 ra.1 (sums mat (spend (scores q b k))),
    gather (weights (scores q b k) (spend (scores q b k)) (sums mat (spend (scores q b k))) ra.1) v ra.2)

/-- The spends of the diagonal block, a column past its row spending nothing. -/
def maskedSpend (z : FVec F S512x512 .f32) : FVec F S512x512 .f32 := select k0_pay83 (spend z) k0_pay87

/-- The visit of the diagonal block, which comes first. -/
def diagonal (q : FVec F S512x128 .bf16) (b : Elt F .f32) (mat : FVec F S128x256 .bf16) (k v : Vec F S512x128 .f32) :
    FVec F S512x128 .f32 × FVec F S512x128 .f32 :=
  (spent0 k0_pay81 (sums mat (maskedSpend (scores q b k))),
    gather (select k0_pay83 (weights (scores q b k) (spend (scores q b k)) (sums mat (maskedSpend (scores q b k))) k0_pay81)
      (broadcast S512x512 (Scalar.ofBits .f32 0x00000000#32))) v k0_pay82)

/-! ## The chain of visits -/

/-- Block `j`'s 512 rows of a sequence's 4096. -/
def rows (x : Vec F S4096x128 .f32) (j : ℕ) : Vec F S512x128 .f32 := fun p =>
  x (fun a => ⟨(![512 * j, 0] a + (p a).val) % S4096x128.size a, Nat.mod_lt _ (by revert a; decide)⟩)

/-- What is spent and accumulated after block `i` and the `n` blocks before it. -/
def visited (q : FVec F S512x128 .bf16) (b : Elt F .f32) (mat : FVec F S128x256 .bf16) (k v : Vec F S4096x128 .f32) (i : ℕ) :
    ℕ → FVec F S512x128 .f32 × FVec F S512x128 .f32
  | 0 => diagonal q b mat (rows k i) (rows v i)
  | n + 1 => visit q b mat (rows k (i - n - 1)) (rows v (i - n - 1)) (visited q b mat k v i n)

/-- A load of 512 rows from a whole buffer. -/
theorem load_rows (m : Memref sig .tc .vmem S4096x128 .f32) (h : m.IsWhole) (x : Vec F S4096x128 .f32)
    (off : Fin 2 → ℕ) (j : ℕ) (ho : off = ![512 * j, 0]) (hb : ∀ a, off a + S512x128.size a ≤ S4096x128.size a) :
    View.readAt (Elt F) m.view (Rect.unit (s := S4096x128) off S512x128.size hb).toLoadRect (h.unread x) = rows x j := by
  subst ho
  funext p
  rw [Memref.IsWhole.readAt_unread h]
  unfold rows
  congr 1
  funext a
  apply Fin.ext
  show _ = (![512 * j, 0] a + (p a).val) % S4096x128.size a
  rw [Nat.mod_eq_of_lt (lt_of_lt_of_le (Nat.add_lt_add_left (show (p a).val < S512x128.size a from (p a).isLt) _) (hb a))]
  simp only [Rect.unit, Rect.toLoadRect, LoadRect.idx]
  first | rfl | (simp; done) | (simp; rfl)

/-- A trip of the loop over pairs visits the two blocks it loads. -/
theorem trip_eq (c : Dev nD) (i : grid0.Coords) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (a2 : BitVec 32) (q : FVec F S512x128 .bf16) (b : Elt F .f32) (mat : FVec F S128x256 .bf16)
    (a115 c0 : BitVec 32) (x5 : BufTy.Contents (Elt F) arg5.view.ty) (x6 : BufTy.Contents (Elt F) arg6.view.ty)
    (k : Fin (k0_t1_loop i).trips) (ra : FVec F S512x128 .f32 × FVec F S512x128 .f32) :
    tripR_k0_t1 Variants.none c none i arg3 harg3 arg4 harg4 arg5 harg5 arg6 harg6 arg7 harg7 arg8 harg8 a2 q b mat a115 c0 x5 x6 k ra
      = visit q b mat
          (View.readAt (Elt F) arg5.view (Rect.unit (s := S4096x128) (k0_off5 i k) S512x128.size (k0_off5_inb i k)).toLoadRect x5)
          (View.readAt (Elt F) arg6.view (Rect.unit (s := S4096x128) (k0_off5 i k) S512x128.size (k0_off5_inb i k)).toLoadRect x6)
          (visit q b mat
            (View.readAt (Elt F) arg5.view (Rect.unit (s := S4096x128) (k0_off4 i k) S512x128.size (k0_off4_inb i k)).toLoadRect x5)
            (View.readAt (Elt F) arg6.view (Rect.unit (s := S4096x128) (k0_off4 i k) S512x128.size (k0_off4_inb i k)).toLoadRect x6)
            ra) := by
  unfold tripR_k0_t1 trip_k0_t1
  rfl

/-! ## The loop's bounds and offsets, at every point -/

theorem trips1 : ∀ t : Fin cfg0.N, (k0_t1_loop (grid0.coords t)).trips = (grid0.coords t 2).val / 2 := by decide +kernel
theorem trips2 : ∀ t : Fin cfg0.N, (k0_t2_loop (grid0.coords t)).trips = 0 := by decide +kernel
theorem odd_iff : ∀ t : Fin cfg0.N, k0_cond1 (grid0.coords t) = 1#1 ↔ (grid0.coords t 2).val % 2 = 1 := by decide +kernel
theorem off2_eq : ∀ t : Fin cfg0.N, k0_off2 (grid0.coords t) = ![512 * (grid0.coords t 2).val, 0] := by decide +kernel
theorem off3_eq : ∀ t : Fin cfg0.N, (grid0.coords t 2).val % 2 = 1 →
    k0_off3 (grid0.coords t) = ![512 * ((grid0.coords t 2).val - 0 - 1), 0] := by decide +kernel
theorem off4_eq : ∀ t : Fin cfg0.N, ∀ k : Fin (k0_t1_loop (grid0.coords t)).trips, k0_off4 (grid0.coords t) k
    = ![512 * ((grid0.coords t 2).val - ((grid0.coords t 2).val % 2 + 2 * k.val) - 1), 0] := by decide +kernel
theorem off5_eq : ∀ t : Fin cfg0.N, ∀ k : Fin (k0_t1_loop (grid0.coords t)).trips, k0_off5 (grid0.coords t) k
    = ![512 * ((grid0.coords t 2).val - ((grid0.coords t 2).val % 2 + 2 * k.val + 1) - 1), 0] := by decide +kernel
theorem off1_eq : ∀ t : Fin cfg0.N, k0_off1 (grid0.coords t) = ![0, (grid0.coords t 1).val] := by decide +kernel

/-! ## The piece the body stores -/

theorem hz2 : (![0, 0] : Fin 2 → Nat) = fun _ => 0 := by decide
theorem hz3 : (![0, 0, 0] : Fin 3 → Nat) = fun _ => 0 := by decide

section Piece

variable (c : Dev nD) (t : Fin cfg0.N) (arg3 : Memref sig .tc .smem S2x8 .f32) (harg3 : arg3.IsWhole)
    (arg4 : Memref sig .tc .vmem S512x128 .f32) (harg4 : arg4.IsWhole) (arg5 : Memref sig .tc .vmem S4096x128 .f32)
    (harg5 : arg5.IsWhole) (arg6 : Memref sig .tc .vmem S4096x128 .f32) (harg6 : arg6.IsWhole)
    (arg7 : Memref sig .tc .vmem S1x1x128 .f32) (harg7 : arg7.IsWhole) (arg8 : Memref sig .tc .vmem S512x128 .f32)
    (harg8 : arg8.IsWhole) (x0 : Vec F S2x8 .f32) (x1 : Vec F S512x128 .f32)
    (x2 x3 : Vec F S4096x128 .f32) (x4 : Vec F S1x1x128 .f32)

/-- The loop over pairs, from the chain at the parity of the block's position, is the chain. -/
theorem pairs_eq (a2 : BitVec 32) (q : FVec F S512x128 .bf16) (b : Elt F .f32) (mat : FVec F S128x256 .bf16)
    (a115 c0 : BitVec 32) (init : FVec F S512x128 .f32 × FVec F S512x128 .f32)
    (hi : init = visited q b mat x2 x3 (grid0.coords t 2).val ((grid0.coords t 2).val % 2)) (k : ℕ)
    (hk : k ≤ (k0_t1_loop (grid0.coords t)).trips) :
    st_k0_t1 Variants.none c none (grid0.coords t) arg3 harg3 arg4 harg4 arg5 harg5 arg6 harg6 arg7 harg7 arg8 harg8
        a2 q b mat a115 c0 (harg5.unread x2) (harg6.unread x3) init k
      = visited q b mat x2 x3 (grid0.coords t 2).val ((grid0.coords t 2).val % 2 + 2 * k) := by
  induction k with
  | zero => rw [st_k0_t1_zero, hi, Nat.mul_zero, Nat.add_zero]
  | succ k ih =>
    refine (st_k0_t1_succ Variants.none c none (grid0.coords t) arg3 harg3 arg4 harg4 arg5 harg5 arg6 harg6 arg7 harg7
      arg8 harg8 a2 q b mat a115 c0 (harg5.unread x2) (harg6.unread x3) init ⟨k, hk⟩).trans ?_
    rw [ih (by omega), trip_eq,
      load_rows arg5 harg5 x2 _ _ (off4_eq t ⟨k, hk⟩), load_rows arg6 harg6 x3 _ _ (off4_eq t ⟨k, hk⟩),
      load_rows arg5 harg5 x2 _ _ (off5_eq t ⟨k, hk⟩), load_rows arg6 harg6 x3 _ _ (off5_eq t ⟨k, hk⟩)]
    rfl

/-- The second half of the loop, split off for a step that does not divide, is empty. -/
theorem rest_eq (a2 : BitVec 32) (q : FVec F S512x128 .bf16) (b : Elt F .f32) (mat : FVec F S128x256 .bf16)
    (a115 c0 : BitVec 32) (x5 : BufTy.Contents (Elt F) arg5.view.ty) (x6 : BufTy.Contents (Elt F) arg6.view.ty)
    (init : FVec F S512x128 .f32 × FVec F S512x128 .f32) (n : ℕ) (hn : n = (k0_t2_loop (grid0.coords t)).trips) :
    st_k0_t2 Variants.none c none (grid0.coords t) arg3 harg3 arg4 harg4 arg5 harg5 arg6 harg6 arg7 harg7 arg8 harg8
        a2 q b mat a115 c0 x5 x6 init n = init := by
  rw [hn, trips2]; rfl

/-- The head's bias, as the body loads it. -/
def biasAt : Elt F .f32 := View.readAt (Elt F) arg3.view (Rect.unit (s := S2x8) (k0_off1 (grid0.coords t)) S1x1.size
  (k0_off1_inb (grid0.coords t))).toLoadRect (harg3.unread x0) (Shape.Idx.first (numel1_S1x1.symm ▸ Nat.one_pos))

/-- The query block, as the body loads it. -/
def queryAt : Vec F S512x128 .f32 := View.readAt (Elt F) arg4.view (Rect.unit (s := S512x128) ![0, 0] S512x128.size
  inb_S512x128_S512x128_0_0).toLoadRect (harg4.unread x1)

/-- The norm's gains, as the body loads them. -/
def normAt : Vec F S1x1x128 .f32 := View.readAt (Elt F) arg7.view (Rect.unit (s := S1x1x128) ![0, 0, 0] S1x1x128.size
  inb_S1x1x128_S1x1x128_0_0_0).toLoadRect (harg7.unread x4)

/-- The body stores one piece: the chain of visits from the block's own position down to the first block, normalised. -/
theorem pieces_eq : pieces c t arg3 harg3 arg4 harg4 arg5 harg5 arg6 harg6 arg7 harg7 arg8 harg8 x0 x1 x2 x3 x4
    = [⟨Rect.unit (s := S512x128) ![0, 0] S512x128.size inb_S512x128_S512x128_0_0,
        k0_pay5 (visited (k0_pay79 (queryAt arg4 harg4 x1)) (biasAt t arg3 harg3 x0) k0_pay80 x2 x3
          (grid0.coords t 2).val (grid0.coords t 2).val).2 (normAt arg7 harg7 x4)⟩] := by
  have hdiag : diagonal (k0_pay79 (queryAt arg4 harg4 x1)) (biasAt t arg3 harg3 x0) k0_pay80
      (rows x2 (grid0.coords t 2).val) (rows x3 (grid0.coords t 2).val)
      = visited (k0_pay79 (queryAt arg4 harg4 x1)) (biasAt t arg3 harg3 x0) k0_pay80 x2 x3 (grid0.coords t 2).val 0 := rfl
  have hlast : (grid0.coords t 2).val % 2 + 2 * ((grid0.coords t 2).val / 2) = (grid0.coords t 2).val := by omega
  unfold pieces
  split_ifs with hc
  · have ho := (odd_iff t).1 hc
    unfold runOdd
    dsimp only
    rw [rest_eq (hn := rfl)]
    have := pairs_eq c t arg3 harg3 arg4 harg4 arg5 harg5 arg6 harg6 arg7 harg7 arg8 harg8 x2 x3
      (init := visit (k0_pay79 (queryAt arg4 harg4 x1)) (biasAt t arg3 harg3 x0) k0_pay80
          (View.readAt (Elt F) arg5.view (Rect.unit (s := S4096x128) (k0_off3 (grid0.coords t)) S512x128.size (k0_off3_inb (grid0.coords t) hc)).toLoadRect (harg5.unread x2))
          (View.readAt (Elt F) arg6.view (Rect.unit (s := S4096x128) (k0_off3 (grid0.coords t)) S512x128.size (k0_off3_inb (grid0.coords t) hc)).toLoadRect (harg6.unread x3))
        (diagonal (k0_pay79 (queryAt arg4 harg4 x1)) (biasAt t arg3 harg3 x0) k0_pay80
          (View.readAt (Elt F) arg5.view (Rect.unit (s := S4096x128) (k0_off2 (grid0.coords t)) S512x128.size (k0_off2_inb (grid0.coords t))).toLoadRect (harg5.unread x2))
          (View.readAt (Elt F) arg6.view (Rect.unit (s := S4096x128) (k0_off2 (grid0.coords t)) S512x128.size (k0_off2_inb (grid0.coords t))).toLoadRect (harg6.unread x3))))
      (q := k0_pay79 (queryAt arg4 harg4 x1)) (b := biasAt t arg3 harg3 x0) (mat := k0_pay80) (k := (k0_t1_loop (grid0.coords t)).trips) (hk := le_rfl)
      (hi := by
        rw [load_rows arg5 harg5 x2 _ _ (off2_eq t), load_rows arg6 harg6 x3 _ _ (off2_eq t),
          load_rows arg5 harg5 x2 _ _ (off3_eq t ho), load_rows arg6 harg6 x3 _ _ (off3_eq t ho), ho, hdiag]
        rfl)
    rw [trips1, hlast] at this
    rw [← this, ← trips1 t]
    rfl
  · have ho : (grid0.coords t 2).val % 2 = 0 := by
      have := mt (odd_iff t).2 hc; omega
    unfold runEven
    dsimp only
    rw [rest_eq (hn := rfl)]
    have := pairs_eq c t arg3 harg3 arg4 harg4 arg5 harg5 arg6 harg6 arg7 harg7 arg8 harg8 x2 x3
      (init := diagonal (k0_pay79 (queryAt arg4 harg4 x1)) (biasAt t arg3 harg3 x0) k0_pay80
          (View.readAt (Elt F) arg5.view (Rect.unit (s := S4096x128) (k0_off2 (grid0.coords t)) S512x128.size (k0_off2_inb (grid0.coords t))).toLoadRect (harg5.unread x2))
          (View.readAt (Elt F) arg6.view (Rect.unit (s := S4096x128) (k0_off2 (grid0.coords t)) S512x128.size (k0_off2_inb (grid0.coords t))).toLoadRect (harg6.unread x3)))
      (q := k0_pay79 (queryAt arg4 harg4 x1)) (b := biasAt t arg3 harg3 x0) (mat := k0_pay80) (k := (k0_t1_loop (grid0.coords t)).trips) (hk := le_rfl)
      (hi := by
        rw [load_rows arg5 harg5 x2 _ _ (off2_eq t), load_rows arg6 harg6 x3 _ _ (off2_eq t), ho, hdiag])
    rw [trips1, hlast] at this
    rw [← this, ← trips1 t]
    rfl

theorem queryAt_eq : queryAt arg4 harg4 x1 = x1 := by
  unfold queryAt
  rw [View.readAt_eq_ld, harg4.read_unread, View.ld_unit_zero (S := S512x128) hz2]

theorem normAt_eq : normAt arg7 harg7 x4 = x4 := by
  unfold normAt
  rw [View.readAt_eq_ld, harg7.read_unread, View.ld_unit_zero (S := S1x1x128) hz3]

theorem biasAt_eq : biasAt t arg3 harg3 x0 = x0 (ix2 0 (grid0.coords t 1)) := by
  unfold biasAt
  rw [Memref.IsWhole.readAt_unread harg3]
  congr 1
  funext a
  apply Fin.ext
  simp only [Rect.unit, Rect.toLoadRect, LoadRect.idx]
  have h := congrFun (off1_eq t) a
  revert h
  fin_cases a <;> intro h <;> simp_all [Shape.Idx.first]

end Piece

/-- What a point leaves in the output's buffer: the chain of visits of its row of blocks, normalised. -/
theorem outAt_eq (m : (ℓ : Loc nD τ sig) → Buf (Elt F) ℓ) (c : Dev nD) (t : Fin cfg0.N) :
    outAt m c t = k0_pay5 (visited (k0_pay79 (X0_1 m c t)) (iblk m c 0 t (ix2 0 (grid0.coords t 1))) k0_pay80
      (iblk m c 2 t) (iblk m c 3 t) (grid0.coords t 2).val (grid0.coords t 2).val).2 (iblk m c 4 t) := by
  unfold outAt
  rw [View.read_writes_eq_canon _ _ _ (pieces_cover c t _ _ _ _ _ _ _ _ _ _ _ _ _ _ _ _ _), pieces_eq, queryAt_eq, normAt_eq,
    biasAt_eq, View.canon_unit_zero hz2]

end Cert.KernelIdeal.Sb

end
-- ==== Proof.SbBlock.lean ====
/- A visit of a key block over extended reals, element by element, where the scores are real: what it spends and what
   weights it gives. -/
module

public import proofs.«01_k».proof.Proof.SbStep
public import Idealize.ShloMosaic.Lib.Pipeline.ValueKit

@[expose] public section

set_option maxRecDepth 16384

noncomputable section

namespace Cert.KernelIdeal.Sb

open Idealize.ShloMosaic Idealize.ShloMosaic.TcCoe Idealize.SL.Sem
open Cert.KernelIdeal.Gen
open scoped BigOperators

/-- The summing matrix: a column below 128 sums the lanes after it, a column from 128 on all of them. -/
def matAt (k : Fin 128) (j : Fin 256) : EReal := if j.val < k.val ∨ 128 ≤ j.val then 1 else 0

theorem mat_at (k : Fin 128) (j : Fin 256) : k0_pay80 (F := Ideal) (ix2 k j) = matAt k j := by
  have hb : ∀ (k : Fin 128) (j : Fin 256), (BitVec.setWidth 32
        (IntOp.ori (IntOp.cmpi CmpIPredicate.sgt (BitVec.ofNat 32 k.val) (BitVec.ofNat 32 j.val))
          (IntOp.cmpi CmpIPredicate.sge (BitVec.ofNat 32 j.val) 128#32))).toInt
      = if j.val < k.val ∨ 128 ≤ j.val then 1 else 0 := by decide +kernel
  pointwise [k0_pay80]
  show ((((BitVec.setWidth 32 _ : BitVec 32).toInt : ℤ) : ℝ) : EReal) = _
  rw [hb]
  unfold matAt
  split_ifs <;> simp

theorem stack_at0 (x : FVec Ideal S512x512 .bf16) (row : Fin 512) (k : Fin 128) :
    stack x (ix2 ⟨row.val, by omega⟩ k) = x (ix2 row ⟨k.val, by omega⟩) := by
  pointwise [stack]
theorem stack_at1 (x : FVec Ideal S512x512 .bf16) (row : Fin 512) (k : Fin 128) :
    stack x (ix2 ⟨512 + row.val, by omega⟩ k) = x (ix2 row ⟨128 + k.val, by omega⟩) := by
  pointwise [stack]
theorem stack_at2 (x : FVec Ideal S512x512 .bf16) (row : Fin 512) (k : Fin 128) :
    stack x (ix2 ⟨1024 + row.val, by omega⟩ k) = x (ix2 row ⟨256 + k.val, by omega⟩) := by
  pointwise [stack]
  rw [dif_neg (by omega), dif_neg (by omega), dif_pos (by omega)]
  exact congrArg (fun i => x (ix2 i _)) (Fin.ext (by show 1024 + row.val - 512 - 512 = row.val; omega))
theorem stack_at3 (x : FVec Ideal S512x512 .bf16) (row : Fin 512) (k : Fin 128) :
    stack x (ix2 ⟨1536 + row.val, by omega⟩ k) = x (ix2 row ⟨384 + k.val, by omega⟩) := by
  pointwise [stack]
  rw [dif_neg (by omega), dif_neg (by omega), dif_neg (by omega)]
  exact congrArg (fun i => x (ix2 i _)) (Fin.ext (by show 1536 + row.val - 512 - 512 - 512 = row.val; omega))

/-- Two halves side by side against the summing matrix twice. -/
theorem halves_at (a b : FVec Ideal S2048x128 .bf16) (mat : FVec Ideal S128x256 .bf16) (row : Fin 2048) (j : Fin 256) :
    matmul dot_S2048x256_S256x256_S2048x256_1_0_0_1_n_n none
        (concatenate S2048x256 1 [⟨S2048x128, a⟩, ⟨S2048x128, b⟩] concatenates_S2048x128_S2048x128_S2048x256_d1)
        (concatenate S256x256 0 [⟨S128x256, mat⟩, ⟨S128x256, mat⟩] concatenates_S128x256_S128x256_S256x256_d0)
        (constant S2048x256 .f32 0x00000000#32) (ix2 row j)
      = (∑ k : Fin 128, a (ix2 row k) * mat (ix2 k j)) + ∑ k : Fin 128, b (ix2 row k) * mat (ix2 k j) := by
  pointwise []

/-- A sum over 512 columns is the sum over its four tiles. -/
theorem sum_tiles (f : Fin 512 → ℝ) : ∑ j : Fin 512, f j
    = (∑ k : Fin 128, f ⟨k.val, by omega⟩) + (∑ k : Fin 128, f ⟨128 + k.val, by omega⟩)
      + (∑ k : Fin 128, f ⟨256 + k.val, by omega⟩) + ∑ k : Fin 128, f ⟨384 + k.val, by omega⟩ := by
  have h : ∑ j : Fin 512, f j = ∑ j : Fin (128 + 128 + 128 + 128), f j := rfl
  rw [h, Fin.sum_univ_add, Fin.sum_univ_add, Fin.sum_univ_add]
  rfl

/-- Real spends, and a rest that is a spend less itself, against the summing matrix. -/
theorem sum_mat (σ : Fin 128 → ℝ) (a b : Fin 128 → EReal) (ha : ∀ k, a k = (σ k : EReal))
    (hb : ∀ k, b k = (σ k : EReal) - (σ k : EReal)) (j : Fin 256) :
    (∑ k, a k * matAt k j) + ∑ k, b k * matAt k j
      = ((∑ k : Fin 128, if j.val < k.val ∨ 128 ≤ j.val then σ k else 0 : ℝ) : EReal) := by
  have h1 : ∀ k, a k * matAt k j = ((if j.val < k.val ∨ 128 ≤ j.val then σ k else 0 : ℝ) : EReal) := fun k => by
    rw [ha]; unfold matAt; split_ifs <;> simp
  have h2 : ∀ k, b k * matAt k j = 0 := fun k => by
    rw [hb, ← EReal.coe_sub, sub_self, EReal.coe_zero, zero_mul]
  rw [Finset.sum_congr rfl fun k _ => h1 k, Finset.sum_congr rfl fun k _ => h2 k, Finset.sum_const_zero, add_zero]
  exact (map_sum (⟨⟨Real.toEReal, EReal.coe_zero⟩, EReal.coe_add⟩ : ℝ →+ EReal) _ _).symm

section Tiles

variable (s : FVec Ideal S512x512 .f32) (σ : Fin 512 → Fin 512 → ℝ) (hs : ∀ row j, s (ix2 row j) = (σ row j : EReal))
include hs

theorem sums0_at (row : Fin 512) (j : Fin 256) : tile0 (sums k0_pay80 s) (ix2 row j)
    = ((∑ k : Fin 128, if j.val < k.val ∨ 128 ≤ j.val then σ row ⟨k.val, by omega⟩ else 0 : ℝ) : EReal) := by
  rw [show tile0 (sums k0_pay80 s) (ix2 row j) = sums k0_pay80 s (ix2 ⟨row.val, by omega⟩ j) by pointwise [tile0]]
  unfold sums
  rw [halves_at]
  simp only [mat_at, stack_at0]
  exact sum_mat _ _ _ (fun k => hs _ _) (fun k => congrArg₂ HSub.hSub (hs _ _) (hs _ _)) j

theorem sums1_at (row : Fin 512) (j : Fin 256) : tile1 (sums k0_pay80 s) (ix2 row j)
    = ((∑ k : Fin 128, if j.val < k.val ∨ 128 ≤ j.val then σ row ⟨128 + k.val, by omega⟩ else 0 : ℝ) : EReal) := by
  rw [show tile1 (sums k0_pay80 s) (ix2 row j) = sums k0_pay80 s (ix2 ⟨512 + row.val, by omega⟩ j) by pointwise [tile1]]
  unfold sums
  rw [halves_at]
  simp only [mat_at, stack_at1]
  exact sum_mat _ _ _ (fun k => hs _ _) (fun k => congrArg₂ HSub.hSub (hs _ _) (hs _ _)) j

theorem sums2_at (row : Fin 512) (j : Fin 256) : tile2 (sums k0_pay80 s) (ix2 row j)
    = ((∑ k : Fin 128, if j.val < k.val ∨ 128 ≤ j.val then σ row ⟨256 + k.val, by omega⟩ else 0 : ℝ) : EReal) := by
  rw [show tile2 (sums k0_pay80 s) (ix2 row j) = sums k0_pay80 s (ix2 ⟨1024 + row.val, by omega⟩ j) by pointwise [tile2]]
  unfold sums
  rw [halves_at]
  simp only [mat_at, stack_at2]
  exact sum_mat _ _ _ (fun k => hs _ _) (fun k => congrArg₂ HSub.hSub (hs _ _) (hs _ _)) j

theorem sums3_at (row : Fin 512) (j : Fin 256) : tile3 (sums k0_pay80 s) (ix2 row j)
    = ((∑ k : Fin 128, if j.val < k.val ∨ 128 ≤ j.val then σ row ⟨384 + k.val, by omega⟩ else 0 : ℝ) : EReal) := by
  rw [show tile3 (sums k0_pay80 s) (ix2 row j) = sums k0_pay80 s (ix2 ⟨1536 + row.val, by omega⟩ j) by pointwise [tile3]]
  unfold sums
  rw [halves_at]
  simp only [mat_at, stack_at3]
  exact sum_mat _ _ _ (fun k => hs _ _) (fun k => congrArg₂ HSub.hSub (hs _ _) (hs _ _)) j

end Tiles

theorem suffix_at (u : FVec Ideal S512x256 .f32) (row : Fin 512) (l : Fin 128) :
    suffix u (ix2 row l) = u (ix2 row ⟨l.val, by omega⟩) := by pointwise [suffix]
theorem total_at (u : FVec Ideal S512x256 .f32) (row : Fin 512) (l : Fin 128) :
    total u (ix2 row l) = u (ix2 row ⟨128 + l.val, by omega⟩) := by pointwise [total]

theorem four_at0 (a b c d : FVec Ideal S512x128 .f32) (row : Fin 512) (l : Fin 128) :
    concatenate S512x512 1 [⟨S512x128, a⟩, ⟨S512x128, b⟩, ⟨S512x128, c⟩, ⟨S512x128, d⟩]
      concatenates_S512x128_S512x128_S512x128_S512x128_S512x512_d1 (ix2 row ⟨l.val, by omega⟩) = a (ix2 row l) := by
  pointwise []
theorem four_at1 (a b c d : FVec Ideal S512x128 .f32) (row : Fin 512) (l : Fin 128) :
    concatenate S512x512 1 [⟨S512x128, a⟩, ⟨S512x128, b⟩, ⟨S512x128, c⟩, ⟨S512x128, d⟩]
      concatenates_S512x128_S512x128_S512x128_S512x128_S512x512_d1 (ix2 row ⟨128 + l.val, by omega⟩) = b (ix2 row l) := by
  pointwise []
theorem four_at2 (a b c d : FVec Ideal S512x128 .f32) (row : Fin 512) (l : Fin 128) :
    concatenate S512x512 1 [⟨S512x128, a⟩, ⟨S512x128, b⟩, ⟨S512x128, c⟩, ⟨S512x128, d⟩]
      concatenates_S512x128_S512x128_S512x128_S512x128_S512x512_d1 (ix2 row ⟨256 + l.val, by omega⟩) = c (ix2 row l) := by
  pointwise []
  rw [dif_neg (by omega), dif_neg (by omega), dif_pos (by omega)]
  exact congrArg (fun i => c (ix2 _ i)) (Fin.ext (by show 256 + l.val - 128 - 128 = l.val; omega))
theorem four_at3 (a b c d : FVec Ideal S512x128 .f32) (row : Fin 512) (l : Fin 128) :
    concatenate S512x512 1 [⟨S512x128, a⟩, ⟨S512x128, b⟩, ⟨S512x128, c⟩, ⟨S512x128, d⟩]
      concatenates_S512x128_S512x128_S512x128_S512x128_S512x512_d1 (ix2 row ⟨384 + l.val, by omega⟩) = d (ix2 row l) := by
  pointwise []
  rw [dif_neg (by omega), dif_neg (by omega), dif_neg (by omega)]
  exact congrArg (fun i => d (ix2 _ i)) (Fin.ext (by show 384 + l.val - 128 - 128 - 128 = l.val; omega))

end Cert.KernelIdeal.Sb

end
-- ==== Proof.SbWeights.lean ====
/- The weights a visit gives and what it spends, over extended reals, where scores and spends are real. -/
module

public import proofs.«01_k».proof.Proof.SbBlock

@[expose] public section

set_option maxRecDepth 16384

noncomputable section

namespace Cert.KernelIdeal.Sb

open Idealize.ShloMosaic Idealize.ShloMosaic.TcCoe Idealize.SL.Sem
open Cert.KernelIdeal.Gen
open scoped BigOperators

section

variable (s : FVec Ideal S512x512 .f32) (σ : Fin 512 → Fin 512 → ℝ) (hs : ∀ row j, s (ix2 row j) = (σ row j : EReal))
include hs

theorem total0_at (row : Fin 512) (l : Fin 128) : total (tile0 (sums k0_pay80 s)) (ix2 row l)
    = ((∑ k : Fin 128, σ row ⟨k.val, by omega⟩ : ℝ) : EReal) := by
  rw [total_at, sums0_at s σ hs]
  simp only [Nat.le_add_right, or_true, if_true]
theorem suffix0_at (row : Fin 512) (l : Fin 128) : suffix (tile0 (sums k0_pay80 s)) (ix2 row l)
    = ((∑ k : Fin 128, if l.val < k.val then σ row ⟨k.val, by omega⟩ else 0 : ℝ) : EReal) := by
  have h : ¬ 128 ≤ l.val := by have := l.isLt; omega
  rw [suffix_at, sums0_at s σ hs]
  simp only [h, or_false]

theorem total1_at (row : Fin 512) (l : Fin 128) : total (tile1 (sums k0_pay80 s)) (ix2 row l)
    = ((∑ k : Fin 128, σ row ⟨128 + k.val, by omega⟩ : ℝ) : EReal) := by
  rw [total_at, sums1_at s σ hs]
  simp only [Nat.le_add_right, or_true, if_true]
theorem suffix1_at (row : Fin 512) (l : Fin 128) : suffix (tile1 (sums k0_pay80 s)) (ix2 row l)
    = ((∑ k : Fin 128, if l.val < k.val then σ row ⟨128 + k.val, by omega⟩ else 0 : ℝ) : EReal) := by
  have h : ¬ 128 ≤ l.val := by have := l.isLt; omega
  rw [suffix_at, sums1_at s σ hs]
  simp only [h, or_false]

theorem total2_at (row : Fin 512) (l : Fin 128) : total (tile2 (sums k0_pay80 s)) (ix2 row l)
    = ((∑ k : Fin 128, σ row ⟨256 + k.val, by omega⟩ : ℝ) : EReal) := by
  rw [total_at, sums2_at s σ hs]
  simp only [Nat.le_add_right, or_true, if_true]
theorem suffix2_at (row : Fin 512) (l : Fin 128) : suffix (tile2 (sums k0_pay80 s)) (ix2 row l)
    = ((∑ k : Fin 128, if l.val < k.val then σ row ⟨256 + k.val, by omega⟩ else 0 : ℝ) : EReal) := by
  have h : ¬ 128 ≤ l.val := by have := l.isLt; omega
  rw [suffix_at, sums2_at s σ hs]
  simp only [h, or_false]

theorem total3_at (row : Fin 512) (l : Fin 128) : total (tile3 (sums k0_pay80 s)) (ix2 row l)
    = ((∑ k : Fin 128, σ row ⟨384 + k.val, by omega⟩ : ℝ) : EReal) := by
  rw [total_at, sums3_at s σ hs]
  simp only [Nat.le_add_right, or_true, if_true]
theorem suffix3_at (row : Fin 512) (l : Fin 128) : suffix (tile3 (sums k0_pay80 s)) (ix2 row l)
    = ((∑ k : Fin 128, if l.val < k.val then σ row ⟨384 + k.val, by omega⟩ else 0 : ℝ) : EReal) := by
  have h : ¬ 128 ≤ l.val := by have := l.isLt; omega
  rw [suffix_at, sums3_at s σ hs]
  simp only [h, or_false]

variable (r : FVec Ideal S512x128 .f32) (ρ : Fin 512 → ℝ) (hr : ∀ row l, r (ix2 row l) = (ρ row : EReal))
include hr

/-- What is spent after the block's last tile, its last two, its last three. -/
theorem spent3_at (row : Fin 512) (l : Fin 128) : spent3 r (sums k0_pay80 s) (ix2 row l)
    = ((ρ row + ∑ k : Fin 128, σ row ⟨384 + k.val, by omega⟩ : ℝ) : EReal) := by
  rw [EReal.coe_add, ← hr row l, ← total3_at s σ hs row l]; rfl
theorem spent2_at (row : Fin 512) (l : Fin 128) : spent2 r (sums k0_pay80 s) (ix2 row l)
    = ((ρ row + (∑ k : Fin 128, σ row ⟨384 + k.val, by omega⟩) + ∑ k : Fin 128, σ row ⟨256 + k.val, by omega⟩ : ℝ) : EReal) := by
  rw [EReal.coe_add, ← spent3_at s σ hs r ρ hr row l, ← total2_at s σ hs row l]; rfl
theorem spent1_at (row : Fin 512) (l : Fin 128) : spent1 r (sums k0_pay80 s) (ix2 row l)
    = ((ρ row + (∑ k : Fin 128, σ row ⟨384 + k.val, by omega⟩) + (∑ k : Fin 128, σ row ⟨256 + k.val, by omega⟩)
        + ∑ k : Fin 128, σ row ⟨128 + k.val, by omega⟩ : ℝ) : EReal) := by
  rw [EReal.coe_add, ← spent2_at s σ hs r ρ hr row l, ← total1_at s σ hs row l]; rfl

/-- After the block: all its columns' spends are added. -/
theorem spent0_at (row : Fin 512) (l : Fin 128) : spent0 r (sums k0_pay80 s) (ix2 row l)
    = ((ρ row + ∑ j : Fin 512, σ row j : ℝ) : EReal) := by
  rw [sum_tiles, show ∀ a b c d e : ℝ, a + (b + c + d + e) = (a + e + d + c) + b from fun _ _ _ _ _ => by ring,
    EReal.coe_add, ← spent1_at s σ hs r ρ hr row l, ← total0_at s σ hs row l]; rfl

variable (z p : FVec Ideal S512x512 .f32) (ζ π : Fin 512 → Fin 512 → ℝ)
  (hz : ∀ row j, z (ix2 row j) = (ζ row j : EReal)) (hp : ∀ row j, p (ix2 row j) = (π row j : EReal))
include hz hp

omit hs hr hz hp in
theorem exp_real (x y a b : ℝ) {X Y A B : EReal} (hX : X = x) (hY : Y = y) (hA : A = a) (hB : B = b) :
    Ideal.exp (X - Y - A - B) = ((Real.exp (x - y - a - b) : ℝ) : EReal) := by
  subst hX hY hA hB
  rw [← EReal.coe_sub, ← EReal.coe_sub, ← EReal.coe_sub, Ideal.exp_coe]

theorem weights0_at (row : Fin 512) (l : Fin 128) : weights z p (sums k0_pay80 s) r (ix2 row ⟨l.val, by omega⟩)
    = ((Real.exp (ζ row ⟨l.val, by omega⟩ - π row ⟨l.val, by omega⟩
      - (∑ i : Fin 512, if l.val < i.val then σ row i else 0) - ρ row) : ℝ) : EReal) := by
  unfold weights
  rw [four_at0]
  refine (exp_real _ _ _ _ ((show _ = z (ix2 row ⟨l.val, by omega⟩) by pointwise []).trans (hz _ _))
    ((show _ = p (ix2 row ⟨l.val, by omega⟩) by pointwise []).trans (hp _ _)) (suffix0_at s σ hs row l) (spent1_at s σ hs r ρ hr row l)).trans ?_
  have e0 : ∀ k : Fin 128, (l.val < k.val) = (l.val < k.val) := fun k => by rw [eq_iff_iff]
  have e1 : ∀ k : Fin 128, (l.val < 128 + k.val) = True := fun k => by simp only [eq_iff_iff, iff_true]; omega
  have e2 : ∀ k : Fin 128, (l.val < 256 + k.val) = True := fun k => by simp only [eq_iff_iff, iff_true]; omega
  have e3 : ∀ k : Fin 128, (l.val < 384 + k.val) = True := fun k => by simp only [eq_iff_iff, iff_true]; omega
  rw [sum_tiles]
  simp only [e0, e1, e2, e3, if_true, if_false, Finset.sum_const_zero]
  exact congrArg (fun x : ℝ => ((Real.exp x : ℝ) : EReal)) (by ring)

theorem weights1_at (row : Fin 512) (l : Fin 128) : weights z p (sums k0_pay80 s) r (ix2 row ⟨128 + l.val, by omega⟩)
    = ((Real.exp (ζ row ⟨128 + l.val, by omega⟩ - π row ⟨128 + l.val, by omega⟩
      - (∑ i : Fin 512, if 128 + l.val < i.val then σ row i else 0) - ρ row) : ℝ) : EReal) := by
  unfold weights
  rw [four_at1]
  refine (exp_real _ _ _ _ ((show _ = z (ix2 row ⟨128 + l.val, by omega⟩) by pointwise []).trans (hz _ _))
    ((show _ = p (ix2 row ⟨128 + l.val, by omega⟩) by pointwise []).trans (hp _ _)) (suffix1_at s σ hs row l) (spent2_at s σ hs r ρ hr row l)).trans ?_
  have e0 : ∀ k : Fin 128, (128 + l.val < k.val) = False := fun k => by simp only [eq_iff_iff, iff_false]; omega
  have e1 : ∀ k : Fin 128, (128 + l.val < 128 + k.val) = (l.val < k.val) := fun k => by rw [eq_iff_iff]; omega
  have e2 : ∀ k : Fin 128, (128 + l.val < 256 + k.val) = True := fun k => by simp only [eq_iff_iff, iff_true]; omega
  have e3 : ∀ k : Fin 128, (128 + l.val < 384 + k.val) = True := fun k => by simp only [eq_iff_iff, iff_true]; omega
  rw [sum_tiles]
  simp only [e0, e1, e2, e3, if_true, if_false, Finset.sum_const_zero]
  exact congrArg (fun x : ℝ => ((Real.exp x : ℝ) : EReal)) (by ring)

theorem weights2_at (row : Fin 512) (l : Fin 128) : weights z p (sums k0_pay80 s) r (ix2 row ⟨256 + l.val, by omega⟩)
    = ((Real.exp (ζ row ⟨256 + l.val, by omega⟩ - π row ⟨256 + l.val, by omega⟩
      - (∑ i : Fin 512, if 256 + l.val < i.val then σ row i else 0) - ρ row) : ℝ) : EReal) := by
  unfold weights
  rw [four_at2]
  refine (exp_real _ _ _ _ ((show _ = z (ix2 row ⟨256 + l.val, by omega⟩) by pointwise []).trans (hz _ _))
    ((show _ = p (ix2 row ⟨256 + l.val, by omega⟩) by pointwise []).trans (hp _ _)) (suffix2_at s σ hs row l) (spent3_at s σ hs r ρ hr row l)).trans ?_
  have e0 : ∀ k : Fin 128, (256 + l.val < k.val) = False := fun k => by simp only [eq_iff_iff, iff_false]; omega
  have e1 : ∀ k : Fin 128, (256 + l.val < 128 + k.val) = False := fun k => by simp only [eq_iff_iff, iff_false]; omega
  have e2 : ∀ k : Fin 128, (256 + l.val < 256 + k.val) = (l.val < k.val) := fun k => by rw [eq_iff_iff]; omega
  have e3 : ∀ k : Fin 128, (256 + l.val < 384 + k.val) = True := fun k => by simp only [eq_iff_iff, iff_true]; omega
  rw [sum_tiles]
  simp only [e0, e1, e2, e3, if_true, if_false, Finset.sum_const_zero]
  exact congrArg (fun x : ℝ => ((Real.exp x : ℝ) : EReal)) (by ring)

theorem weights3_at (row : Fin 512) (l : Fin 128) : weights z p (sums k0_pay80 s) r (ix2 row ⟨384 + l.val, by omega⟩)
    = ((Real.exp (ζ row ⟨384 + l.val, by omega⟩ - π row ⟨384 + l.val, by omega⟩
      - (∑ i : Fin 512, if 384 + l.val < i.val then σ row i else 0) - ρ row) : ℝ) : EReal) := by
  unfold weights
  rw [four_at3]
  refine (exp_real _ _ _ _ ((show _ = z (ix2 row ⟨384 + l.val, by omega⟩) by pointwise []).trans (hz _ _))
    ((show _ = p (ix2 row ⟨384 + l.val, by omega⟩) by pointwise []).trans (hp _ _)) (suffix3_at s σ hs row l) (hr row l)).trans ?_
  have e0 : ∀ k : Fin 128, (384 + l.val < k.val) = False := fun k => by simp only [eq_iff_iff, iff_false]; omega
  have e1 : ∀ k : Fin 128, (384 + l.val < 128 + k.val) = False := fun k => by simp only [eq_iff_iff, iff_false]; omega
  have e2 : ∀ k : Fin 128, (384 + l.val < 256 + k.val) = False := fun k => by simp only [eq_iff_iff, iff_false]; omega
  have e3 : ∀ k : Fin 128, (384 + l.val < 384 + k.val) = (l.val < k.val) := fun k => by rw [eq_iff_iff]; omega
  rw [sum_tiles]
  simp only [e0, e1, e2, e3, if_true, if_false, Finset.sum_const_zero]
  exact congrArg (fun x : ℝ => ((Real.exp x : ℝ) : EReal)) (by ring)

/-- A column's weight: the exponential of its score less its spend, the later columns' and what was spent before. -/
theorem weights_at (row j : Fin 512) : weights z p (sums k0_pay80 s) r (ix2 row j)
    = ((Real.exp (ζ row j - π row j - (∑ i : Fin 512, if j.val < i.val then σ row i else 0) - ρ row) : ℝ) : EReal) := by
  obtain ⟨j, hj⟩ := j
  rcases lt_or_ge j 128 with h0 | h0
  · exact weights0_at s σ hs r ρ hr z p ζ π hz hp row ⟨j, h0⟩
  rcases lt_or_ge j 256 with h1 | h1
  · obtain ⟨l, rfl⟩ := Nat.exists_eq_add_of_le h0
    exact weights1_at s σ hs r ρ hr z p ζ π hz hp row ⟨l, by omega⟩
  rcases lt_or_ge j 384 with h2 | h2
  · obtain ⟨l, rfl⟩ := Nat.exists_eq_add_of_le h1
    exact weights2_at s σ hs r ρ hr z p ζ π hz hp row ⟨l, by omega⟩
  · obtain ⟨l, rfl⟩ := Nat.exists_eq_add_of_le h2
    exact weights3_at s σ hs r ρ hr z p ζ π hz hp row ⟨l, by omega⟩

end

end Cert.KernelIdeal.Sb

end
-- ==== Proof.SbChain.lean ====
/- The chain of visits over extended reals: with real scores, what is spent is the sum of the visited columns' spends, and
   what is accumulated the weighted sum of their values. -/
module

public import proofs.«01_k».proof.Proof.SbWeights

@[expose] public section

set_option maxRecDepth 16384

noncomputable section

namespace Cert.KernelIdeal.Sb

open Idealize.ShloMosaic Idealize.ShloMosaic.TcCoe Idealize.SL.Sem
open Cert.KernelIdeal.Gen
open scoped BigOperators

/-- What a real score spends: `log (1 + exp x)`, as the kernel has it. -/
def softplus (x : ℝ) : ℝ := max x 0 + Real.log (1 + Real.exp (-|x|))

/-- Column `C`'s spend at a row of position `R`. -/
def spendOf (ζ : ℕ → ℝ) (R C : ℕ) : ℝ := if C < R then softplus (ζ C) else 0

/-- Column `C`'s weight at a row of position `R`, the columns up to `top` seen. -/
def weightOf (ζ : ℕ → ℝ) (R top C : ℕ) : ℝ :=
  if C < R then Real.exp (ζ C - softplus (ζ C) - ∑ D ∈ Finset.Ico (C + 1) top, spendOf ζ R D) else 0

/-! ## Sums over a block's columns -/

theorem sum_block {M : Type} [AddCommMonoid M] (g : ℕ → M) (f : ℕ) :
    ∑ j : Fin 512, g (f + j.val) = ∑ C ∈ Finset.Ico f (f + 512), g C := by
  rw [Finset.sum_Ico_eq_sum_range, Nat.add_sub_cancel_left, Finset.sum_range]

theorem sum_after (g : ℕ → ℝ) (f j : ℕ) :
    ∑ i : Fin 512, (if j < i.val then g (f + i.val) else 0) = ∑ C ∈ Finset.Ico (f + j + 1) (f + 512), g C := by
  have h : ∀ i : Fin 512, (if j < i.val then g (f + i.val) else 0)
      = (fun C => if f + j < C then g C else 0) (f + i.val) := fun i => by simp
  rw [Finset.sum_congr rfl fun i _ => h i, sum_block (fun C => if f + j < C then g C else 0), ← Finset.sum_filter]
  refine Finset.sum_congr ?_ fun _ _ => rfl
  ext C
  simp only [Finset.mem_filter, Finset.mem_Ico]
  omega

/-! ## The spend -/

theorem coe_max (x y : ℝ) : ((max x y : ℝ) : EReal) = max (x : EReal) (y : EReal) :=
  EReal.coe_strictMono.monotone.map_max

theorem softplus_at (x : ℝ) :
    max (x : EReal) 0 + Ideal.log (1 + Ideal.exp (0 - max (x : EReal) (-(x : EReal)))) = (softplus x : EReal) := by
  have h1 : max (x : EReal) (-(x : EReal)) = ((|x| : ℝ) : EReal) := by
    rw [← EReal.coe_neg, ← coe_max]; rfl
  have h2 : ¬ (1 + Real.exp (-|x|) ≤ 0) := not_le.2 (by positivity)
  rw [h1, ← EReal.coe_zero, ← EReal.coe_sub, zero_sub, Ideal.exp_coe, ← EReal.coe_one, ← EReal.coe_add, Ideal.log_coe,
    if_neg h2, ← coe_max, ← EReal.coe_add]
  rfl

theorem spend_at (z : FVec Ideal S512x512 .f32) (p : S512x512.Idx) (x : ℝ) (h : z p = (x : EReal)) :
    spend z p = (softplus x : EReal) := by
  rw [← softplus_at, ← h]
  pointwise [spend]
  rfl

/-! ## The diagonal block's mask, and products with the values -/

theorem mask_at (row j : Fin 512) : k0_pay83 (ix2 row j) = if j.val < row.val then 1#1 else 0#1 := by
  pointwise [k0_pay83]
  rw [Idealize.ShloMosaic.WordCmp.cmpi_slt_ofNat (by omega) (by omega)]
  by_cases h : j.val < row.val <;> simp [h]

theorem masked_at (x y : FVec Ideal S512x512 .f32) (row j : Fin 512) :
    select k0_pay83 x y (ix2 row j) = if j.val < row.val then x (ix2 row j) else y (ix2 row j) := by
  show (if k0_pay83 (ix2 row j) = 1#1 then _ else _) = _
  rw [mask_at]
  by_cases h : j.val < row.val <;> simp [h]

theorem gather_at (w : FVec Ideal S512x512 .f32) (v a : FVec Ideal S512x128 .f32) (row : Fin 512) (d : Fin 128) :
    gather w v a (ix2 row d) = a (ix2 row d) + ∑ j : Fin 512, w (ix2 row j) * v (ix2 j d) := by
  pointwise [gather]

theorem scores_at (q : FVec Ideal S512x128 .bf16) (b : EReal) (k : FVec Ideal S512x128 .f32) (row j : Fin 512) :
    scores q b k (ix2 row j) = (∑ d : Fin 128, q (ix2 row d) * k (ix2 j d)) + b := by
  pointwise [scores]

theorem rows_at (x : FVec Ideal S4096x128 .f32) (j : ℕ) (p : Fin 512) (d : Fin 128) :
    rows (F := Ideal) x j (ix2 p d) = x (ix2 ⟨(512 * j + p.val) % 4096, Nat.mod_lt _ (by decide)⟩ d) := by
  unfold rows
  refine congrArg x (funext fun a => ?_)
  fin_cases a
  · rfl
  · exact Fin.ext (show (0 + d.val) % 128 = d.val by omega)

/-! ## The invariant -/

/-- Row `C` of the values, the row number read modulo the number of rows. -/
def valueOf (v : FVec Ideal S4096x128 .f32) (C : ℕ) (d : Fin 128) : EReal :=
  v (ix2 ⟨C % 4096, Nat.mod_lt _ (by decide)⟩ d)

/-- What the two accumulators hold once the columns from `f` on have been visited. -/
def Seen (ζ : Fin 512 → ℕ → ℝ) (v : FVec Ideal S4096x128 .f32) (i f : ℕ)
    (ra : FVec Ideal S512x128 .f32 × FVec Ideal S512x128 .f32) : Prop :=
  (∀ row l, ra.1 (ix2 row l) = ((∑ C ∈ Finset.Ico f (512 * (i + 1)), spendOf (ζ row) (512 * i + row.val) C : ℝ) : EReal))
  ∧ ∀ row d, ra.2 (ix2 row d)
      = ∑ C ∈ Finset.Ico f (512 * (i + 1)), (weightOf (ζ row) (512 * i + row.val) (512 * (i + 1)) C : EReal) * valueOf v C d

theorem values_sum (v : FVec Ideal S4096x128 .f32) (n : ℕ) (w : ℕ → ℝ) (d : Fin 128) :
    ∑ j : Fin 512, (w (512 * n + j.val) : EReal) * rows (F := Ideal) v n (ix2 j d)
      = ∑ C ∈ Finset.Ico (512 * n) (512 * n + 512), (w C : EReal) * valueOf v C d :=
  (Finset.sum_congr rfl fun j _ => by rw [rows_at]; rfl).trans (sum_block (fun C => (w C : EReal) * valueOf v C d) (512 * n))

section

variable (q : FVec Ideal S512x128 .bf16) (b : EReal) (k v : FVec Ideal S4096x128 .f32) (ζ : Fin 512 → ℕ → ℝ) (i : ℕ)
  (hz : ∀ n, n ≤ i → ∀ row j, scores (F := Ideal) q b (rows (F := Ideal) k n) (ix2 row j) = (ζ row (512 * n + j.val) : EReal))

include hz in
theorem seen_diagonal :
    Seen ζ v i (512 * i) (diagonal (F := Ideal) q b k0_pay80 (rows (F := Ideal) k i) (rows (F := Ideal) v i)) := by
  have hs : ∀ row j, maskedSpend (F := Ideal) (scores q b (rows k i)) (ix2 row j)
      = (spendOf (ζ row) (512 * i + row.val) (512 * i + j.val) : EReal) := by
    intro row j
    refine (masked_at _ _ row j).trans ?_
    unfold spendOf
    by_cases h : j.val < row.val
    · rw [if_pos h, if_pos (by omega)]
      exact spend_at _ _ _ (hz i le_rfl row j)
    · rw [if_neg h, if_neg (by omega)]
      pointwise [k0_pay87]
      rfl
  have hr : ∀ row l, k0_pay81 (F := Ideal) (ix2 row l) = (((fun _ => 0 : Fin 512 → ℝ) row : ℝ) : EReal) := by
    intro row l
    pointwise [k0_pay81]
    rfl
  refine ⟨fun row l => ?_, fun row d => ?_⟩
  · refine (spent0_at _ _ hs _ _ hr row l).trans ?_
    rw [zero_add, sum_block (fun C => spendOf (ζ row) (512 * i + row.val) C) (512 * i)]
    rfl
  · refine (gather_at _ _ _ row d).trans ?_
    have h0 : k0_pay82 (F := Ideal) (ix2 row d) = 0 := by pointwise [k0_pay82]
    rw [h0, zero_add]
    refine Eq.trans (Finset.sum_congr rfl fun j _ => congrArg (· * _) ?_)
      (values_sum v i (weightOf (ζ row) (512 * i + row.val) (512 * (i + 1))) d)
    refine (masked_at _ _ row j).trans ?_
    unfold weightOf
    by_cases h : j.val < row.val
    · rw [if_pos h, if_pos (by omega)]
      refine (weights_at _ _ hs _ _ hr _ _ (fun row j => ζ row (512 * i + j.val))
        (fun row j => softplus (ζ row (512 * i + j.val))) (hz i le_rfl)
        (fun row j => spend_at _ _ _ (hz i le_rfl row j)) row j).trans ?_
      rw [sum_after (fun C => spendOf (ζ row) (512 * i + row.val) C), sub_zero]
      rfl
    · rw [if_neg h, if_neg (by omega)]
      show Ideal.ofBits .f32 0x00000000#32 = _
      simp [Ideal.ofBits, Ideal.ieee]

include hz in
theorem seen_visit (n : ℕ) (hn : n < i) (ra : FVec Ideal S512x128 .f32 × FVec Ideal S512x128 .f32)
    (h : Seen ζ v i (512 * (n + 1)) ra) :
    Seen ζ v i (512 * n) (visit (F := Ideal) q b k0_pay80 (rows (F := Ideal) k n) (rows (F := Ideal) v n) ra) := by
  have hs : ∀ row j, spend (F := Ideal) (scores q b (rows k n)) (ix2 row j)
      = (spendOf (ζ row) (512 * i + row.val) (512 * n + j.val) : EReal) := by
    intro row j
    rw [spendOf, if_pos (by omega)]
    exact spend_at _ _ _ (hz n hn.le row j)
  have hm : 512 * n ≤ 512 * n + 512 := by omega
  have hi : 512 * n + 512 ≤ 512 * (i + 1) := by omega
  refine ⟨fun row l => ?_, fun row d => ?_⟩
  · refine (spent0_at _ _ hs _ _ h.1 row l).trans ?_
    rw [sum_block (fun C => spendOf (ζ row) (512 * i + row.val) C) (512 * n), add_comm]
    exact congrArg _ (Finset.sum_Ico_consecutive _ hm hi)
  · refine (gather_at _ _ _ row d).trans ?_
    rw [h.2 row d, add_comm]
    refine Eq.trans (congrArg (· + _) ((Finset.sum_congr rfl fun j _ => congrArg (· * _) ?_).trans
      (values_sum v n (weightOf (ζ row) (512 * i + row.val) (512 * (i + 1))) d))) (Finset.sum_Ico_consecutive _ hm hi)
    refine (weights_at _ _ hs _ _ h.1 _ _ (fun row j => ζ row (512 * n + j.val))
      (fun row j => softplus (ζ row (512 * n + j.val))) (hz n hn.le)
      (fun row j => spend_at _ _ _ (hz n hn.le row j)) row j).trans ?_
    rw [sum_after (fun C => spendOf (ζ row) (512 * i + row.val) C), sub_sub, weightOf, if_pos (by omega)]
    refine congrArg (fun x : ℝ =>
      ((Real.exp (ζ row (512 * n + j.val) - softplus (ζ row (512 * n + j.val)) - x) : ℝ) : EReal)) ?_
    exact Finset.sum_Ico_consecutive _ (by omega) hi

include hz in
theorem seen_visited (n : ℕ) (hn : n ≤ i) : Seen ζ v i (512 * (i - n)) (visited (F := Ideal) q b k0_pay80 k v i n) := by
  induction n with
  | zero => exact seen_diagonal q b k v ζ i hz
  | succ n ih =>
    have h := seen_visit q b k v ζ i hz (i - n - 1) (by omega) (visited (F := Ideal) q b k0_pay80 k v i n)
    rw [show i - n - 1 + 1 = i - n by omega] at h
    exact h (ih (by omega))

end

/-! ## Over the whole sequence -/

theorem weightOf_top (ζ : ℕ → ℝ) (R top top' C : ℕ) (h : R ≤ top) (h' : top ≤ top') :
    weightOf ζ R top C = weightOf ζ R top' C := by
  unfold weightOf
  by_cases hc : C < R
  · rw [if_pos hc, if_pos hc, ← Finset.sum_Ico_consecutive _ (show C + 1 ≤ top by omega) h',
      Finset.sum_eq_zero (s := Finset.Ico top top') fun D hD => by
        rw [spendOf, if_neg (by have := (Finset.mem_Ico.1 hD).1; omega)], add_zero]
  · rw [if_neg hc, if_neg hc]

/-- The weighted sum of the values over every row of the sequence. -/
theorem visited_at (q : FVec Ideal S512x128 .bf16) (b : EReal) (k v : FVec Ideal S4096x128 .f32) (ζ : Fin 512 → ℕ → ℝ)
    (i : ℕ) (hi : i < 8)
    (hz : ∀ n, n ≤ i → ∀ row j, scores (F := Ideal) q b (rows (F := Ideal) k n) (ix2 row j) = (ζ row (512 * n + j.val) : EReal))
    (row : Fin 512) (d : Fin 128) :
    (visited (F := Ideal) q b k0_pay80 k v i i).2 (ix2 row d)
      = ∑ C : Fin 4096, (weightOf (ζ row) (512 * i + row.val) 4096 C.val : EReal) * v (ix2 C d) := by
  have h := (seen_visited q b k v ζ i hz i le_rfl).2 row d
  rw [Nat.sub_self, Nat.mul_zero] at h
  have e : ∀ C : Fin 4096, (weightOf (ζ row) (512 * i + row.val) 4096 C.val : EReal) * v (ix2 C d)
      = (fun C => (weightOf (ζ row) (512 * i + row.val) 4096 C : EReal) * valueOf v C d) C.val := by
    intro C
    have : (⟨C.val % 4096, Nat.mod_lt _ (by decide)⟩ : Fin 4096) = C := Fin.ext (Nat.mod_eq_of_lt C.isLt)
    show _ = _ * v (ix2 _ d)
    rw [this]
  rw [h, Finset.sum_congr rfl fun C _ => e C,
    Fin.sum_univ_eq_sum_range (fun C => (weightOf (ζ row) (512 * i + row.val) 4096 C : EReal) * valueOf v C d) 4096,
    Finset.range_eq_Ico, ← Finset.sum_Ico_consecutive _ (Nat.zero_le (512 * (i + 1))) (by omega : 512 * (i + 1) ≤ 4096),
    Finset.sum_eq_zero (s := Finset.Ico (512 * (i + 1)) 4096) fun C hC => by
      rw [weightOf, if_neg (by have := (Finset.mem_Ico.1 hC).1; omega), EReal.coe_zero, zero_mul], add_zero]
  refine Finset.sum_congr rfl fun C _ => ?_
  rw [weightOf_top (ζ row) _ (512 * (i + 1)) 4096 C (by omega) (by omega)]

end Cert.KernelIdeal.Sb

end
-- ==== Proof.SbWindow.lean ====
/- The reference's stages at an element: the reversed running sum, the log-sigmoids and the masks, over extended reals. -/
module

public import proofs.«01_k».proof.Proof.SbChain
public import proofs.«01_k».proof.Proof.Gen.ReferenceIdeal
public import Idealize.ShloMosaic.Lib.WordCmp

@[expose] public section

set_option maxRecDepth 16384

noncomputable section

namespace Cert.ReferenceIdeal.Sb

open Idealize.ShloMosaic Idealize.ShloMosaic.TcCoe Idealize.SL.Sem
open Cert.ReferenceIdeal Cert.ReferenceIdeal.Gen
open scoped BigOperators

/-! ## The reversed running sum -/

theorem foldl_add {ι : Type*} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem foldl_places (W : Shape) (g : W.Idx → EReal) :
    (List.finRange W.numel).foldl (fun r n => r + g (W.rowMajor.symm n)) 0 = ∑ w : W.Idx, g w := by
  rw [foldl_add, zero_add, ← List.ofFn_eq_map, List.sum_ofFn]
  exact Equiv.sum_comp W.rowMajor.symm g

/-- The window's places, by their last coordinate. -/
def windowIdx (N : ℕ) : (⟨4, ![1, 1, 1, N]⟩ : Shape).Idx ≃ Fin N where
  toFun w := w 3
  invFun k := ix4 0 0 0 k
  left_inv w := by
    funext a
    fin_cases a
    · exact Subsingleton.elim (α := Fin 1) _ _
    · exact Subsingleton.elim (α := Fin 1) _ _
    · exact Subsingleton.elim (α := Fin 1) _ _
    · rfl
  right_inv _ := rfl

theorem places_sum {A B C N M : ℕ} (x : (⟨4, ![A, B, C, N]⟩ : Shape).Idx → EReal)
    (hw : (⟨4, ![A, B, C, N]⟩ : Shape).ReduceWindows (![1, 1, 1, N] : Fin 4 → ℕ) ![1, 1, 1, 1] ![0, 0, 0, 0] ![0, 0, 0, M] ⟨4, ![A, B, C, N]⟩)
    (b : Fin A) (h : Fin B) (r : Fin C) (c : Fin N) :
    Ideal.hostReduceWindowAdd (![1, 1, 1, N] : Fin 4 → ℕ) ![1, 1, 1, 1] ![0, 0, 0, 0] ![0, 0, 0, M] hw x 0 (ix4 b h r c)
      = ∑ n : Fin N, if hn : c.val + n.val < N then x (ix4 b h r ⟨c.val + n.val, hn⟩) else 0 := by
  unfold Ideal.hostReduceWindowAdd Host.reduceWindow
  dsimp only
  refine Eq.trans ?_ ((foldl_places ⟨4, ![1, 1, 1, N]⟩ (fun w => if hin : ∀ a, (![0, 0, 0, 0] : Fin 4 → ℕ) a ≤ (ix4 b h r c (a.cast hw.1.symm)).val * (![1, 1, 1, 1] : Fin 4 → ℕ) a + (w a).val
      ∧ (ix4 b h r c (a.cast hw.1.symm)).val * (![1, 1, 1, 1] : Fin 4 → ℕ) a + (w a).val - (![0, 0, 0, 0] : Fin 4 → ℕ) a < (⟨4, ![A, B, C, N]⟩ : Shape).size a
      then x (fun a => ⟨(ix4 b h r c (a.cast hw.1.symm)).val * (![1, 1, 1, 1] : Fin 4 → ℕ) a + (w a).val - (![0, 0, 0, 0] : Fin 4 → ℕ) a, (hin a).2⟩) else 0)).trans
    (Fintype.sum_equiv (windowIdx N) _ _ fun w => ?_))
  · refine congrArg (fun f => List.foldl f 0 _) (funext fun s => funext fun n => ?_)
    congr
  have w0 : (w 0).val = 0 := Nat.lt_one_iff.1 (w 0).isLt
  have w1 : (w 1).val = 0 := Nat.lt_one_iff.1 (w 1).isLt
  have w2 : (w 2).val = 0 := Nat.lt_one_iff.1 (w 2).isLt
  show _ = if hn : c.val + (w 3).val < N then x (ix4 b h r ⟨c.val + (w 3).val, hn⟩) else 0
  by_cases hn : c.val + (w 3).val < N
  · rw [dif_pos hn, dif_pos (fun a => by
      match a with
      | ⟨0, _⟩ => exact ⟨Nat.zero_le _, (show b.val * 1 + (w 0).val - 0 < A by have := b.isLt; omega)⟩
      | ⟨1, _⟩ => exact ⟨Nat.zero_le _, (show h.val * 1 + (w 1).val - 0 < B by have := h.isLt; omega)⟩
      | ⟨2, _⟩ => exact ⟨Nat.zero_le _, (show r.val * 1 + (w 2).val - 0 < C by have := r.isLt; omega)⟩
      | ⟨3, _⟩ => exact ⟨Nat.zero_le _, (show c.val * 1 + (w 3).val - 0 < N by omega)⟩)]
    refine congrArg x (funext fun a => Fin.ext ?_)
    match a with
    | ⟨0, _⟩ => show b.val * 1 + (w 0).val - 0 = b.val; omega
    | ⟨1, _⟩ => show h.val * 1 + (w 1).val - 0 = h.val; omega
    | ⟨2, _⟩ => show r.val * 1 + (w 2).val - 0 = r.val; omega
    | ⟨3, _⟩ => show c.val * 1 + (w 3).val - 0 = c.val + (w 3).val; omega
  · rw [dif_neg hn, dif_neg (fun hin => hn (by
      have h3 : c.val * 1 + (w 3).val - 0 < N := (hin 3).2
      omega))]

theorem window_at (x : FVec Ideal S2x8x4096x4096 .f32) (v : FVec Ideal S_ .f32) (hv : ∀ p, v p = 0)
    (b : Fin 2) (h : Fin 8) (r c : Fin 4096) :
    Host.reduceWindowAdd ![1, 1, 1, 4096] ![1, 1, 1, 1] ![0, 0, 0, 0] ![0, 0, 0, 4095] x v
      reduceWindows_S2x8x4096x4096_S2x8x4096x4096_w1s1p0_0_w1s1p0_0_w1s1p0_0_w4096s1p0_4095 h_S_ (ix4 b h r c)
      = ∑ n : Fin 4096, if hn : c.val + n.val < 4096 then x (ix4 b h r ⟨c.val + n.val, hn⟩) else 0 := by
  have e : Host.reduceWindowAdd ![1, 1, 1, 4096] ![1, 1, 1, 1] ![0, 0, 0, 0] ![0, 0, 0, 4095] x v
      reduceWindows_S2x8x4096x4096_S2x8x4096x4096_w1s1p0_0_w1s1p0_0_w1s1p0_0_w4096s1p0_4095 h_S_
      = Ideal.hostReduceWindowAdd ![1, 1, 1, 4096] ![1, 1, 1, 1] ![0, 0, 0, 0] ![0, 0, 0, 4095]
        reduceWindows_S2x8x4096x4096_S2x8x4096x4096_w1s1p0_0_w1s1p0_0_w1s1p0_0_w4096s1p0_4095 x 0 := by
    rw [← hv (Shape.Idx.first h_S_)]; rfl
  rw [e]
  exact places_sum x _ b h r c

/-! ## The log-sigmoid -/

/-- `softplus` as the reference has it. -/
def softH (x : FVec Ideal S2x8x4096x4096 .f32) : FVec Ideal S2x8x4096x4096 .f32 :=
  select (cmpf .une (subf x (broadcastInDim S2x8x4096x4096 ![] bcast_S_S2x8x4096x4096 (constant S_ .f32 0x00000000#32))) (subf x (broadcastInDim S2x8x4096x4096 ![] bcast_S_S2x8x4096x4096 (constant S_ .f32 0x00000000#32))))
    (addf x (broadcastInDim S2x8x4096x4096 ![] bcast_S_S2x8x4096x4096 (constant S_ .f32 0x00000000#32)))
    (addf (maximumf x (broadcastInDim S2x8x4096x4096 ![] bcast_S_S2x8x4096x4096 (constant S_ .f32 0x00000000#32))) (Host.log1p (Host.exp (Host.negf (Host.absf (subf x (broadcastInDim S2x8x4096x4096 ![] bcast_S_S2x8x4096x4096 (constant S_ .f32 0x00000000#32))))))))

theorem softH_at (x : FVec Ideal S2x8x4096x4096 .f32) (p : S2x8x4096x4096.Idx) (ξ : ℝ) (h : x p = (ξ : EReal)) :
    softH x p = (Cert.KernelIdeal.Sb.softplus ξ : EReal) := by
  rw [← Cert.KernelIdeal.Sb.softplus_at, ← h]
  pointwise [softH]
  rw [if_neg (by simp), zero_sub]
  rfl

/-- The strictly earlier columns of a row. -/
def maskH : IVec S2x8x4096x4096 1 :=
  broadcastInDim S2x8x4096x4096 ![2, 3] bcast_S4096x4096_S2x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

theorem maskH_at (b : Fin 2) (h : Fin 8) (r c : Fin 4096) : maskH (ix4 b h r c) = if c.val < r.val then 1#1 else 0#1 := by
  pointwise [maskH]
  rw [WordCmp.cmpi_slt_ofNat (by omega) (by omega)]
  by_cases h : c.val < r.val <;> simp [h]

end Cert.ReferenceIdeal.Sb

end
-- ==== Proof.SbReads.lean ====
/- The blocks the stick-breaking kernel reads at a grid point, as places of its arguments. -/
module

public import proofs.«01_k».proof.Proof.SbFrame
public import Idealize.ShloMosaic.Lib.Pointwise
public import Idealize.ShloMosaic.Lib.Pipeline.ValueKit

@[expose] public section

set_option maxRecDepth 16384

noncomputable section

namespace Cert.KernelIdeal.Sb

open Idealize.ShloMosaic Idealize.ShloMosaic.TcCoe Idealize.SL.Sem
open Cert.KernelIdeal Cert.KernelIdeal.Gen

variable (m : (ℓ : Loc nD τ sig) → Buf (Elt Ideal) ℓ)

/-- The block indices of the windows at grid point `t` = (batch, head, query block). -/
theorem idx_at : ∀ t : Fin cfg0.N,
    win0_0.index t = ![0, 0] ∧ win0_1.index t = ![t.val / 64 * 8 + t.val % 8, t.val / 8 % 8]
    ∧ win0_2.index t = ![t.val / 64, t.val / 8 % 8] ∧ win0_3.index t = ![t.val / 64, 8 + t.val / 8 % 8]
    ∧ win0_4.index t = ![0, 0, 0] ∧ win0_5.index t = ![t.val / 64 * 8 + t.val % 8, t.val / 8 % 8]
    ∧ (grid0.coords t 1).val = t.val / 8 % 8 ∧ (grid0.coords t 2).val = t.val % 8 :=
  (by decide +kernel : ∀ t : Fin grid0.N, _)

/-! ## The reads -/

section reads
variable (c : Dev nD) (n : ℕ) (h : n < cfg0.N)

theorem N_0 : (cfg0.N : ℕ) = 128 := by decide

theorem read_bias (e : Fin 8) : iblk m c 0 ⟨n, h⟩ (ix2 0 e) = m (c.tc.loc main_arg0) (ix2 0 e) := by
  have e' := (idx_at ⟨n, h⟩).1
  blk_ext [iblk, V, e']

theorem read_q (p : Fin 512) (d : Fin 128) :
    X0_1 m c ⟨n, h⟩ (ix2 p d) = m (c.tc.loc main_arg1)
      (ix2 ⟨n / 64 % 2 * 4096 + (n % 8 * 512 + p.val), by omega⟩ ⟨n / 8 % 8 * 128 + d.val, by omega⟩) := by
  have e := (idx_at ⟨n, h⟩).2.1
  have hN : n < 128 := lt_of_lt_of_eq h N_0
  unfold X0_1 Pipeline.Window.fill
  rw [dif_pos (moved0_1 _ _)]
  blk_ext [iblk, V, e]

theorem read_k (p : Fin 4096) (d : Fin 128) :
    iblk m c 2 ⟨n, h⟩ (ix2 p d) = m (c.tc.loc main_arg2)
      (ix2 ⟨n / 64 % 2 * 4096 + p.val, by omega⟩ ⟨n / 8 % 8 * 128 + d.val, by omega⟩) := by
  have e := (idx_at ⟨n, h⟩).2.2.1
  have hN : n < 128 := lt_of_lt_of_eq h N_0
  blk_ext [iblk, V, e]

theorem read_v (p : Fin 4096) (d : Fin 128) :
    iblk m c 3 ⟨n, h⟩ (ix2 p d) = m (c.tc.loc main_arg2)
      (ix2 ⟨n / 64 % 2 * 4096 + p.val, by omega⟩ ⟨1024 + (n / 8 % 8 * 128 + d.val), by omega⟩) := by
  have e := (idx_at ⟨n, h⟩).2.2.2.1
  have hN : n < 128 := lt_of_lt_of_eq h N_0
  blk_ext [iblk, V, e]

theorem read_gain (d : Fin 128) : iblk m c 4 ⟨n, h⟩ (ix3 0 0 d) = m (c.tc.loc main_arg3) (ix3 0 0 d) := by
  have e := (idx_at ⟨n, h⟩).2.2.2.2.1
  blk_ext [iblk, V, e]

end reads

/-- The output array, from what each point writes of it. -/
theorem out_array (c : Dev nD) (G : (⟨S8192x1024, .f32⟩ : BufTy).Contents (Elt Ideal))
    (hG : ∀ (t : Fin cfg0.N) (p : Fin 512) (d : Fin 128), outAt m c t (ix2 p d)
      = G (ix2 ⟨t.val / 64 % 2 * 4096 + (t.val % 8 * 512 + p.val), by omega⟩ ⟨t.val / 8 % 8 * 128 + d.val, by omega⟩)) :
    (dats m 0 c).arrAt 5 cfg0.N = G := by
  refine (dats m 0 c).arrAt_eq_of_covers 5 _ (by decide +kernel) fun t hf y => ?_
  blk_simp
  rw [after5]
  have e := (idx_at t).2.2.2.2.2.1
  have hN : t.val < 128 := lt_of_lt_of_eq t.isLt N_0
  obtain ⟨p, d, rfl⟩ : ∃ (p : Fin 512) (d : Fin 128), y = ix2 p d := ⟨y 0, y 1, eq_ix2 y⟩
  rw [hG]
  blk_ext [e]

end Cert.KernelIdeal.Sb

end
-- ==== Proof.SbResult.lean ====
/- The stick-breaking kernel's result at an element, in terms of its arguments. -/
module

public import proofs.«01_k».proof.Proof.SbReads
public import proofs.«01_k».proof.Proof.SbChain

@[expose] public section

set_option maxRecDepth 16384

noncomputable section

namespace Cert.KernelIdeal.Sb

open Idealize.ShloMosaic Idealize.ShloMosaic.TcCoe Idealize.SL.Sem
open Cert.KernelIdeal Cert.KernelIdeal.Gen
open scoped BigOperators

/-! ## The mathematics, over the arguments -/

/-- The scale of the scores, the float nearest `1/√128`. -/
def scale : ℝ := (Ideal.ofBits .f32 0x3DB504F3#32).toReal

theorem scale_eq : Ideal.ofBits .f32 0x3DB504F3#32 = (scale : EReal) := by
  have h : ∃ x : ℝ, Ideal.ofBits .f32 0x3DB504F3#32 = (x : EReal) := by
    simp only [Ideal.ofBits, Ideal.ieee]
    split <;> [skip; (split <;> [exact ⟨_, rfl⟩; exact ⟨_, rfl⟩])]
    next h => exact absurd h (by decide)
  obtain ⟨x, h⟩ := h
  rw [scale, h, EReal.toReal_coe]

section args

variable (bias : FVec Ideal S2x8 .f32) (q : FVec Ideal S8320x1280 .f32) (kv : FVec Ideal S8192x2048 .f32)
  (gain : FVec Ideal S2x1x128 .f32)

/-- The scores' arguments are finite. -/
structure Finite : Prop where
  bias : ∀ h : Fin 8, ∃ x : ℝ, bias (ix2 0 h) = x
  q : ∀ (r : Fin 8192) (d : Fin 1024), ∃ x : ℝ, q (ix2 ⟨r.val, by omega⟩ ⟨d.val, by omega⟩) = x
  k : ∀ (r : Fin 8192) (d : Fin 1024), ∃ x : ℝ, kv (ix2 r ⟨d.val, by omega⟩) = x

/-- Query `R` of head `h` in batch `b`, and its key and value rows. -/
def query (b : Fin 2) (h : Fin 8) (R : Fin 4096) (d : Fin 128) : EReal :=
  q (ix2 ⟨b.val * 4096 + R.val, by omega⟩ ⟨h.val * 128 + d.val, by omega⟩)
def key (b : Fin 2) (h : Fin 8) (C : Fin 4096) (d : Fin 128) : EReal :=
  kv (ix2 ⟨b.val * 4096 + C.val, by omega⟩ ⟨h.val * 128 + d.val, by omega⟩)
def value (b : Fin 2) (h : Fin 8) (C : Fin 4096) (d : Fin 128) : EReal :=
  kv (ix2 ⟨b.val * 4096 + C.val, by omega⟩ ⟨1024 + (h.val * 128 + d.val), by omega⟩)

/-- The score of query `R` against key `C`, a real number. -/
def score (b : Fin 2) (h : Fin 8) (R C : Fin 4096) : ℝ :=
  (∑ d : Fin 128, (query q b h R d).toReal * (key kv b h C d).toReal) * scale + (bias (ix2 0 h)).toReal

/-- The same, the key's position a natural number. -/
def scoreAt (b : Fin 2) (h : Fin 8) (R : Fin 4096) (C : ℕ) : ℝ := score bias q kv b h R ⟨C % 4096, Nat.mod_lt _ (by decide)⟩

/-- What query `R` gathers. -/
def attended (b : Fin 2) (h : Fin 8) (R : Fin 4096) (d : Fin 128) : EReal :=
  ∑ C : Fin 4096, (weightOf (scoreAt bias q kv b h R) R.val 4096 C.val : EReal) * value kv b h C d

variable {bias q kv} (hf : Finite bias q kv)

theorem coe_of {x : EReal} (h : ∃ r : ℝ, x = r) : x = (x.toReal : EReal) := by
  obtain ⟨r, rfl⟩ := h; rfl

theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

include hf in
theorem query_coe (b : Fin 2) (h : Fin 8) (R : Fin 4096) (d : Fin 128) : query q b h R d = ((query q b h R d).toReal : EReal) :=
  coe_of (hf.q ⟨b.val * 4096 + R.val, by omega⟩ ⟨h.val * 128 + d.val, by omega⟩)

include hf in
theorem key_coe (b : Fin 2) (h : Fin 8) (R : Fin 4096) (d : Fin 128) : key kv b h R d = ((key kv b h R d).toReal : EReal) :=
  coe_of (hf.k ⟨b.val * 4096 + R.val, by omega⟩ ⟨h.val * 128 + d.val, by omega⟩)

include hf in
/-- The score with the scale on the sum, as the reference has it. -/
theorem score_eq (b : Fin 2) (h : Fin 8) (R C : Fin 4096) :
    (∑ d : Fin 128, query q b h R d * key kv b h C d) * Ideal.ofBits .f32 0x3DB504F3#32 + bias (ix2 0 h)
      = (score bias q kv b h R C : EReal) := by
  unfold score
  rw [scale_eq, EReal.coe_add, EReal.coe_mul, coe_sum, ← coe_of (hf.bias h)]
  refine congrArg (fun x => x * (scale : EReal) + _) (Finset.sum_congr rfl fun d _ => ?_)
  rw [EReal.coe_mul, ← query_coe hf, ← key_coe hf]

include hf in
/-- The score with the scale on each query entry, as the kernel has it. -/
theorem score_eq' (b : Fin 2) (h : Fin 8) (R C : Fin 4096) :
    (∑ d : Fin 128, query q b h R d * Ideal.ofBits .f32 0x3DB504F3#32 * key kv b h C d) + bias (ix2 0 h)
      = (score bias q kv b h R C : EReal) := by
  unfold score
  rw [scale_eq, EReal.coe_add, Finset.sum_mul, coe_sum, ← coe_of (hf.bias h)]
  refine congrArg (· + _) (Finset.sum_congr rfl fun d _ => ?_)
  rw [query_coe hf, key_coe hf, ← EReal.coe_mul, ← EReal.coe_mul, EReal.toReal_coe, EReal.toReal_coe, mul_right_comm]

end args

/-- A row divided by the root of its mean square, times the gains. -/
def normed (a : Fin 128 → EReal) (g : EReal) (d : Fin 128) : EReal :=
  a d * Ideal.rsqrt (Ideal.div (∑ x, a x * a x) (Ideal.ofBits .f32 0x43000000#32) + Ideal.ofBits .f32 0x358637BD#32) * g

theorem norm_at (acc : FVec Ideal S512x128 .f32) (g : FVec Ideal S1x1x128 .f32) (row : Fin 512) (d : Fin 128) :
    k0_pay5 (F := Ideal) acc g (ix2 row d) = normed (fun d => acc (ix2 row d)) (g (ix3 0 0 d)) d := by
  unfold normed
  pointwise [k0_pay5]

theorem scaled_at (x : FVec Ideal S512x128 .f32) (row : Fin 512) (d : Fin 128) :
    k0_pay79 (F := Ideal) x (ix2 row d) = x (ix2 row d) * Ideal.ofBits .f32 0x3DB504F3#32 := by
  pointwise [k0_pay79]

/-! ## One point's block, and the array -/

variable (m : (ℓ : Loc nD τ sig) → Buf (Elt Ideal) ℓ) (c : Dev nD)

/-- Element `(row, column)` of the result. -/
def resultAt (b : Fin 2) (h : Fin 8) (R : Fin 4096) (d : Fin 128) : EReal :=
  normed (attended (m (c.tc.loc main_arg0)) (m (c.tc.loc main_arg1)) (m (c.tc.loc main_arg2)) b h R) (m (c.tc.loc main_arg3) (ix3 0 0 d)) d

theorem out_at (hf : Finite (m (c.tc.loc main_arg0)) (m (c.tc.loc main_arg1)) (m (c.tc.loc main_arg2)))
    (n : ℕ) (hn : n < cfg0.N) (p : Fin 512) (d : Fin 128) :
    outAt m c ⟨n, hn⟩ (ix2 p d) = resultAt m c ⟨n / 64 % 2, by omega⟩ ⟨n / 8 % 8, by omega⟩ ⟨n % 8 * 512 + p.val, by omega⟩ d := by
  have e1 : (grid0.coords ⟨n, hn⟩ 1) = (⟨n / 8 % 8, by omega⟩ : Fin 8) := Fin.ext (idx_at ⟨n, hn⟩).2.2.2.2.2.2.1
  have e2 : (grid0.coords ⟨n, hn⟩ 2).val = n % 8 := (idx_at ⟨n, hn⟩).2.2.2.2.2.2.2
  rw [outAt_eq, e1, e2]
  refine (norm_at _ _ p d).trans ?_
  rw [read_gain]
  unfold resultAt
  refine congrFun (congrArg (normed · _) (funext fun d' => ?_)) d
  refine (visited_at _ _ _ _ (fun row => scoreAt (m (c.tc.loc main_arg0)) (m (c.tc.loc main_arg1)) (m (c.tc.loc main_arg2))
    ⟨n / 64 % 2, by omega⟩ ⟨n / 8 % 8, by omega⟩ ⟨n % 8 * 512 + row.val, by omega⟩) (n % 8) (by omega)
    (fun k _ row j => ?_) p d').trans ?_
  · rw [scores_at, read_bias]
    refine Eq.trans (congrArg (· + _) (Finset.sum_congr rfl fun d'' _ => ?_)) (score_eq' hf ⟨n / 64 % 2, by omega⟩ ⟨n / 8 % 8, by omega⟩
      ⟨n % 8 * 512 + row.val, by omega⟩ ⟨(512 * k + j.val) % 4096, Nat.mod_lt _ (by decide)⟩)
    rw [scaled_at, read_q, rows_at, read_k]
    rfl
  · refine Finset.sum_congr rfl fun C _ => ?_
    rw [read_v, Nat.mul_comm 512 (n % 8)]
    rfl

/-- The array of results. -/
def result : (⟨S8192x1024, .f32⟩ : BufTy).Contents (Elt Ideal) := fun i =>
  resultAt m c ⟨(i 0).val / 4096 % 2, by omega⟩ ⟨(i 1).val / 128 % 8, by omega⟩ ⟨(i 0).val % 4096, by omega⟩ ⟨(i 1).val % 128, by omega⟩

theorem result_at (b : Fin 2) (h : Fin 8) (R : Fin 4096) (d : Fin 128) :
    result m c (ix2 ⟨b.val * 4096 + R.val, by omega⟩ ⟨h.val * 128 + d.val, by omega⟩) = resultAt m c b h R d := by
  have e0 : (⟨(b.val * 4096 + R.val) / 4096 % 2, by omega⟩ : Fin 2) = b := Fin.ext (by show _ % 2 = _; omega)
  have e1 : (⟨(h.val * 128 + d.val) / 128 % 8, by omega⟩ : Fin 8) = h := Fin.ext (by show _ % 8 = _; omega)
  have e2 : (⟨(b.val * 4096 + R.val) % 4096, by omega⟩ : Fin 4096) = R := Fin.ext (by show _ % 4096 = _; omega)
  have e3 : (⟨(h.val * 128 + d.val) % 128, by omega⟩ : Fin 128) = d := Fin.ext (by show _ % 128 = _; omega)
  show resultAt m c ⟨(b.val * 4096 + R.val) / 4096 % 2, _⟩ ⟨(h.val * 128 + d.val) / 128 % 8, _⟩ ⟨(b.val * 4096 + R.val) % 4096, _⟩
    ⟨(h.val * 128 + d.val) % 128, _⟩ = _
  rw [e0, e1, e2, e3]

theorem array_eq (hf : Finite (m (c.tc.loc main_arg0)) (m (c.tc.loc main_arg1)) (m (c.tc.loc main_arg2))) :
    (dats m 0 c).arrAt 5 cfg0.N = result m c :=
  out_array m c _ fun t p d => (out_at m c hf t.val t.isLt p d).trans
    (result_at m c ⟨t.val / 64 % 2, by omega⟩ ⟨t.val / 8 % 8, by omega⟩ ⟨t.val % 8 * 512 + p.val, by omega⟩ d).symm

end Cert.KernelIdeal.Sb

end
-- ==== Proof.SbReference.lean ====
/- The stick-breaking reference at an element: with real scores, its weights are the kernel's. -/
module

public import proofs.«01_k».proof.Proof.SbWindow
public import proofs.«01_k».proof.Proof.SbResult

@[expose] public section

set_option maxRecDepth 16384

noncomputable section

namespace Cert.ReferenceIdeal.Sb

open Idealize.ShloMosaic Idealize.ShloMosaic.TcCoe Idealize.SL.Sem
open Cert.ReferenceIdeal Cert.ReferenceIdeal.Gen
open Cert.KernelIdeal.Sb (softplus spendOf weightOf normed query key value score scoreAt attended Finite score_eq coe_sum)
open scoped BigOperators

/-! ## The weights -/

/-- Zero everywhere. -/
def zeroH : FVec Ideal S2x8x4096x4096 .f32 :=
  broadcastInDim S2x8x4096x4096 ![] bcast_S_S2x8x4096x4096 (id (constant S_ .f32 0x00000000#32))

theorem zeroH_at (p : S2x8x4096x4096.Idx) : zeroH p = 0 := by
  show Ideal.ofBits .f32 0x00000000#32 = 0
  simp [Ideal.ofBits, Ideal.ieee]

theorem masked_at (x y : FVec Ideal S2x8x4096x4096 .f32) (b : Fin 2) (h : Fin 8) (r c : Fin 4096) :
    select maskH x y (ix4 b h r c) = if c.val < r.val then x (ix4 b h r c) else y (ix4 b h r c) := by
  show (if maskH (ix4 b h r c) = 1#1 then _ else _) = _
  rw [maskH_at]
  by_cases h : c.val < r.val <;> simp [h]

/-- What each column takes from the logarithm of the stick, and the running sum of it from a column on. -/
def lossH (z : FVec Ideal S2x8x4096x4096 .f32) : FVec Ideal S2x8x4096x4096 .f32 :=
  select maskH (Host.negf (softH (Host.negf (Host.negf z)))) zeroH
def lossesH (x : FVec Ideal S2x8x4096x4096 .f32) : FVec Ideal S2x8x4096x4096 .f32 :=
  Host.reduceWindowAdd ![1, 1, 1, 4096] ![1, 1, 1, 1] ![0, 0, 0, 0] ![0, 0, 0, 4095] x (broadcastInDim S_ ![] bcast_S_S_ (constant S_ .f32 0x00000000#32))
    reduceWindows_S2x8x4096x4096_S2x8x4096x4096_w1s1p0_0_w1s1p0_0_w1s1p0_0_w4096s1p0_4095 h_S_
/-- The weights. -/
def weightH (z : FVec Ideal S2x8x4096x4096 .f32) : FVec Ideal S2x8x4096x4096 .f32 :=
  select maskH (Host.exp (addf (Host.negf (softH (Host.negf z))) (subf (lossesH (lossH z)) (lossH z)))) zeroH

theorem softplus_neg (x : ℝ) : softplus (-x) = softplus x - x := by
  unfold softplus
  rw [abs_neg]
  rcases le_total 0 x with h | h
  · rw [max_eq_left h, max_eq_right (by linarith)]; ring
  · rw [max_eq_right h, max_eq_left (by linarith)]; ring

theorem sum_from (g : ℕ → ℝ) (c : ℕ) (hc : c < 4096) :
    ∑ n : Fin 4096, (if c + n.val < 4096 then g (c + n.val) else 0) = g c + ∑ D ∈ Finset.Ico (c + 1) 4096, g D := by
  rw [← Finset.sum_eq_sum_Ico_succ_bot hc g, Finset.sum_Ico_eq_sum_range,
    Fin.sum_univ_eq_sum_range (fun n => if c + n < 4096 then g (c + n) else 0) 4096, ← Finset.sum_filter]
  refine Finset.sum_congr ?_ fun _ _ => rfl
  ext n
  simp only [Finset.mem_filter, Finset.mem_range]
  omega

section

variable (z : FVec Ideal S2x8x4096x4096 .f32) (ζ : Fin 2 → Fin 8 → Fin 4096 → ℕ → ℝ)
  (hz : ∀ b h r (c : Fin 4096), z (ix4 b h r c) = (ζ b h r c.val : EReal))

include hz in
theorem loss_at (b : Fin 2) (h : Fin 8) (r c : Fin 4096) :
    lossH z (ix4 b h r c) = ((-spendOf (ζ b h r) r.val c.val : ℝ) : EReal) := by
  have e : Host.negf (Host.negf z) (ix4 b h r c) = (ζ b h r c.val : EReal) := by
    show - - z (ix4 b h r c) = _
    rw [neg_neg, hz]
  refine (masked_at _ _ b h r c).trans ?_
  unfold spendOf
  by_cases hc : c.val < r.val
  · rw [if_pos hc, if_pos hc]
    show - softH _ (ix4 b h r c) = _
    rw [softH_at _ _ _ e, EReal.coe_neg]
  · rw [if_neg hc, if_neg hc, zeroH_at, neg_zero, EReal.coe_zero]

include hz in
theorem losses_at (b : Fin 2) (h : Fin 8) (r c : Fin 4096) :
    lossesH (lossH z) (ix4 b h r c)
      = ((-(spendOf (ζ b h r) r.val c.val + ∑ D ∈ Finset.Ico (c.val + 1) 4096, spendOf (ζ b h r) r.val D) : ℝ) : EReal) := by
  refine (window_at _ _ (fun p => by pointwise) b h r c).trans ?_
  rw [← sum_from _ _ c.isLt, ← Finset.sum_neg_distrib, coe_sum]
  refine Finset.sum_congr rfl fun n _ => ?_
  by_cases hn : c.val + n.val < 4096
  · rw [dif_pos hn, if_pos hn, loss_at z ζ hz]
  · rw [dif_neg hn, if_neg hn, neg_zero, EReal.coe_zero]

include hz in
theorem weight_at (b : Fin 2) (h : Fin 8) (r c : Fin 4096) :
    weightH z (ix4 b h r c) = (weightOf (ζ b h r) r.val 4096 c.val : EReal) := by
  have e : Host.negf z (ix4 b h r c) = ((-ζ b h r c.val : ℝ) : EReal) := by
    show - z (ix4 b h r c) = _
    rw [hz, EReal.coe_neg]
  refine (masked_at _ _ b h r c).trans ?_
  unfold weightOf
  by_cases hc : c.val < r.val
  · rw [if_pos hc, if_pos hc]
    show Ideal.exp (- softH _ (ix4 b h r c) + (lossesH (lossH z) (ix4 b h r c) - lossH z (ix4 b h r c))) = _
    rw [softH_at _ _ _ e, losses_at z ζ hz, loss_at z ζ hz, ← EReal.coe_neg, ← EReal.coe_sub, ← EReal.coe_add, Ideal.exp_coe,
      softplus_neg]
    refine congrArg (fun x : ℝ => ((Real.exp x : ℝ) : EReal)) ?_
    ring
  · rw [if_neg hc, if_neg hc, zeroH_at, EReal.coe_zero]

end

/-! ## The scores, the gathered values and their norm -/

def scoreH (bias : FVec Ideal S2x8 .f32) (q : FVec Ideal S8320x1280 .f32) (kv : FVec Ideal S8192x2048 .f32) :
    FVec Ideal S2x8x4096x4096 .f32 :=
  addf (mulf (Host.dotGeneral dot_S2x4096x8x128_S2x4096x8x128_S2x8x4096x4096_3_3_1_1_02_02 none (shapeCast _ (extractStridedSlice S8192x1024 ![0, 0] q slices_S8320x1280_S8192x1024_0_0) shapeCasts_S8192x1024_S2x4096x8x128) (shapeCast _ (extractStridedSlice S8192x1024 ![0, 0] kv slices_S8192x2048_S8192x1024_0_0) shapeCasts_S8192x1024_S2x4096x8x128)) (broadcastInDim S2x8x4096x4096 ![] bcast_S_S2x8x4096x4096 (constant S_ .f32 0x3DB504F3#32))) (broadcastInDim S2x8x4096x4096 ![0, 1, 2, 3] bcast_S1x8x1x1_S2x8x4096x4096_0_1_2_3 (broadcastInDim S1x8x1x1 ![1] bcast_S8_S1x8x1x1_1 (shapeCast _ (extractStridedSlice S1x8 ![0, 0] bias slices_S2x8_S1x8_0_0) shapeCasts_S1x8_S8)))

theorem scoreH_at (bias : FVec Ideal S2x8 .f32) (q : FVec Ideal S8320x1280 .f32) (kv : FVec Ideal S8192x2048 .f32)
    (b : Fin 2) (h : Fin 8) (r c : Fin 4096) :
    scoreH bias q kv (ix4 b h r c)
      = (∑ d : Fin 128, query q b h r d * key kv b h c d) * Ideal.ofBits .f32 0x3DB504F3#32 + bias (ix2 0 h) := by
  unfold query key
  pointwise [scoreH]

def gatherH (kv : FVec Ideal S8192x2048 .f32) (w : FVec Ideal S2x8x4096x4096 .f32) : FVec Ideal S2x4096x8x128 .f32 :=
  transpose S2x4096x8x128 [0, 3, 1, 2] (Host.dotGeneral dot_S2x4096x8x128_S2x8x4096x4096_S2x8x128x4096_1_3_3_2_02_01 none (shapeCast _ (extractStridedSlice S8192x1024 ![0, 1024] kv slices_S8192x2048_S8192x1024_0_1024) shapeCasts_S8192x1024_S2x4096x8x128) w) transposes_S2x8x128x4096_S2x4096x8x128_0_3_1_2

theorem gatherH_at (kv : FVec Ideal S8192x2048 .f32) (w : FVec Ideal S2x8x4096x4096 .f32) (b : Fin 2) (r : Fin 4096) (h : Fin 8)
    (d : Fin 128) : gatherH kv w (ix4 b r h d) = ∑ c : Fin 4096, w (ix4 b h r c) * value kv b h c d := by
  unfold value
  pointwise [gatherH]
  exact Finset.sum_congr rfl fun c _ => mul_comm _ _

def normH (a : FVec Ideal S2x4096x8x128 .f32) (gain : FVec Ideal S2x1x128 .f32) : FVec Ideal S2x4096x8x128 .f32 :=
  mulf (mulf a (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf a a) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 (shapeCast _ (extractStridedSlice S1x1x128 ![0, 0, 0] gain slices_S2x1x128_S1x1x128_0_0_0) shapeCasts_S1x1x128_S128)))

theorem normH_at (a : FVec Ideal S2x4096x8x128 .f32) (gain : FVec Ideal S2x1x128 .f32) (b : Fin 2) (r : Fin 4096) (h : Fin 8)
    (d : Fin 128) : normH a gain (ix4 b r h d) = normed (fun d => a (ix4 b r h d)) (gain (ix3 0 0 d)) d := by
  unfold normed
  pointwise [normH]

/-! ## The whole reference -/

def referenceH (bias : FVec Ideal S2x8 .f32) (q : FVec Ideal S8320x1280 .f32) (kv : FVec Ideal S8192x2048 .f32)
    (gain : FVec Ideal S2x1x128 .f32) : FVec Ideal S8192x1024 .f32 :=
  shapeCast _ (normH (gatherH kv (weightH (scoreH bias q kv))) gain) shapeCasts_S2x4096x8x128_S8192x1024

theorem flat_at (a : FVec Ideal S2x4096x8x128 .f32) (b : Fin 2) (r : Fin 4096) (h : Fin 8) (d : Fin 128) :
    (shapeCast S8192x1024 a shapeCasts_S2x4096x8x128_S8192x1024 : FVec Ideal S8192x1024 .f32)
      (ix2 ⟨b.val * 4096 + r.val, by omega⟩ ⟨h.val * 128 + d.val, by omega⟩) = a (ix4 b r h d) := by
  pointwise

theorem reference_at {bias : FVec Ideal S2x8 .f32} {q : FVec Ideal S8320x1280 .f32} {kv : FVec Ideal S8192x2048 .f32}
    (gain : FVec Ideal S2x1x128 .f32) (hf : Finite bias q kv) (b : Fin 2) (r : Fin 4096) (h : Fin 8) (d : Fin 128) :
    referenceH bias q kv gain (ix2 ⟨b.val * 4096 + r.val, by omega⟩ ⟨h.val * 128 + d.val, by omega⟩)
      = normed (attended bias q kv b h r) (gain (ix3 0 0 d)) d := by
  refine (flat_at _ b r h d).trans ((normH_at _ _ b r h d).trans (congrFun (congrArg (normed · _) (funext fun d' => ?_)) d))
  refine (gatherH_at _ _ b r h d').trans (Finset.sum_congr rfl fun c _ => ?_)
  rw [weight_at (scoreH bias q kv) (scoreAt bias q kv) fun b h r c => ?_]
  have e : (⟨c.val % 4096, Nat.mod_lt _ (by decide)⟩ : Fin 4096) = c := Fin.ext (Nat.mod_eq_of_lt c.isLt)
  rw [scoreH_at, score_eq hf, scoreAt, e]

end Cert.ReferenceIdeal.Sb

end
-- ==== Proof.SbClaims.lean ====
/- The claims about the stick-breaking call: every argument unchanged and every counter back at zero for the kernel, its
   idealization and its reference, and the two results equal over extended reals. -/
module

public import proofs.«01_k».proof.Defs
public import proofs.«01_k».proof.Proof.SbReference
public import proofs.«01_k».proof.Proof.SbPFrame
public import proofs.«01_k».proof.Proof.Gen.ReferenceIdeal.Run
public import proofs.«01_k».proof.Proof.Gen.Pre_scores_finite
public import Idealize.ShloMosaic.Lib.Claim

@[expose] public section

set_option maxRecDepth 16384

noncomputable section

namespace Cert.KernelIdeal.Sb

open Idealize.ShloMosaic Idealize.ShloMosaic.TcCoe Idealize.SL.Sem
open scoped BigOperators

/-- A value whose magnitude is below infinity is a real number. -/
theorem real_of_abs_lt {x : EReal} (h : max x (-x) < ⊤) : ∃ r : ℝ, x = r := by
  induction x with
  | bot => simp at h
  | top => simp at h
  | coe r => exact ⟨r, rfl⟩

/-- The pattern of positive infinity denotes the top extended real. -/
theorem ofBits_inf : Ideal.ofBits .f32 0x7F800000#32 = ⊤ := by
  simp [Ideal.ofBits, Ideal.ieee]

/-- The comparison with infinity, read as a bit. -/
theorem real_of_olt {x : EReal} (h : BitVec.ofBool (decide (max x (-x) < Ideal.ofBits .f32 0x7F800000#32)) = 1#1) :
    ∃ r : ℝ, x = r := by
  rw [ofBits_inf] at h
  refine real_of_abs_lt ?_
  by_contra hn
  simp [hn] at h

/-- What the precondition says. -/
theorem finite_of_pre {bias : FVec Ideal Cert.Pre_scores_finite.S2x8 .f32} {q : FVec Ideal Cert.Pre_scores_finite.S8320x1280 .f32}
    {kv : FVec Ideal Cert.Pre_scores_finite.S8192x2048 .f32} {gain : FVec Ideal Cert.Pre_scores_finite.S2x1x128 .f32}
    (h : (Cert.Pre_scores_finite.fn (F := Ideal) bias q kv gain).1 = (fun _ => 1#1)
      ∧ (Cert.Pre_scores_finite.fn (F := Ideal) bias q kv gain).2.1 = (fun _ => 1#1)
      ∧ (Cert.Pre_scores_finite.fn (F := Ideal) bias q kv gain).2.2 = (fun _ => 1#1)) : Finite bias q kv where
  bias e := by
    have h' := congrFun h.1 (ix1 e)
    pointwise [Cert.Pre_scores_finite.fn] at h'
    exact real_of_olt h'
  q r d := by
    have h' := congrFun h.2.1 (ix2 r d)
    pointwise [Cert.Pre_scores_finite.fn] at h'
    exact real_of_olt h'
  k r d := by
    have h' := congrFun h.2.2 (ix2 r d)
    pointwise [Cert.Pre_scores_finite.fn] at h'
    exact real_of_olt h'

theorem quiescent_P : Cert.quiescent_Kernel := fun m ρ _ => Cert.Kernel.Sb.frame m ρ
theorem quiescent_PI : Cert.quiescent_KernelIdeal := fun m ρ _ => frame m ρ
theorem quiescent_PI_pre : Cert.quiescent_KernelIdeal_pre_scores_finite := fun m ρ _ => frame m ρ
theorem quiescent_RI : Cert.quiescent_ReferenceIdeal := by
  intro m ρ _
  exact (θ_run _ _ _).mono (fun r h => ⟨fun c => (h c).2, sem_eq_zero_of_no_sems (by decide) r.2⟩) (Cert.ReferenceIdeal.Value.run m ρ)
theorem quiescent_RI_pre : Cert.quiescent_ReferenceIdeal_pre_scores_finite := fun m g _ => quiescent_RI m g trivial

/-- The reference's composed term is the stages'. -/
theorem reference_eq (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v46 m c
      = Cert.ReferenceIdeal.Sb.referenceH (m (c.tc.loc Cert.ReferenceIdeal.main_arg0)) (m (c.tc.loc Cert.ReferenceIdeal.main_arg1))
        (m (c.tc.loc Cert.ReferenceIdeal.main_arg2)) (m (c.tc.loc Cert.ReferenceIdeal.main_arg3)) := rfl

theorem results_equal : Cert.algebraic_KernelIdeal_ReferenceIdeal_pre_scores_finite := by
  intro m ρ m' ρ' hpre hag
  have hf := fun c => finite_of_pre (hpre c)
  refine ⟨fun c => result m c, ?_, (θ_run _ _ _).mono (fun _ h c => ⟨(h c).1.trans ?_, (h c).2⟩) (Cert.ReferenceIdeal.Value.run m' ρ')⟩
  · exact (θ_run _ _ _).mono (fun r h c => ⟨((h.1 c).1 5).trans (array_eq m c (hf c)), h.2.1 c⟩)
      (θ_run_and (run_main m ρ) (frame m ρ))
  · obtain ⟨h0, h1, h2, h3⟩ := hag c
    rw [reference_eq, h0, h1, h2, h3]
    funext i
    obtain ⟨b, R, h, d, rfl⟩ : ∃ (b : Fin 2) (R : Fin 4096) (h : Fin 8) (d : Fin 128),
        i = ix2 ⟨b.val * 4096 + R.val, by omega⟩ ⟨h.val * 128 + d.val, by omega⟩ := by
      have h0 : (i 0).val < 8192 := (i 0).isLt
      have h1 : (i 1).val < 1024 := (i 1).isLt
      refine ⟨⟨(i 0).val / 4096, by omega⟩, ⟨(i 0).val % 4096, by omega⟩, ⟨(i 1).val / 128, by omega⟩, ⟨(i 1).val % 128, by omega⟩,
        (eq_ix2 i).trans (congrArg₂ ix2 (Fin.ext ?_) (Fin.ext ?_))⟩
      · show (i 0).val = (i 0).val / 4096 * 4096 + (i 0).val % 4096
        omega
      · show (i 1).val = (i 1).val / 128 * 128 + (i 1).val % 128
        omega
    exact (Cert.ReferenceIdeal.Sb.reference_at _ (hf c) b R h d).trans (result_at m c b h R d).symm

end Cert.KernelIdeal.Sb

end
-- ==== Proof.DenseBlock.lean ====
/- The first layer's gated feed-forward: what one grid point adds to its output block, and the array the
   points leave, over extended reals. Its routing weights are all one. -/
module

public import proofs.«01_k».proof.Proof.FfnBlock
public import proofs.«01_k».proof.Proof.Gen.DenseIdeal.Value

@[expose] public section

set_option maxRecDepth 16384

noncomputable section

namespace Cert.DenseIdeal.Val

open Cert.DenseIdeal Cert.DenseIdeal.Gen Idealize.ShloMosaic Idealize.ShloMosaic.TcCoe Idealize.SL.Sem
open Cert.FfnIdeal.Val (silu lane_sum)
open scoped BigOperators

variable (m : (ℓ : Loc nD τ sig) → Buf (Elt Ideal) ℓ)

/-- Token `t`'s product with column `f` of a projection. -/
def row (x : FVec Ideal S8320x2048 .bf16) (W : FVec Ideal S1x2048x5632 .f32) (t : Fin 8320) (f : Fin 5632) : EReal :=
  ∑ k : Fin 2048, x (ix2 t k) * W (ix3 0 k f)

/-- Hidden feature `f` of token `t`, through the down projection to output feature `d`. -/
def term (x : FVec Ideal S8320x2048 .bf16) (wg wu : FVec Ideal S1x2048x5632 .f32) (wd : FVec Ideal S1x5632x2048 .f32)
    (t : Fin 8320) (d : Fin 2048) (f : Fin 5632) : EReal :=
  silu (row x wg t f) * row x wu t f * wd (ix3 0 f d)

theorem dense_step (i : grid0.Coords) (acc : Vec Ideal S832x2048 .f32) (x : Vec Ideal S832x2048 .bf16)
    (gt : Vec Ideal S832x128 .f32) (wg wu : Vec Ideal S1x2048x512 .f32) (wd : Vec Ideal S1x512x2048 .f32)
    (p : Fin 832) (d : Fin 2048) (hg : gt (ix2 p 0) = 1) :
    k0_pay1 (k0_pay3 i x wg wu gt) (k0_pay4 acc) (k0_pay5 wd) (ix2 p d)
      = acc (ix2 p d) + ∑ f : Fin 512, silu (∑ k : Fin 2048, x (ix2 p k) * wg (ix3 0 k f))
          * (∑ k : Fin 2048, x (ix2 p k) * wu (ix3 0 k f)) * wd (ix3 0 f d) := by
  have h := lane_sum (fun k => gt (ix2 p k)) 0 0 rfl
  have h1 : gt (ix2 p (⟨(0 : Fin 8).val, by omega⟩ : Fin 128)) = 1 := hg
  rw [h1] at h
  pointwise [k0_pay1, k0_pay3, k0_pay4, k0_pay5]
  simp only [silu]
  rw [h]
  simp only [mul_one]

theorem dense_idx : ∀ t : Fin cfg0.N,
    win0_0.index t = ![t.val / 11, 0] ∧ win0_1.index t = ![t.val / 11, 0] ∧ win0_2.index t = ![0, 0, t.val % 11]
    ∧ win0_3.index t = ![0, 0, t.val % 11] ∧ win0_4.index t = ![0, t.val % 11, 0] :=
  (by decide +kernel : ∀ t : Fin grid0.N, _)

/-- The routing weights the call is given: ones. -/
def ones : FVec Ideal S8320x128 .f32 :=
  broadcastInDim S8320x128 ![] bcast_S_S8320x128 (constant S_ .f32 0x3F800000#32)

theorem ones_at (c : Dev nD) (t : Fin 8320) (k : Fin 128) :
    (V m c main_v0 : (⟨S8320x128, .f32⟩ : BufTy).Contents (Elt Ideal)) (ix2 t k) = (1 : EReal) := by
  have e : V m c main_v0 = (ones : (⟨S8320x128, .f32⟩ : BufTy).Contents (Elt Ideal)) := by
    show StableHlo.after hostOps0 (fun b => m (c, b)) main_v0 = _
    after_results <;> rfl
  rw [e]
  pointwise [ones]

/-- Token `p` of point `n`'s tile. -/
abbrev tok (n : ℕ) (p : Fin 832) : Fin 8320 := ⟨(832 * (n / 11) + p.val) % 8320, Nat.mod_lt _ (by decide)⟩
/-- Hidden feature `f` of point `n`'s tile. -/
abbrev feat (n : ℕ) (f : Fin 512) : Fin 5632 := ⟨n % 11 * 512 + f.val, by have := f.isLt; omega⟩

/-- The addend of point `n` at an element of its block. -/
def part (c : Dev nD) (n : ℕ) (j : S832x2048.Idx) : EReal :=
  ∑ f : Fin 512, term (m (c.tc.loc main_arg0)) (m (c.tc.loc main_arg1)) (m (c.tc.loc main_arg2)) (m (c.tc.loc main_arg3))
    ⟨(832 * (n / 11) + (j 0).val) % 8320, Nat.mod_lt _ (by decide)⟩ (j 1) (feat n f)

section reads
variable (c : Dev nD) (n : ℕ) (h : n < cfg0.N)

theorem tokens (p : Fin 832) (k : Fin 2048) :
    iblk m c 0 ⟨n, h⟩ (ix2 p k) = m (c.tc.loc main_arg0) (ix2 (tok n p) k) := by
  have e := (dense_idx ⟨n, h⟩).1
  have hN : n < 110 := lt_of_lt_of_eq h N_0
  rw [← V_main_arg0 m c]
  blk_ext [iblk, e]

theorem weight_one (p : Fin 832) (k : Fin 128) : iblk m c 1 ⟨n, h⟩ (ix2 p k) = (1 : EReal)  := by
  have e := (dense_idx ⟨n, h⟩).2.1
  have hN : n < 110 := lt_of_lt_of_eq h N_0
  rw [← ones_at m c (tok n p) k]
  blk_ext [iblk, e]

theorem gate_cols (k : Fin 2048) (f : Fin 512) :
    iblk m c 2 ⟨n, h⟩ (ix3 0 k f) = m (c.tc.loc main_arg1) (ix3 0 k (feat n f)) := by
  have e := (dense_idx ⟨n, h⟩).2.2.1
  rw [← V_main_arg1 m c]
  blk_ext [iblk, e]

theorem up_cols (k : Fin 2048) (f : Fin 512) :
    iblk m c 3 ⟨n, h⟩ (ix3 0 k f) = m (c.tc.loc main_arg2) (ix3 0 k (feat n f)) := by
  have e := (dense_idx ⟨n, h⟩).2.2.2.1
  rw [← V_main_arg2 m c]
  blk_ext [iblk, e]

theorem down_rows (f : Fin 512) (d : Fin 2048) :
    iblk m c 4 ⟨n, h⟩ (ix3 0 f d) = m (c.tc.loc main_arg3) (ix3 0 (feat n f) d) := by
  have e := (dense_idx ⟨n, h⟩).2.2.2.2
  rw [← V_main_arg3 m c]
  blk_ext [iblk, e]

end reads

theorem dense_point (c : Dev nD) (n : ℕ) (h : n < cfg0.N) (acc : Vec Ideal S832x2048 .f32) (j : S832x2048.Idx) :
    Value.step5 m c n h acc j = acc j + part m c n j := by
  obtain ⟨p, d, rfl⟩ : ∃ (p : Fin 832) (d : Fin 2048), j = ix2 p d := ⟨j 0, j 1, eq_ix2 j⟩
  unfold Value.step5
  refine (dense_step _ _ _ _ _ _ _ p d (weight_one m c n h p 0)).trans
    (congrArg (acc (ix2 p d) + ·) ?_)
  refine Finset.sum_congr rfl fun f _ => ?_
  rw [down_rows]
  simp only [tokens, gate_cols, up_cols]
  rfl

theorem dense_reset (c : Dev nD) (n : ℕ) (h : n < cfg0.N) (j : S832x2048.Idx) :
    Value.reset5 m c n h j = 0 + part m c n j := by
  have hz : (k0_pay2 (F := Ideal)) j = 0 := by pointwise [k0_pay2]
  rw [← hz]
  exact dense_point m c n h _ j

/-- The call's result at token `t`, output feature `d`. -/
theorem dense_result (c : Dev nD) (t : Fin 8320) (d : Fin 2048) :
    Value.G5 m c (ix2 t d) = ∑ f : Fin 5632,
      term (m (c.tc.loc main_arg0)) (m (c.tc.loc main_arg1)) (m (c.tc.loc main_arg2)) (m (c.tc.loc main_arg3)) t d f := by
  have ht := t.isLt
  have hd := d.isLt
  have hrun : Value.run5Of (ix2 t d) = t.val / 832 := by
    show 1 * (t.val / 832 - 0) + 1 * (d.val / 2048 - 0) = _
    omega
  have hN : (cfg0.N : ℕ) = 110 := N_0
  unfold Value.G5
  rw [dif_pos (by rw [hrun, hN]; omega)]
  rw [Pipeline.accAt_add_apply (Value.reset5 m c) (Value.step5 m c) (fun _ => 0) (part m c) _ 10
    (fun h i => dense_reset m c _ h i) (fun n h acc i _ _ => dense_point m c n h acc i) 10 le_rfl]
  rw [zero_add, ← Fin.sum_univ_eq_sum_range (fun s => part m c (11 * Value.run5Of (ix2 t d) + s) (Value.loc5Of (ix2 t d)))]
  unfold part
  rw [hrun]
  refine Eq.trans ?_ (Fin.sum_univ_tiles (M := EReal) (N := 5632) 11 512 (by norm_num) _).symm
  refine Finset.sum_congr (M := EReal) rfl fun s _ => Finset.sum_congr (M := EReal) rfl fun f _ => ?_
  have hs := s.isLt
  congr 1
  · apply Fin.ext
    show (832 * ((11 * (t.val / 832) + s.val) / 11) + t.val % 832) % 8320 = t.val
    omega
  · apply Fin.ext
    show d.val % 2048 = d.val
    omega
  · apply Fin.ext
    show (11 * (t.val / 832) + s.val) % 11 * 512 + f.val = s.val * 512 + f.val
    omega

end Cert.DenseIdeal.Val

end
-- ==== Proof.DenseClaims.lean ====
/- The claims about the first layer's feed-forward call: arguments unchanged and counters at zero for the
   kernel, its idealization and its reference, and the two results equal over extended reals. -/
module

public import proofs.«01_k».proof.Defs
public import proofs.«01_k».proof.Proof.DenseBlock
public import proofs.«01_k».proof.Proof.Gen.Dense.Frame
public import proofs.«01_k».proof.Proof.Gen.DenseReferenceIdeal.Run
public import Idealize.ShloMosaic.Lib.Claim

@[expose] public section

set_option maxRecDepth 16384

noncomputable section

namespace Cert.DenseIdeal.Val

open Idealize.ShloMosaic Idealize.ShloMosaic.TcCoe Idealize.SL.Sem
open scoped BigOperators

section reference
open Cert.DenseReferenceIdeal Cert.DenseReferenceIdeal.Gen

/-- The reference's result from its arguments. -/
def swiglu (x : FVec Ideal S8320x2048 .bf16) (wg wu : FVec Ideal S1x2048x5632 .f32) (wd : FVec Ideal S1x5632x2048 .f32) :
    FVec Ideal S8320x2048 .f32 :=
  let g : FVec Ideal S8320x5632 .f32 := Host.dotGeneral dot_S8320x2048_S2048x5632_S8320x5632_1_0_0_1_n_n none
    (extf .f32 x bitsLt_bf16_f32) (shapeCast _ wg shapeCasts_S1x2048x5632_S2048x5632)
  let u : FVec Ideal S8320x5632 .f32 := Host.dotGeneral dot_S8320x2048_S2048x5632_S8320x5632_1_0_0_1_n_n none
    (extf .f32 x bitsLt_bf16_f32) (shapeCast _ wu shapeCasts_S1x2048x5632_S2048x5632)
  let one : FVec Ideal S8320x5632 .f32 := broadcastInDim S8320x5632 ![] bcast_S_S8320x5632 (constant S_ .f32 0x3F800000#32)
  Host.dotGeneral dot_S8320x5632_S5632x2048_S8320x2048_1_0_0_1_n_n none
    (mulf (mulf g (Host.divf one (addf one (Host.exp (Host.negf g))))) u)
    (shapeCast _ wd shapeCasts_S1x5632x2048_S5632x2048)

theorem swiglu_at (x : FVec Ideal S8320x2048 .bf16) (wg wu : FVec Ideal S1x2048x5632 .f32) (wd : FVec Ideal S1x5632x2048 .f32)
    (t : Fin 8320) (d : Fin 2048) : swiglu x wg wu wd (ix2 t d) = ∑ f : Fin 5632, term x wg wu wd t d f := by
  pointwise [swiglu]
  rfl

end reference

theorem quiescent_P : Cert.quiescent_Dense := fun m ρ _ => Cert.Dense.Gen.frame m ρ
theorem quiescent_PI : Cert.quiescent_DenseIdeal := fun m ρ _ => Cert.DenseIdeal.Gen.frame m ρ
theorem quiescent_RI : Cert.quiescent_DenseReferenceIdeal := fun m ρ _ =>
  (θ_run _ _ _).mono (fun r h => ⟨fun c => (h c).2, sem_eq_zero_of_no_sems (by decide) r.2⟩)
    (Cert.DenseReferenceIdeal.Value.run m ρ)

theorem results_equal : Cert.algebraic_DenseIdeal_DenseReferenceIdeal := by
  intro m ρ m' ρ' hpre hag
  refine ⟨fun c => Cert.DenseIdeal.Value.G5 m c, Cert.DenseIdeal.Value.run m ρ,
    (θ_run _ _ _).mono (fun _ h c => ⟨(h c).1.trans ?_, (h c).2⟩) (Cert.DenseReferenceIdeal.Value.run m' ρ')⟩
  obtain ⟨h0, h1, h2, h3⟩ := hag c
  rw [h0, h1, h2, h3]
  funext i
  obtain ⟨t, d, rfl⟩ : ∃ (t : Fin 8320) (d : Fin 2048), i = ix2 t d := ⟨i 0, i 1, eq_ix2 i⟩
  exact (swiglu_at _ _ _ _ t d).trans (dense_result m c t d).symm

end Cert.DenseIdeal.Val

end
-- ==== Proof.InProj.lean ====
/- The projection that feeds the delta rule: the kernel's array is the matrix product of the tokens and the
   first columns of the layer's weights, and so is its reference's result. -/
module

public import proofs.«01_k».proof.Defs
public import proofs.«01_k».proof.Proof.Gen.InProj.Frame
public import proofs.«01_k».proof.Proof.Gen.InProjIdeal.Value
public import proofs.«01_k».proof.Proof.Gen.InProjReferenceIdeal.Run
public import Idealize.ShloMosaic.Lib.Claim
public import Idealize.ShloMosaic.Lib.Pointwise
public import Idealize.ShloMosaic.Lib.Pipeline.ValueKit

@[expose] public section

set_option maxRecDepth 16384

noncomputable section

namespace Cert.InProjIdeal.Val

open Cert.InProjIdeal Cert.InProjIdeal.Gen Idealize.ShloMosaic Idealize.ShloMosaic.TcCoe Idealize.SL.Sem
open scoped BigOperators

variable (m : (ℓ : Loc nD τ sig) → Buf (Elt Ideal) ℓ)

/-- Tokens times the layer's first 4096 columns. -/
def product (x : FVec Ideal S8320x2048 .bf16) (w : FVec Ideal S2x2048x7184 .bf16) : FVec Ideal S8320x4096 .f32 :=
  fun i => ∑ k : Fin 2048, x (ix2 (i 0) k) * w (ix3 0 k ⟨(i 1).val, by have : (i 1).val < 4096 := (i 1).isLt; omega⟩)

theorem in_idx : ∀ t : Fin cfg0.N, win0_0.index t = ![t.val / 2, 0] ∧ win0_1.index t = ![0, 0, t.val % 2]
    ∧ win0_2.index t = ![t.val / 2, t.val % 2] :=
  (by decide +kernel : ∀ t : Fin grid0.N, _)

theorem points : (cfg0.N : ℕ) = 16 := by decide

theorem corner2 : (![0, 0] : Fin 2 → Nat) = fun _ => 0 := funext fun a => by fin_cases a <;> rfl
theorem corner3 : (![0, 0, 0] : Fin 3 → Nat) = fun _ => 0 := funext fun a => by fin_cases a <;> rfl

/-- A point leaves the product of its two blocks. -/
theorem out_eq (c : Dev nD) (i : grid0.Coords) (a2 : Memref sig .tc .vmem S1040x2048 .bf16) (h2 : a2.IsWhole)
    (a3 : Memref sig .tc .vmem S1x2048x2048 .bf16) (h3 : a3.IsWhole) (a4 : Memref sig .tc .vmem S1040x2048 .f32) (h4 : a4.IsWhole)
    (x : Vec Ideal S1040x2048 .bf16) (w : Vec Ideal S1x2048x2048 .bf16) :
    out0_A_2 c i a2 h2 a3 h3 a4 h4 x w = k0_pay1 x w := by
  unfold out0_A_2
  rw [View.read_writes_eq_canon _ _ _ (cover0_A_2 c i a2 h2 a3 h3 a4 h4 x w)]
  unfold kernelRun0_A
  dsimp only
  try sl_unfold_words
  rw [View.canon_unit_zero corner2]
  simp only [View.readAt_eq_ld, h2.read_unread, h3.read_unread, View.ld_unit_zero (S := S1040x2048) corner2,
    View.ld_unit_zero (S := S1x2048x2048) corner3]

section reads
variable (c : Dev nD) (n : ℕ) (h : n < cfg0.N)

theorem tokens (p : Fin 1040) (k : Fin 2048) :
    iblk m c 0 ⟨n, h⟩ (ix2 p k) = m (c.tc.loc main_arg0) (ix2 ⟨n / 2 % 8 * 1040 + p.val, by omega⟩ k) := by
  have e := (in_idx ⟨n, h⟩).1
  have hN : n < 16 := lt_of_lt_of_eq h points
  blk_ext [iblk, V, e]

theorem weights (k : Fin 2048) (f : Fin 2048) :
    X0_1 m c ⟨n, h⟩ (ix3 0 k f) = m (c.tc.loc main_arg1) (ix3 0 k ⟨n % 2 * 2048 + f.val, by omega⟩) := by
  have e := (in_idx ⟨n, h⟩).2.1
  unfold X0_1 Pipeline.Window.fill
  rw [dif_pos (moved0_1 _ _)]
  blk_ext [iblk, V, e]

end reads

theorem array_eq (c : Dev nD) :
    (dats m 0 c).arrAt 2 cfg0.N = (product (m (c.tc.loc main_arg0)) (m (c.tc.loc main_arg1)) : (⟨S8320x4096, .f32⟩ : BufTy).Contents (Elt Ideal)) := by
  refine (dats m 0 c).arrAt_eq_of_covers 2 _ (by decide +kernel) fun t hf y => ?_
  blk_simp
  rw [after0_2]
  unfold outsAt0
  rw [out_eq]
  have e := (in_idx t).2.2
  have hN : t.val < 16 := lt_of_lt_of_eq t.isLt points
  obtain ⟨p, d, rfl⟩ : ∃ (p : Fin 1040) (d : Fin 2048), y = ix2 p d := ⟨y 0, y 1, eq_ix2 y⟩
  have hl : k0_pay1 (iblk m c 0 t) (X0_1 m c t) (ix2 p d)
      = product (m (c.tc.loc main_arg0)) (m (c.tc.loc main_arg1))
        (ix2 ⟨t.val / 2 % 8 * 1040 + p.val, by omega⟩ ⟨t.val % 2 * 2048 + d.val, by omega⟩) := by
    pointwise [k0_pay1, product]
    simp only [tokens m c t.val t.isLt, weights m c t.val t.isLt]
  refine hl.trans ?_
  blk_ext [e]

section reference
open Cert.InProjReferenceIdeal Cert.InProjReferenceIdeal.Gen

theorem reference_at (x : FVec Ideal S8320x2048 .bf16) (w : FVec Ideal S2x2048x7184 .bf16) (t : Fin 8320) (d : Fin 4096) :
    (Host.dotGeneral dot_S8320x2048_S2048x4096_S8320x4096_1_0_0_1_n_n none (extf .f32 x bitsLt_bf16_f32)
      (extf .f32 (shapeCast S2048x4096 (extractStridedSlice S1x2048x4096 ![0, 0, 0] w slices_S2x2048x7184_S1x2048x4096_0_0_0)
        shapeCasts_S1x2048x4096_S2048x4096) bitsLt_bf16_f32) : FVec Ideal S8320x4096 .f32) (ix2 t d) = product x w (ix2 t d) := by
  pointwise [product]

end reference

theorem quiescent_P : Cert.quiescent_InProj := fun m ρ _ => Cert.InProj.Gen.frame m ρ
theorem quiescent_PI : Cert.quiescent_InProjIdeal := fun m ρ _ => Cert.InProjIdeal.Gen.frame m ρ
theorem quiescent_RI : Cert.quiescent_InProjReferenceIdeal := fun m ρ _ =>
  (θ_run _ _ _).mono (fun r h => ⟨fun c => (h c).2, sem_eq_zero_of_no_sems (by decide) r.2⟩)
    (Cert.InProjReferenceIdeal.Value.run m ρ)

theorem results_equal : Cert.algebraic_InProjIdeal_InProjReferenceIdeal := by
  intro m ρ m' ρ' hpre hag
  refine ⟨fun c => (dats m 0 c).arrAt 2 cfg0.N, Cert.InProjIdeal.Value.run_blocks m ρ,
    (θ_run _ _ _).mono (fun _ h c => ⟨(h c).1.trans ?_, (h c).2⟩) (Cert.InProjReferenceIdeal.Value.run m' ρ')⟩
  obtain ⟨h0, h1⟩ := hag c
  rw [h0, h1]
  refine Eq.trans ?_ (array_eq m c).symm
  funext i
  obtain ⟨t, d, rfl⟩ : ∃ (t : Fin 8320) (d : Fin 4096), i = ix2 t d := ⟨i 0, i 1, eq_ix2 i⟩
  exact reference_at _ _ t d

end Cert.InProjIdeal.Val

end
-- ==== Proof.QProj.lean ====
/- The projection that makes the queries and the gates: the array the kernel leaves and the reference's result
   are both the tokens times the layer's query and gate columns. -/
module

public import proofs.«01_k».proof.Defs
public import proofs.«01_k».proof.Proof.Gen.QProj.Frame
public import proofs.«01_k».proof.Proof.Gen.QProjIdeal.Value
public import proofs.«01_k».proof.Proof.Gen.QProjReferenceIdeal.Run
public import Idealize.ShloMosaic.Lib.Claim
public import Idealize.ShloMosaic.Lib.Pointwise
public import Idealize.ShloMosaic.Lib.Pipeline.ValueKit

@[expose] public section

set_option maxRecDepth 16384

noncomputable section

namespace Cert.QProjIdeal.Val

open Cert.QProjIdeal Cert.QProjIdeal.Gen Idealize.ShloMosaic Idealize.ShloMosaic.TcCoe Idealize.SL.Sem
open scoped BigOperators

variable (m : (ℓ : Loc nD τ sig) → Buf (Elt Ideal) ℓ)

/-- Tokens times the layer's query and gate columns. -/
def product (x : FVec Ideal S8320x2048 .bf16) (w : FVec Ideal S2x2048x1280 .bf16) : FVec Ideal S8320x1280 .f32 :=
  fun i => ∑ k : Fin 2048, x (ix2 (i 0) k) * w (ix3 0 k (i 1))

theorem q_idx : ∀ t : Fin cfg0.N, win0_0.index t = ![t.val, 0] ∧ win0_1.index t = ![0, 0, 0] ∧ win0_2.index t = ![t.val, 0] :=
  (by decide +kernel : ∀ t : Fin grid0.N, _)

theorem points : (cfg0.N : ℕ) = 8 := by decide

theorem corner2 : (![0, 0] : Fin 2 → Nat) = fun _ => 0 := funext fun a => by fin_cases a <;> rfl
theorem corner3 : (![0, 0, 0] : Fin 3 → Nat) = fun _ => 0 := funext fun a => by fin_cases a <;> rfl

/-- A point leaves the product of its two blocks. -/
theorem out_eq (x : Vec Ideal S1040x2048 .bf16) (w : Vec Ideal S1x2048x1280 .bf16) : out0_2 x w = k0_pay1 x w := by
  unfold out0_2
  rw [View.canon_unit_zero corner2, View.ld_unit_zero (S := S1040x2048) corner2, View.ld_unit_zero (S := S1x2048x1280) corner3]

section reads
variable (c : Dev nD) (n : ℕ) (h : n < cfg0.N)

theorem tokens (p : Fin 1040) (k : Fin 2048) :
    iblk m c 0 ⟨n, h⟩ (ix2 p k) = m (c.tc.loc main_arg0) (ix2 ⟨n % 8 * 1040 + p.val, by omega⟩ k) := by
  have e := (q_idx ⟨n, h⟩).1
  have hN : n < 8 := lt_of_lt_of_eq h points
  blk_ext [iblk, V, e]

theorem weights (k : Fin 2048) (f : Fin 1280) :
    iblk m c 1 ⟨n, h⟩ (ix3 0 k f) = m (c.tc.loc main_arg1) (ix3 0 k f) := by
  have e := (q_idx ⟨n, h⟩).2.1
  blk_ext [iblk, V, e]

end reads

theorem array_eq (c : Dev nD) :
    (dats m 0 c).arrAt 2 cfg0.N = (product (m (c.tc.loc main_arg0)) (m (c.tc.loc main_arg1)) : (⟨S8320x1280, .f32⟩ : BufTy).Contents (Elt Ideal)) := by
  refine (dats m 0 c).arrAt_eq_of_covers 2 _ (by decide +kernel) fun t hf y => ?_
  blk_simp
  rw [after0_2]
  rw [out_eq]
  have e := (q_idx t).2.2
  have hN : t.val < 8 := lt_of_lt_of_eq t.isLt points
  obtain ⟨p, d, rfl⟩ : ∃ (p : Fin 1040) (d : Fin 1280), y = ix2 p d := ⟨y 0, y 1, eq_ix2 y⟩
  have hl : k0_pay1 (iblk m c 0 t) (iblk m c 1 t) (ix2 p d)
      = product (m (c.tc.loc main_arg0)) (m (c.tc.loc main_arg1))
        (ix2 ⟨t.val % 8 * 1040 + p.val, by omega⟩ d) := by
    pointwise [k0_pay1, product]
    simp only [tokens m c t.val t.isLt, weights m c t.val t.isLt]
  refine hl.trans ?_
  blk_ext [e]

section reference
open Cert.QProjReferenceIdeal Cert.QProjReferenceIdeal.Gen

theorem reference_at (x : FVec Ideal S8320x2048 .bf16) (w : FVec Ideal S2x2048x1280 .bf16) (t : Fin 8320) (d : Fin 1280) :
    (Host.dotGeneral dot_S8320x2048_S2048x1280_S8320x1280_1_0_0_1_n_n none (extf .f32 x bitsLt_bf16_f32)
      (extf .f32 (shapeCast S2048x1280 (extractStridedSlice S1x2048x1280 ![0, 0, 0] w slices_S2x2048x1280_S1x2048x1280_0_0_0)
        Cert.QProjReferenceIdeal.Gen.shapeCasts_S1x2048x1280_S2048x1280) bitsLt_bf16_f32) : FVec Ideal S8320x1280 .f32) (ix2 t d) = product x w (ix2 t d) := by
  pointwise [product]

end reference

theorem quiescent_P : Cert.quiescent_QProj := fun m ρ _ => Cert.QProj.Gen.frame m ρ
theorem quiescent_PI : Cert.quiescent_QProjIdeal := fun m ρ _ => Cert.QProjIdeal.Gen.frame m ρ
theorem quiescent_RI : Cert.quiescent_QProjReferenceIdeal := fun m ρ _ =>
  (θ_run _ _ _).mono (fun r h => ⟨fun c => (h c).2, sem_eq_zero_of_no_sems (by decide) r.2⟩)
    (Cert.QProjReferenceIdeal.Value.run m ρ)

theorem results_equal : Cert.algebraic_QProjIdeal_QProjReferenceIdeal := by
  intro m ρ m' ρ' hpre hag
  refine ⟨fun c => (dats m 0 c).arrAt 2 cfg0.N, Cert.QProjIdeal.Value.run_blocks m ρ,
    (θ_run _ _ _).mono (fun _ h c => ⟨(h c).1.trans ?_, (h c).2⟩) (Cert.QProjReferenceIdeal.Value.run m' ρ')⟩
  obtain ⟨h0, h1⟩ := hag c
  rw [h0, h1]
  refine Eq.trans ?_ (array_eq m c).symm
  funext i
  obtain ⟨t, d, rfl⟩ : ∃ (t : Fin 8320) (d : Fin 1280), i = ix2 t d := ⟨i 0, i 1, eq_ix2 i⟩
  exact reference_at _ _ t d

end Cert.QProjIdeal.Val

end
-- ==== Proof.RowNorm.lean ====
/- The layer norm of one row of 2048 features, over extended reals. -/
module

public import Idealize.ShloMosaic.Lib.Pointwise

@[expose] public section

noncomputable section

namespace Cert.RowNorm

open Idealize.ShloMosaic
open scoped BigOperators

/-- The row's mean. -/
def mean (y : Fin 2048 → EReal) : EReal := Ideal.div (∑ k, y k) (Ideal.ofBits .f32 0x45000000#32)

/-- The row about its mean. -/
def centred (y : Fin 2048 → EReal) (d : Fin 2048) : EReal := y d - mean y

/-- The row about its mean, over the root of its variance plus the norm's constant, times the gain, plus the offset. -/
def normed (y : Fin 2048 → EReal) (d : Fin 2048) (g b : EReal) : EReal :=
  centred y d * Ideal.rsqrt (mean (fun k => centred y k * centred y k) + Ideal.ofBits .f32 0x3727C5AC#32) * g + b

/-- The factor of the residual, the fourth root of four. -/
def alpha : EReal := Ideal.ofBits .f32 0x3FB504F3#32

end Cert.RowNorm

end
-- ==== Proof.Final.lean ====
/- The second layer's last call on the prompt: the residual, the feed-forward's result and the gated per-layer
   input, through the layer norm. Kernel and reference compute the same row before the norm. -/
module

public import proofs.«01_k».proof.Defs
public import proofs.«01_k».proof.Proof.RowNorm
public import proofs.«01_k».proof.Proof.Gen.Final.Frame
public import proofs.«01_k».proof.Proof.Gen.FinalIdeal.Value
public import proofs.«01_k».proof.Proof.Gen.FinalReferenceIdeal.Run
public import Idealize.ShloMosaic.Lib.Claim
public import Idealize.ShloMosaic.Lib.Pipeline.ValueKit

@[expose] public section

set_option maxRecDepth 16384

noncomputable section

namespace Cert.FinalIdeal.Val

open Cert.FinalIdeal Cert.FinalIdeal.Gen Idealize.ShloMosaic Idealize.ShloMosaic.TcCoe Idealize.SL.Sem
open Cert.RowNorm
open scoped BigOperators

variable (m : (ℓ : Loc nD τ sig) → Buf (Elt Ideal) ℓ)

/-- Token `t`'s row before the norm. -/
def summed (x f : FVec Ideal S8320x2048 .f32) (pe : FVec Ideal S2x8192x256 .f32) (wg : FVec Ideal S2x2048x2048 .bf16)
    (wp : FVec Ideal S2x256x2048 .f32) (t : Fin 8192) (d : Fin 2048) : EReal :=
  alpha * x (ix2 ⟨t.val, by omega⟩ d) + f (ix2 ⟨t.val, by omega⟩ d)
    + Ideal.logistic (∑ k : Fin 2048, x (ix2 ⟨t.val, by omega⟩ k) * wg (ix3 1 k d))
      * ∑ k : Fin 256, pe (ix3 1 t k) * wp (ix3 1 k d)

/-- The call's result. -/
def result (x f : FVec Ideal S8320x2048 .f32) (pe : FVec Ideal S2x8192x256 .f32) (wg : FVec Ideal S2x2048x2048 .bf16)
    (wp : FVec Ideal S2x256x2048 .f32) (g b : FVec Ideal S2x1x2048 .f32) : FVec Ideal S8192x2048 .f32 :=
  fun i => normed (summed x f pe wg wp (i 0)) (i 1) (g (ix3 1 0 (i 1))) (b (ix3 1 0 (i 1)))

/-- One row of a point's block, from the blocks it reads. -/
theorem block_row (x f : Vec Ideal S256x2048 .f32) (wg : Vec Ideal S1x2048x2048 .bf16) (pe : Vec Ideal S1x256x256 .f32)
    (wp : Vec Ideal S1x256x2048 .f32) (g b : Vec Ideal S1x1x2048 .f32) (p : Fin 256) (d : Fin 2048) :
    k0_pay1 (k0_pay2 g) (k0_pay3 b) (k0_pay4 x wg pe wp f) (k0_pay5 x wg pe wp f) (k0_pay6 (F := Ideal)) (ix2 p d)
      = normed (fun d => alpha * x (ix2 p d) + f (ix2 p d)
          + Ideal.logistic (∑ k : Fin 2048, x (ix2 p k) * wg (ix3 0 k d)) * ∑ k : Fin 256, pe (ix3 0 p k) * wp (ix3 0 k d))
        d (g (ix3 0 0 d)) (b (ix3 0 0 d)) := by
  have h4 : ∀ d : Fin 2048, k0_pay4 x wg pe wp f (ix2 p d) = centred (fun d => alpha * x (ix2 p d) + f (ix2 p d)
          + Ideal.logistic (∑ k : Fin 2048, x (ix2 p k) * wg (ix3 0 k d)) * ∑ k : Fin 256, pe (ix3 0 p k) * wp (ix3 0 k d)) d := by
    intro d
    pointwise [k0_pay4]
    rfl
  have h5 : k0_pay5 x wg pe wp f (ix2 p 0) = ∑ d : Fin 2048, k0_pay4 x wg pe wp f (ix2 p d) * k0_pay4 x wg pe wp f (ix2 p d) := by
    pointwise [k0_pay5]
  pointwise [k0_pay1, k0_pay2, k0_pay3, k0_pay6]
  rw [h5]
  simp only [h4]
  rfl

theorem final_idx : ∀ t : Fin cfg0.N, win0_0.index t = ![t.val, 0] ∧ win0_1.index t = ![t.val, 0]
    ∧ win0_2.index t = ![1, t.val, 0] ∧ win0_3.index t = ![1, 0, 0] ∧ win0_4.index t = ![1, 0, 0]
    ∧ win0_5.index t = ![1, 0, 0] ∧ win0_6.index t = ![1, 0, 0] ∧ win0_7.index t = ![t.val, 0] :=
  (by decide +kernel : ∀ t : Fin grid0.N, _)

theorem points : (cfg0.N : ℕ) = 32 := by decide

theorem corner2 : (![0, 0] : Fin 2 → Nat) = fun _ => 0 := funext fun a => by fin_cases a <;> rfl
theorem corner3 : (![0, 0, 0] : Fin 3 → Nat) = fun _ => 0 := funext fun a => by fin_cases a <;> rfl

/-- What point `t` leaves in its output block. -/
theorem left_at (c : Dev nD) (t : Fin cfg0.N) :
    outsAt0 m c t = k0_pay1 (k0_pay2 (iblk m c 5 t)) (k0_pay3 (iblk m c 6 t))
      (k0_pay4 (X0_0 m c t) (iblk m c 3 t) (iblk m c 2 t) (iblk m c 4 t) (X0_1 m c t))
      (k0_pay5 (X0_0 m c t) (iblk m c 3 t) (iblk m c 2 t) (iblk m c 4 t) (X0_1 m c t)) (k0_pay6 (F := Ideal)) := by
  unfold outsAt0 out0_A_7
  rw [View.read_writes_eq_canon _ _ _ (cover0_A_7 c _ _ _ _ _ _ _ _ _ _ _ _ _ _ _ _ _ _ _ _ _ _ _ _)]
  unfold kernelRun0_A
  dsimp only
  try sl_unfold_words
  rw [View.canon_unit_zero corner2]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S256x2048) corner2,
    View.ld_unit_zero (S := S1x2048x2048) corner3, View.ld_unit_zero (S := S1x256x256) corner3,
    View.ld_unit_zero (S := S1x256x2048) corner3, View.ld_unit_zero (S := S1x1x2048) corner3]

/-- Token `p` of point `n`'s tile. -/
abbrev tok (n : ℕ) (p : Fin 256) : Fin 8192 := ⟨n % 32 * 256 + p.val, by omega⟩

section reads
variable (c : Dev nD) (n : ℕ) (h : n < cfg0.N)

theorem res_rows (p : Fin 256) (k : Fin 2048) :
    X0_0 m c ⟨n, h⟩ (ix2 p k) = m (c.tc.loc main_arg0) (ix2 ⟨(tok n p).val, by have := (tok n p).isLt; omega⟩ k) := by
  have e := (final_idx ⟨n, h⟩).1
  have hN : n < 32 := lt_of_lt_of_eq h points
  unfold X0_0 Pipeline.Window.fill
  rw [dif_pos (moved0_0 _ _)]
  blk_ext [iblk, V, e]

theorem ff_rows (p : Fin 256) (k : Fin 2048) :
    X0_1 m c ⟨n, h⟩ (ix2 p k) = m (c.tc.loc main_arg1) (ix2 ⟨(tok n p).val, by have := (tok n p).isLt; omega⟩ k) := by
  have e := (final_idx ⟨n, h⟩).2.1
  have hN : n < 32 := lt_of_lt_of_eq h points
  unfold X0_1 Pipeline.Window.fill
  rw [dif_pos (moved0_1 _ _)]
  blk_ext [iblk, V, e]

theorem layer_rows (p k : Fin 256) :
    iblk m c 2 ⟨n, h⟩ (ix3 0 p k) = m (c.tc.loc main_arg2) (ix3 1 (tok n p) k) := by
  have e := (final_idx ⟨n, h⟩).2.2.1
  have hN : n < 32 := lt_of_lt_of_eq h points
  blk_ext [iblk, V, e]

theorem gate_block (k d : Fin 2048) : iblk m c 3 ⟨n, h⟩ (ix3 0 k d) = m (c.tc.loc main_arg3) (ix3 1 k d) := by
  have e := (final_idx ⟨n, h⟩).2.2.2.1
  blk_ext [iblk, V, e]

theorem proj_block (k : Fin 256) (d : Fin 2048) : iblk m c 4 ⟨n, h⟩ (ix3 0 k d) = m (c.tc.loc main_arg4) (ix3 1 k d) := by
  have e := (final_idx ⟨n, h⟩).2.2.2.2.1
  blk_ext [iblk, V, e]

theorem gain_row (d : Fin 2048) : iblk m c 5 ⟨n, h⟩ (ix3 0 0 d) = m (c.tc.loc main_arg5) (ix3 1 0 d) := by
  have e := (final_idx ⟨n, h⟩).2.2.2.2.2.1
  blk_ext [iblk, V, e]

theorem offset_row (d : Fin 2048) : iblk m c 6 ⟨n, h⟩ (ix3 0 0 d) = m (c.tc.loc main_arg6) (ix3 1 0 d) := by
  have e := (final_idx ⟨n, h⟩).2.2.2.2.2.2.1
  blk_ext [iblk, V, e]

end reads

theorem array_eq (c : Dev nD) : (dats m 0 c).arrAt 7 cfg0.N
    = (result (m (c.tc.loc main_arg0)) (m (c.tc.loc main_arg1)) (m (c.tc.loc main_arg2)) (m (c.tc.loc main_arg3))
      (m (c.tc.loc main_arg4)) (m (c.tc.loc main_arg5)) (m (c.tc.loc main_arg6)) : (⟨S8192x2048, .f32⟩ : BufTy).Contents (Elt Ideal)) := by
  refine (dats m 0 c).arrAt_eq_of_covers 7 _ (by decide +kernel) fun t hf y => ?_
  blk_simp
  rw [after0_7, left_at]
  have e := (final_idx t).2.2.2.2.2.2.2
  have hN : t.val < 32 := lt_of_lt_of_eq t.isLt points
  obtain ⟨p, d, rfl⟩ : ∃ (p : Fin 256) (d : Fin 2048), y = ix2 p d := ⟨y 0, y 1, eq_ix2 y⟩
  have hl := block_row (X0_0 m c t) (X0_1 m c t) (iblk m c 3 t) (iblk m c 2 t) (iblk m c 4 t) (iblk m c 5 t) (iblk m c 6 t) p d
  rw [gain_row m c t.val t.isLt, offset_row m c t.val t.isLt] at hl
  simp only [res_rows m c t.val t.isLt, ff_rows m c t.val t.isLt, layer_rows m c t.val t.isLt, gate_block m c t.val t.isLt,
    proj_block m c t.val t.isLt] at hl
  have hr : result (m (c.tc.loc main_arg0)) (m (c.tc.loc main_arg1)) (m (c.tc.loc main_arg2)) (m (c.tc.loc main_arg3))
      (m (c.tc.loc main_arg4)) (m (c.tc.loc main_arg5)) (m (c.tc.loc main_arg6)) (ix2 (tok t.val p) d) = _ := rfl
  refine hl.trans (hr.symm.trans ?_)
  blk_ext [e]

open Cert.FinalReferenceIdeal.Value in
theorem reference_at (m : (ℓ : Loc Cert.FinalReferenceIdeal.nD Cert.FinalReferenceIdeal.τ Cert.FinalReferenceIdeal.sig) → Buf (Elt Ideal) ℓ)
    (c : Dev Cert.FinalReferenceIdeal.nD) (t : Fin 8192) (d : Fin 2048) :
    res_main_v49 m c (ix2 t d) = result (m (c.tc.loc Cert.FinalReferenceIdeal.main_arg0)) (m (c.tc.loc Cert.FinalReferenceIdeal.main_arg1))
      (m (c.tc.loc Cert.FinalReferenceIdeal.main_arg2)) (m (c.tc.loc Cert.FinalReferenceIdeal.main_arg3))
      (m (c.tc.loc Cert.FinalReferenceIdeal.main_arg4)) (m (c.tc.loc Cert.FinalReferenceIdeal.main_arg5))
      (m (c.tc.loc Cert.FinalReferenceIdeal.main_arg6)) (ix2 t d) := by
  pointwise [res_main_v49]
  rfl

theorem quiescent_P : Cert.quiescent_Final := fun m ρ _ => Cert.Final.Gen.frame m ρ
theorem quiescent_PI : Cert.quiescent_FinalIdeal := fun m ρ _ => Cert.FinalIdeal.Gen.frame m ρ
theorem quiescent_RI : Cert.quiescent_FinalReferenceIdeal := fun m ρ _ =>
  (θ_run _ _ _).mono (fun r h => ⟨fun c => (h c).2, sem_eq_zero_of_no_sems (by decide) r.2⟩)
    (Cert.FinalReferenceIdeal.Value.run m ρ)

theorem results_equal : Cert.algebraic_FinalIdeal_FinalReferenceIdeal := by
  intro m ρ m' ρ' hpre hag
  refine ⟨fun c => (dats m 0 c).arrAt 7 cfg0.N, Cert.FinalIdeal.Value.run_blocks m ρ,
    (θ_run _ _ _).mono (fun _ h c => ⟨(h c).1.trans ?_, (h c).2⟩) (Cert.FinalReferenceIdeal.Value.run m' ρ')⟩
  refine Eq.trans ?_ (array_eq m c).symm
  obtain ⟨h0, h1, h2, h3, h4, h5, h6⟩ := hag c
  rw [← h0, ← h1, ← h2, ← h3, ← h4, ← h5, ← h6]
  funext i
  obtain ⟨t, d, rfl⟩ : ∃ (t : Fin 8192) (d : Fin 2048), i = ix2 t d := ⟨i 0, i 1, eq_ix2 i⟩
  exact reference_at m' c t d

end Cert.FinalIdeal.Val

end
-- ==== Proof.OutProjRun.lean ====
/- The run of the output projection's two calls, the buffers at the end named: the generated segments, launched once
   more with every buffer's last contents kept. -/
module

public import proofs.«01_k».proof.Defs
public import proofs.«01_k».proof.Proof.Gen.OutProjIdeal.Frame

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of the TensorCore ends at the last boundary's contents. -/
theorem ends : θ_run defs (onTc (τ := τ) (main (F := F))) ⟨m, fun _ => 0, ρ⟩ fun r =>
    ∀ (c : Dev nD), ∀ b ∈ Pipeline.ucRefs τ sig, r.2.mem (((c : Thread nD τ)).1, b) = W3 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.OutProjIdeal.Gen

end
-- ==== Proof.OutProj.lean ====
/- The first layer's output projection: two calls that write the prompt's and the samples' rows of the same arrays in
   turn. Each row is the residual plus the mixer's row times the weights, through the layer norm. -/
module

public import proofs.«01_k».proof.Defs
public import proofs.«01_k».proof.Proof.RowNorm
public import proofs.«01_k».proof.Proof.OutProjRun
public import proofs.«01_k».proof.Proof.Gen.OutProj.Frame
public import proofs.«01_k».proof.Proof.Gen.OutProjReferenceIdeal.Run
public import Idealize.ShloMosaic.Lib.Claim
public import Idealize.ShloMosaic.Lib.Pipeline.ValueKit

@[expose] public section

set_option maxRecDepth 16384

noncomputable section

namespace Cert.OutProjIdeal.Val

open Cert.OutProjIdeal Cert.OutProjIdeal.Gen Idealize.ShloMosaic Idealize.ShloMosaic.TcCoe Idealize.SL.Sem
open Cert.RowNorm
open scoped BigOperators

variable (m : (ℓ : Loc nD τ sig) → Buf (Elt Ideal) ℓ) (ρ : Dev nD → PrngReg)

/-- Row `t` of the prompt's rows followed by the samples'. -/
def joined {n : ℕ} (a : (Shape.mk 2 ![8192, n]).Idx → EReal) (b : (Shape.mk 2 ![128, n]).Idx → EReal) (t : Fin 8320) (k : Fin n) : EReal :=
  if h : t.val < 8192 then a (ix2 ⟨t.val, h⟩ k) else b (ix2 ⟨t.val - 8192, by omega⟩ k)

/-- A row before the norm. -/
def mixed (x : Fin 2048 → EReal) (oa ob : Fin 1024 → EReal) (w : FVec Ideal S2x2048x2048 .bf16) (d : Fin 2048) : EReal :=
  alpha * x d + (∑ k : Fin 1024, oa k * w (ix3 0 ⟨k.val, by omega⟩ d) + ∑ k : Fin 1024, ob k * w (ix3 0 ⟨1024 + k.val, by omega⟩ d))

/-- The two calls' result. -/
def result (oap obp : FVec Ideal S8192x1024 .f32) (oas obs : FVec Ideal S128x1024 .f32) (w : FVec Ideal S2x2048x2048 .bf16)
    (xp : FVec Ideal S8192x2048 .f32) (xs : FVec Ideal S128x2048 .f32) (g b : FVec Ideal S2x1x2048 .f32) : FVec Ideal S8320x2048 .f32 :=
  fun i => normed (mixed (joined xp xs (i 0)) (joined oap oas (i 0)) (joined obp obs (i 0)) w) (i 1) (g (ix3 0 0 (i 1))) (b (ix3 0 0 (i 1)))

theorem prompt_row (oa ob : Vec Ideal S512x1024 .f32) (w1 w2 : Vec Ideal S1x1024x2048 .bf16) (x : Vec Ideal S512x2048 .f32)
    (g b : Vec Ideal S1x1x2048 .f32) (p : Fin 512) (d : Fin 2048) :
    k0_pay1 (k0_pay3 g) (k0_pay4 b) (k0_pay5 oa w1 ob w2 x) (k0_pay6 oa w1 ob w2 x) (ix2 p d)
      = normed (fun d => alpha * x (ix2 p d) + (∑ k : Fin 1024, oa (ix2 p k) * w1 (ix3 0 k d) + ∑ k : Fin 1024, ob (ix2 p k) * w2 (ix3 0 k d)))
        d (g (ix3 0 0 d)) (b (ix3 0 0 d)) := by
  have h5 : ∀ d : Fin 2048, k0_pay5 oa w1 ob w2 x (ix2 p d) = centred (fun d => alpha * x (ix2 p d)
      + (∑ k : Fin 1024, oa (ix2 p k) * w1 (ix3 0 k d) + ∑ k : Fin 1024, ob (ix2 p k) * w2 (ix3 0 k d))) d := by
    intro d
    pointwise [k0_pay5]
    rfl
  have h6 : k0_pay6 oa w1 ob w2 x (ix2 p 0)
      = Ideal.rsqrt (mean (fun d => k0_pay5 oa w1 ob w2 x (ix2 p d) * k0_pay5 oa w1 ob w2 x (ix2 p d)) + Ideal.ofBits .f32 0x3727C5AC#32) := by
    pointwise [k0_pay6]
    rfl
  pointwise [k0_pay1, k0_pay3, k0_pay4]
  rw [h6]
  simp only [h5]
  rfl

theorem sample_row (oa ob : Vec Ideal S128x1024 .f32) (w1 w2 : Vec Ideal S1x1024x2048 .bf16) (x : Vec Ideal S128x2048 .f32)
    (g b : Vec Ideal S1x1x2048 .f32) (p : Fin 128) (d : Fin 2048) :
    k1_pay1 (k1_pay3 g) (k1_pay4 b) (k1_pay5 oa w1 ob w2 x) (k1_pay6 oa w1 ob w2 x) (ix2 p d)
      = normed (fun d => alpha * x (ix2 p d) + (∑ k : Fin 1024, oa (ix2 p k) * w1 (ix3 0 k d) + ∑ k : Fin 1024, ob (ix2 p k) * w2 (ix3 0 k d)))
        d (g (ix3 0 0 d)) (b (ix3 0 0 d)) := by
  have h5 : ∀ d : Fin 2048, k1_pay5 oa w1 ob w2 x (ix2 p d) = centred (fun d => alpha * x (ix2 p d)
      + (∑ k : Fin 1024, oa (ix2 p k) * w1 (ix3 0 k d) + ∑ k : Fin 1024, ob (ix2 p k) * w2 (ix3 0 k d))) d := by
    intro d
    pointwise [k1_pay5]
    rfl
  have h6 : k1_pay6 oa w1 ob w2 x (ix2 p 0)
      = Ideal.rsqrt (mean (fun d => k1_pay5 oa w1 ob w2 x (ix2 p d) * k1_pay5 oa w1 ob w2 x (ix2 p d)) + Ideal.ofBits .f32 0x3727C5AC#32) := by
    pointwise [k1_pay6]
    rfl
  pointwise [k1_pay1, k1_pay3, k1_pay4]
  rw [h6]
  simp only [h5]
  rfl

theorem prompt_idx : ∀ t : Fin cfg0.N, win0_0.index t = ![t.val, 0] ∧ win0_1.index t = ![t.val, 0]
    ∧ win0_2.index t = ![0, 0, 0] ∧ win0_3.index t = ![t.val, 0] ∧ win0_4.index t = ![0, 0, 0]
    ∧ win0_5.index t = ![0, 0, 0] ∧ win0_6.index t = ![t.val, 0] ∧ win0_7.index t = ![t.val, 0] :=
  (by decide +kernel : ∀ t : Fin grid0.N, _)

theorem sample_idx : ∀ t : Fin cfg1.N, win1_0.index t = ![0, 0] ∧ win1_1.index t = ![0, 0]
    ∧ win1_2.index t = ![0, 0, 0] ∧ win1_3.index t = ![0, 0] ∧ win1_4.index t = ![0, 0, 0]
    ∧ win1_5.index t = ![0, 0, 0] ∧ win1_6.index t = ![64, 0] ∧ win1_7.index t = ![64, 0] :=
  (by decide +kernel : ∀ t : Fin grid1.N, _)

theorem corner2 : (![0, 0] : Fin 2 → Nat) = fun _ => 0 := funext fun a => by fin_cases a <;> rfl
theorem corner3 : (![0, 0, 0] : Fin 3 → Nat) = fun _ => 0 := funext fun a => by fin_cases a <;> rfl

/-- The upper and the lower half of the weights' rows. -/
theorem low_rows (X : Vec Ideal S1x2048x2048 .bf16) (k : Fin 1024) (d : Fin 2048) :
    View.ld X r0_1 (ix3 0 k d) = X (ix3 0 ⟨k.val, by omega⟩ d) :=
  View.ld_unit_apply_of X _ _ _ _ _ fun a => by fin_cases a <;> simp

theorem high_rows (X : Vec Ideal S1x2048x2048 .bf16) (k : Fin 1024) (d : Fin 2048) :
    View.ld X r0_2 (ix3 0 k d) = X (ix3 0 ⟨1024 + k.val, by omega⟩ d) :=
  View.ld_unit_apply_of X _ _ _ _ _ fun a => by fin_cases a <;> simp

section prompt
variable (V : (c : Dev nD) → (b : Ref sig .tc) → Buf (Elt Ideal) ((c : Thread nD τ).loc b)) (c : Dev nD) (t : Fin cfg0.N)

theorem prompt_weights (k d : Fin 2048) : iblk0 V c 2 t (ix3 0 k d) = V c main_arg4 (ix3 0 k d) := by
  obtain ⟨-, -, e, -⟩ := prompt_idx t
  blk_ext [iblk0, e]

theorem prompt_gain (d : Fin 2048) : iblk0 V c 4 t (ix3 0 0 d) = V c main_arg7 (ix3 0 0 d) := by
  obtain ⟨-, -, -, -, e, -⟩ := prompt_idx t
  blk_ext [iblk0, e]

theorem prompt_offset (d : Fin 2048) : iblk0 V c 5 t (ix3 0 0 d) = V c main_arg8 (ix3 0 0 d) := by
  obtain ⟨-, -, -, -, -, e, -⟩ := prompt_idx t
  blk_ext [iblk0, e]

theorem prompt_first (p : Fin 512) (k : Fin 1024) (r : Fin 8320) (hr : r.val = t.val * 512 + p.val) :
    iblk0 V c 0 t (ix2 p k) = joined (V c main_arg0) (V c main_arg2) r k := by
  obtain ⟨e, -⟩ := prompt_idx t
  have hN : t.val < 16 := lt_of_lt_of_eq t.isLt (by decide)
  rw [joined, dif_pos (by omega : r.val < 8192)]
  blk_ext [iblk0, e]

theorem prompt_second (p : Fin 512) (k : Fin 1024) (r : Fin 8320) (hr : r.val = t.val * 512 + p.val) :
    iblk0 V c 1 t (ix2 p k) = joined (V c main_arg1) (V c main_arg3) r k := by
  obtain ⟨-, e, -⟩ := prompt_idx t
  have hN : t.val < 16 := lt_of_lt_of_eq t.isLt (by decide)
  rw [joined, dif_pos (by omega : r.val < 8192)]
  blk_ext [iblk0, e]

theorem prompt_residual (p : Fin 512) (k : Fin 2048) (r : Fin 8320) (hr : r.val = t.val * 512 + p.val) :
    iblk0 V c 3 t (ix2 p k) = joined (V c main_arg5) (V c main_arg6) r k := by
  obtain ⟨-, -, -, e, -⟩ := prompt_idx t
  have hN : t.val < 16 := lt_of_lt_of_eq t.isLt (by decide)
  rw [joined, dif_pos (by omega : r.val < 8192)]
  blk_ext [iblk0, e]

/-- What a point leaves of the prompt's rows, in either format. -/
theorem prompt_block (p : Fin 512) (d : Fin 2048) (r : Fin 8320) (hr : r.val = t.val * 512 + p.val) :
    out0_6 (iblk0 V c 0 t) (iblk0 V c 1 t) (iblk0 V c 2 t) (iblk0 V c 3 t) (iblk0 V c 4 t) (iblk0 V c 5 t) (ix2 p d)
      = result (V c main_arg0) (V c main_arg1) (V c main_arg2) (V c main_arg3) (V c main_arg4) (V c main_arg5) (V c main_arg6)
        (V c main_arg7) (V c main_arg8) (ix2 r d)
    ∧ out0_7 (iblk0 V c 0 t) (iblk0 V c 1 t) (iblk0 V c 2 t) (iblk0 V c 3 t) (iblk0 V c 4 t) (iblk0 V c 5 t) (ix2 p d)
      = result (V c main_arg0) (V c main_arg1) (V c main_arg2) (V c main_arg3) (V c main_arg4) (V c main_arg5) (V c main_arg6)
        (V c main_arg7) (V c main_arg8) (ix2 r d) := by
  have key := prompt_row (View.ld (iblk0 V c 0 t) r0_0) (View.ld (iblk0 V c 1 t) r0_0) (View.ld (iblk0 V c 2 t) r0_1)
    (View.ld (iblk0 V c 2 t) r0_2) (View.ld (iblk0 V c 3 t) r0_3) (View.ld (iblk0 V c 4 t) r0_4) (View.ld (iblk0 V c 5 t) r0_4) p d
  have l0 (k) : View.ld (iblk0 V c 0 t) r0_0 (ix2 p k) = _ :=
    (congrFun (View.ld_unit_zero corner2 _ _) _).trans (prompt_first V c t p k r hr)
  have l1 (k) : View.ld (iblk0 V c 1 t) r0_0 (ix2 p k) = _ :=
    (congrFun (View.ld_unit_zero corner2 _ _) _).trans (prompt_second V c t p k r hr)
  have l3 (k) : View.ld (iblk0 V c 3 t) r0_3 (ix2 p k) = _ :=
    (congrFun (View.ld_unit_zero corner2 _ _) _).trans (prompt_residual V c t p k r hr)
  have l4 : View.ld (iblk0 V c 4 t) r0_4 (ix3 0 0 d) = _ :=
    (congrFun (View.ld_unit_zero corner3 _ _) _).trans (prompt_gain V c t d)
  have l5 : View.ld (iblk0 V c 5 t) r0_4 (ix3 0 0 d) = _ :=
    (congrFun (View.ld_unit_zero corner3 _ _) _).trans (prompt_offset V c t d)
  unfold_out out0_6
  unfold_out out0_7
  rw [View.canon_unit_zero corner2, View.canon_unit_zero corner2]
  have lo (k d) : View.ld (iblk0 V c 2 t) r0_1 (ix3 0 k d) = _ := (low_rows _ k d).trans (prompt_weights V c t _ d)
  have hi (k d) : View.ld (iblk0 V c 2 t) r0_2 (ix3 0 k d) = _ := (high_rows _ k d).trans (prompt_weights V c t _ d)
  rw [l4, l5] at key
  simp only [lo, hi, l0, l1, l3] at key
  exact ⟨key, key⟩

end prompt

section sample
variable (V : (c : Dev nD) → (b : Ref sig .tc) → Buf (Elt Ideal) ((c : Thread nD τ).loc b)) (c : Dev nD) (t : Fin cfg1.N)

theorem left_at : outsAt1 V c t
    = (k1_pay1 (k1_pay3 (iblk1 V c 4 t)) (k1_pay4 (iblk1 V c 5 t))
        (k1_pay5 (iblk1 V c 0 t) (View.ld (iblk1 V c 2 t) r0_1) (iblk1 V c 1 t) (View.ld (iblk1 V c 2 t) r0_2) (iblk1 V c 3 t))
        (k1_pay6 (iblk1 V c 0 t) (View.ld (iblk1 V c 2 t) r0_1) (iblk1 V c 1 t) (View.ld (iblk1 V c 2 t) r0_2) (iblk1 V c 3 t)),
      k1_pay2 (k1_pay3 (iblk1 V c 4 t)) (k1_pay4 (iblk1 V c 5 t))
        (k1_pay5 (iblk1 V c 0 t) (View.ld (iblk1 V c 2 t) r0_1) (iblk1 V c 1 t) (View.ld (iblk1 V c 2 t) r0_2) (iblk1 V c 3 t))
        (k1_pay6 (iblk1 V c 0 t) (View.ld (iblk1 V c 2 t) r0_1) (iblk1 V c 1 t) (View.ld (iblk1 V c 2 t) r0_2) (iblk1 V c 3 t))) := by
  unfold outsAt1 out1_A_6 out1_A_7
  rw [View.read_writes_eq_canon _ _ _ (cover1_A_6 c _ _ _ _ _ _ _ _ _ _ _ _ _ _ _ _ _ _ _ _ _ _ _),
    View.read_writes_eq_canon _ _ _ (cover1_A_7 c _ _ _ _ _ _ _ _ _ _ _ _ _ _ _ _ _ _ _ _ _ _ _)]
  unfold kernelRun1_A
  dsimp only
  try sl_unfold_words
  rw [View.canon_unit_zero corner2, View.canon_unit_zero corner2]
  simp only [View.readAt_eq_ld, (hs1_0 t).read_unread, (hs1_1 t).read_unread, (hs1_2 t).read_unread, (hs1_3 t).read_unread,
    (hs1_4 t).read_unread, (hs1_5 t).read_unread, View.ld_unit_zero (S := S128x1024) corner2, View.ld_unit_zero (S := S128x2048) corner2,
    View.ld_unit_zero (S := S1x1x2048) corner3]
  rfl

theorem sample_weights (k d : Fin 2048) : iblk1 V c 2 t (ix3 0 k d) = V c main_arg4 (ix3 0 k d) := by
  obtain ⟨-, -, e, -⟩ := sample_idx t
  blk_ext [iblk1, e]

theorem sample_gain (d : Fin 2048) : iblk1 V c 4 t (ix3 0 0 d) = V c main_arg7 (ix3 0 0 d) := by
  obtain ⟨-, -, -, -, e, -⟩ := sample_idx t
  blk_ext [iblk1, e]

theorem sample_offset (d : Fin 2048) : iblk1 V c 5 t (ix3 0 0 d) = V c main_arg8 (ix3 0 0 d) := by
  obtain ⟨-, -, -, -, -, e, -⟩ := sample_idx t
  blk_ext [iblk1, e]

theorem sample_first (p : Fin 128) (k : Fin 1024) (r : Fin 8320) (hr : r.val = 8192 + p.val) :
    iblk1 V c 0 t (ix2 p k) = joined (V c main_arg0) (V c main_arg2) r k := by
  obtain ⟨e, -⟩ := sample_idx t
  rw [joined, dif_neg (by omega : ¬r.val < 8192)]
  blk_ext [iblk1, e]

theorem sample_second (p : Fin 128) (k : Fin 1024) (r : Fin 8320) (hr : r.val = 8192 + p.val) :
    iblk1 V c 1 t (ix2 p k) = joined (V c main_arg1) (V c main_arg3) r k := by
  obtain ⟨-, e, -⟩ := sample_idx t
  rw [joined, dif_neg (by omega : ¬r.val < 8192)]
  blk_ext [iblk1, e]

theorem sample_residual (p : Fin 128) (k : Fin 2048) (r : Fin 8320) (hr : r.val = 8192 + p.val) :
    iblk1 V c 3 t (ix2 p k) = joined (V c main_arg5) (V c main_arg6) r k := by
  obtain ⟨-, -, -, e, -⟩ := sample_idx t
  rw [joined, dif_neg (by omega : ¬r.val < 8192)]
  blk_ext [iblk1, e]

/-- What the one point leaves of the samples' rows, in either format. -/
theorem sample_block (p : Fin 128) (d : Fin 2048) (r : Fin 8320) (hr : r.val = 8192 + p.val) :
    (outsAt1 V c t).1 (ix2 p d)
      = result (V c main_arg0) (V c main_arg1) (V c main_arg2) (V c main_arg3) (V c main_arg4) (V c main_arg5) (V c main_arg6)
        (V c main_arg7) (V c main_arg8) (ix2 r d)
    ∧ (outsAt1 V c t).2 (ix2 p d)
      = result (V c main_arg0) (V c main_arg1) (V c main_arg2) (V c main_arg3) (V c main_arg4) (V c main_arg5) (V c main_arg6)
        (V c main_arg7) (V c main_arg8) (ix2 r d) := by
  have key := sample_row (iblk1 V c 0 t) (iblk1 V c 1 t) (View.ld (iblk1 V c 2 t) r0_1) (View.ld (iblk1 V c 2 t) r0_2)
    (iblk1 V c 3 t) (iblk1 V c 4 t) (iblk1 V c 5 t) p d
  rw [left_at]
  have lo (k d) : View.ld (iblk1 V c 2 t) r0_1 (ix3 0 k d) = _ := (low_rows _ k d).trans (sample_weights V c t _ d)
  have hi (k d) : View.ld (iblk1 V c 2 t) r0_2 (ix3 0 k d) = _ := (high_rows _ k d).trans (sample_weights V c t _ d)
  rw [sample_gain, sample_offset] at key
  simp only [lo, hi, sample_first V c t p _ r hr, sample_second V c t p _ r hr,
    sample_residual V c t p _ r hr] at key
  exact ⟨key, key⟩

end sample

abbrev whole (c : Dev nD) : FVec Ideal S8320x2048 .f32 :=
  result (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))

/-- The arrays as the first call leaves them: the prompt's rows written. -/
theorem after_prompt (c : Dev nD) :
    (dat0 (V0 m ρ) c).arrAt 6 cfg0.N
      = (fun i => if (i 0).val < 8192 then (whole m c : (⟨S8320x2048, .f32⟩ : BufTy).Contents (Elt Ideal)) i else (dat0 (V0 m ρ) c).A 6 i)
    ∧ (dat0 (V0 m ρ) c).arrAt 7 cfg0.N
      = (fun i => if (i 0).val < 8192 then (whole m c : (⟨S8320x2048, .f32⟩ : BufTy).Contents (Elt Ideal)) i else (dat0 (V0 m ρ) c).A 7 i) := by
  constructor
  · refine (dat0 (V0 m ρ) c).arrAt_eq_of_coversWhere 6 (whole m c : (⟨S8320x2048, .f32⟩ : BufTy).Contents (Elt Ideal))
      (fun β => β (0 : Fin 2) < 16) (by decide +kernel) (fun t hf y => ?_) (fun j => by blk_simp [Pipeline.Window.cell_apply]; omega)
    blk_simp
    rw [after0_6]
    have e := (prompt_idx t).2.2.2.2.2.2.1
    have hN : t.val < 16 := lt_of_lt_of_eq t.isLt (by decide)
    obtain ⟨p, d, hz⟩ : ∃ (p : Fin 512) (d : Fin 2048), (cfg0.win 6).xinj (cfg0.grid.coords t) y = ix2 p d := ⟨_, _, eq_ix2 _⟩
    have hp : p.val = (y 0).val := (congrArg (fun z : S512x2048.Idx => (z 0).val) hz).symm
    have hd : d.val = (y 1).val := (congrArg (fun z : S512x2048.Idx => (z 1).val) hz).symm
    rw [hz]
    refine (prompt_block (V0 m ρ) c t p d ⟨t.val * 512 + p.val, by omega⟩ rfl).1.trans ?_
    blk_ext [e, hp, hd]
  · refine (dat0 (V0 m ρ) c).arrAt_eq_of_coversWhere 7 (whole m c : (⟨S8320x2048, .f32⟩ : BufTy).Contents (Elt Ideal))
      (fun β => β (0 : Fin 2) < 16) (by decide +kernel) (fun t hf y => ?_) (fun j => by blk_simp [Pipeline.Window.cell_apply]; omega)
    blk_simp
    rw [after0_7]
    have e := (prompt_idx t).2.2.2.2.2.2.2
    have hN : t.val < 16 := lt_of_lt_of_eq t.isLt (by decide)
    obtain ⟨p, d, hz⟩ : ∃ (p : Fin 512) (d : Fin 2048), (cfg0.win 7).xinj (cfg0.grid.coords t) y = ix2 p d := ⟨_, _, eq_ix2 _⟩
    have hp : p.val = (y 0).val := (congrArg (fun z : S512x2048.Idx => (z 0).val) hz).symm
    have hd : d.val = (y 1).val := (congrArg (fun z : S512x2048.Idx => (z 1).val) hz).symm
    rw [hz]
    refine (prompt_block (V0 m ρ) c t p d ⟨t.val * 512 + p.val, by omega⟩ rfl).2.trans ?_
    blk_ext [e, hp, hd]

/-- Between the calls the arrays are handed on. -/
theorem handed (c : Dev nD) : V2 m ρ c main_v1_0 = (dat0 (V0 m ρ) c).arrAt 6 cfg0.N
    ∧ V2 m ρ c main_v1_1 = (dat0 (V0 m ρ) c).arrAt 7 cfg0.N := by
  constructor
  · refine Eq.trans ?_ (W1_arr m ρ c 6)
    rfl
  · refine Eq.trans ?_ (W1_arr m ρ c 7)
    rfl

/-- The second call reads the arguments as launched. -/
theorem kept (c : Dev nD) : result (V2 m ρ c main_arg0) (V2 m ρ c main_arg1) (V2 m ρ c main_arg2) (V2 m ρ c main_arg3)
    (V2 m ρ c main_arg4) (V2 m ρ c main_arg5) (V2 m ρ c main_arg6) (V2 m ρ c main_arg7) (V2 m ρ c main_arg8) = whole m c := by
  have h := W2_args m ρ c
  have h0 : V2 m ρ c main_arg0 = _ := h main_arg0 (by decide)
  have h1 : V2 m ρ c main_arg1 = _ := h main_arg1 (by decide)
  have h2 : V2 m ρ c main_arg2 = _ := h main_arg2 (by decide)
  have h3 : V2 m ρ c main_arg3 = _ := h main_arg3 (by decide)
  have h4 : V2 m ρ c main_arg4 = _ := h main_arg4 (by decide)
  have h5 : V2 m ρ c main_arg5 = _ := h main_arg5 (by decide)
  have h6 : V2 m ρ c main_arg6 = _ := h main_arg6 (by decide)
  have h7 : V2 m ρ c main_arg7 = _ := h main_arg7 (by decide)
  have h8 : V2 m ρ c main_arg8 = _ := h main_arg8 (by decide)
  rw [h0, h1, h2, h3, h4, h5, h6, h7, h8]

/-- After both calls every row is written. -/
theorem arrays_eq (c : Dev nD) :
    (dat1 (V2 m ρ) c).arrAt 6 cfg1.N = (whole m c : (⟨S8320x2048, .f32⟩ : BufTy).Contents (Elt Ideal))
    ∧ (dat1 (V2 m ρ) c).arrAt 7 cfg1.N = (whole m c : (⟨S8320x2048, .f32⟩ : BufTy).Contents (Elt Ideal)) := by
  constructor
  · refine (dat1 (V2 m ρ) c).arrAt_eq_of_coversWhere_of_agree 6 (whole m c : (⟨S8320x2048, .f32⟩ : BufTy).Contents (Elt Ideal))
      (fun β => 64 ≤ β (0 : Fin 2)) (by decide +kernel) (fun t hf y => ?_) (fun j hj => ?_)
    · blk_simp
      rw [after1_6]
      have e := (sample_idx t).2.2.2.2.2.2.1
      obtain ⟨p, d, rfl⟩ : ∃ (p : Fin 128) (d : Fin 2048), y = ix2 p d := ⟨y 0, y 1, eq_ix2 y⟩
      refine (sample_block (V2 m ρ) c t p d ⟨8192 + p.val, by omega⟩ rfl).1.trans ?_
      rw [kept m ρ c]
      blk_ext [e]
    · blk_simp [Pipeline.Window.cell_apply] at hj
      refine (congrFun ((handed m ρ c).1.trans (after_prompt m ρ c).1) j).trans (if_pos ?_)
      omega
  · refine (dat1 (V2 m ρ) c).arrAt_eq_of_coversWhere_of_agree 7 (whole m c : (⟨S8320x2048, .f32⟩ : BufTy).Contents (Elt Ideal))
      (fun β => 64 ≤ β (0 : Fin 2)) (by decide +kernel) (fun t hf y => ?_) (fun j hj => ?_)
    · blk_simp
      rw [after1_7]
      have e := (sample_idx t).2.2.2.2.2.2.2
      obtain ⟨p, d, rfl⟩ : ∃ (p : Fin 128) (d : Fin 2048), y = ix2 p d := ⟨y 0, y 1, eq_ix2 y⟩
      refine (sample_block (V2 m ρ) c t p d ⟨8192 + p.val, by omega⟩ rfl).2.trans ?_
      rw [kept m ρ c]
      blk_ext [e]
    · blk_simp [Pipeline.Window.cell_apply] at hj
      refine (congrFun ((handed m ρ c).2.trans (after_prompt m ρ c).2) j).trans (if_pos ?_)
      omega

/-- The kernel's run, its results and arguments named. -/
theorem kernel_run : θ_run defs (onTc (τ := τ) (main (F := Ideal))) ⟨m, fun _ => 0, ρ⟩ (fun r => ∀ c : Dev nD,
    r.2.mem (c.tc.loc main_v1_0) = (whole m c : (⟨S8320x2048, .f32⟩ : BufTy).Contents (Elt Ideal))
    ∧ r.2.mem (c.tc.loc main_v1_1) = (whole m c : (⟨S8320x2048, .f32⟩ : BufTy).Contents (Elt Ideal))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) ∧ r.2.mem (c.tc.loc main_arg7) = m (c.tc.loc main_arg7)
    ∧ r.2.mem (c.tc.loc main_arg8) = m (c.tc.loc main_arg8)) :=
  (θ_run _ _ _).mono (fun r h c => by
    exact ⟨(h c _ (mem_uc main_v1_0 (by decide))).trans ((W3_arr m ρ c 6).trans (arrays_eq m ρ c).1),
      (h c _ (mem_uc main_v1_1 (by decide))).trans ((W3_arr m ρ c 7).trans (arrays_eq m ρ c).2),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c), (h c _ (mem_uc main_arg5 (by decide))).trans (W3_main_arg5 m ρ c),
      (h c _ (mem_uc main_arg6 (by decide))).trans (W3_main_arg6 m ρ c), (h c _ (mem_uc main_arg7 (by decide))).trans (W3_main_arg7 m ρ c),
      (h c _ (mem_uc main_arg8 (by decide))).trans (W3_main_arg8 m ρ c)⟩) (ends m ρ)

open Cert.OutProjReferenceIdeal.Value in
theorem reference_at (m : (ℓ : Loc Cert.OutProjReferenceIdeal.nD Cert.OutProjReferenceIdeal.τ Cert.OutProjReferenceIdeal.sig) → Buf (Elt Ideal) ℓ)
    (c : Dev Cert.OutProjReferenceIdeal.nD) (t : Fin 8320) (d : Fin 2048) :
    res_main_v38 m c (ix2 t d) = result (m (c.tc.loc Cert.OutProjReferenceIdeal.main_arg0)) (m (c.tc.loc Cert.OutProjReferenceIdeal.main_arg1))
      (m (c.tc.loc Cert.OutProjReferenceIdeal.main_arg2)) (m (c.tc.loc Cert.OutProjReferenceIdeal.main_arg3))
      (m (c.tc.loc Cert.OutProjReferenceIdeal.main_arg4)) (m (c.tc.loc Cert.OutProjReferenceIdeal.main_arg5))
      (m (c.tc.loc Cert.OutProjReferenceIdeal.main_arg6)) (m (c.tc.loc Cert.OutProjReferenceIdeal.main_arg7))
      (m (c.tc.loc Cert.OutProjReferenceIdeal.main_arg8)) (ix2 t d) := by
  pointwise [res_main_v38]
  rfl

theorem quiescent_P : Cert.quiescent_OutProj := fun m ρ _ => Cert.OutProj.Gen.frame m ρ
theorem quiescent_PI : Cert.quiescent_OutProjIdeal := fun m ρ _ => Cert.OutProjIdeal.Gen.frame m ρ
theorem quiescent_RI : Cert.quiescent_OutProjReferenceIdeal := fun m ρ _ =>
  (θ_run _ _ _).mono (fun r h => ⟨fun c => (h c).2.2, sem_eq_zero_of_no_sems (by decide) r.2⟩)
    (Cert.OutProjReferenceIdeal.Value.run m ρ)

theorem results_equal : Cert.algebraic_OutProjIdeal_OutProjReferenceIdeal := by
  intro m ρ m' ρ' hpre hag
  have agree (c) : Cert.OutProjReferenceIdeal.Value.res_main_v38 m' c = whole m c := by
    obtain ⟨h0, h1, h2, h3, h4, h5, h6, h7, h8⟩ := hag c
    unfold whole
    rw [← h0, ← h1, ← h2, ← h3, ← h4, ← h5, ← h6, ← h7, ← h8]
    funext i
    obtain ⟨t, d, rfl⟩ : ∃ (t : Fin 8320) (d : Fin 2048), i = ix2 t d := ⟨i 0, i 1, eq_ix2 i⟩
    exact reference_at m' c t d
  exact ⟨fun c => whole m c, fun c => whole m c, kernel_run m ρ,
    (θ_run _ _ _).mono (fun _ h c => ⟨(h c).1.trans (agree c), (h c).2.1.trans (agree c), (h c).2.2⟩)
      (Cert.OutProjReferenceIdeal.Value.run m' ρ')⟩

end Cert.OutProjIdeal.Val

end
-- ==== Proof.KvHeads.lean ====
/- A [512, 2048] product cut into eight heads of 128 columns, each stored to every eighth row of a [1, 4096, 128] block:
   row 8·p + h of the block is head h of the product's row p. -/
module

public import Idealize.ShloMosaic.Lib.Pipeline.FrameBody
public import Idealize.ShloMosaic.Lib.Pipeline.StridedRows
public import Idealize.ShloMosaic.Lib.Pipeline.ValueKit

@[expose] public section

noncomputable section

namespace Cert.Kv

open Idealize.ShloMosaic StridedRows

abbrev Tile : Shape := ⟨2, ![512, 2048]⟩
abbrev Block : Shape := Plane 1 512 8 128

/-- The rows of one head. -/
abbrev headRows (h : Fin 8) : Rect Block := rowRect (C := 1) (N := 512) (L := 128) (le_refl 8) 0 h

/-- The block the eight heads starting at column `o` of the product `r` leave. -/
def heads {α : Type} (o : ℕ) (ho : o ≤ 1024) (r : Tile.Idx → α) : Block.Idx → α := fun y =>
  r (ix2 ⟨(y 1).val / 8, by have : (y 1).val < 512 * 8 := (y 1).isLt; omega⟩
    ⟨o + (y 1).val % 8 * 128 + (y 2).val, by have : (y 2).val < 128 := (y 2).isLt; omega⟩)

/-- One head of the product, as it is stored. -/
def head {α : Type} (o : ℕ) (ho : o ≤ 1024) (r : Tile.Idx → α) (h : Fin 8) : (Row 512 128).Idx → α := fun x =>
  r (ix2 (x 1) ⟨o + h.val * 128 + (x 2).val, by have : (x 2).val < 128 := (x 2).isLt; omega⟩)

theorem slice_eq {α : Type} (o k : ℕ) (ho : o ≤ 1024) (r : Tile.Idx → α) (h : Fin 8) (hk : k = o + h.val * 128)
    (hs : Tile.Slices ![0, k] ⟨2, ![512, 128]⟩) (hc : (Shape.mk 2 ![512, 128]).ShapeCasts ⟨3, ![1, 512, 128]⟩) :
    shapeCast ⟨3, ![1, 512, 128]⟩ (extractStridedSlice ⟨2, ![512, 128]⟩ ![0, k] r hs) hc = head o ho r h := by
  funext x
  refine (shapeCast_addUnit_apply ![512, 128] _ hc x).trans (extractStridedSlice_apply _ _ _ _ _ fun a => ?_)
  match a with
  | ⟨0, _⟩ => show (x 1).val = 0 + (x 1).val; omega
  | ⟨1, _⟩ => show o + h.val * 128 + (x 2).val = k + (x 2).val; omega

variable {Val : EltTy → Type} {e : EltTy} {sig : RefSig} {κ : Kind} {sp : Space}

/-- The eight stores, the last one first. -/
abbrev stores (P : Fin 8 → (Row 512 128).Idx → Val e) : List (View.Piece Val Block e) :=
  [⟨headRows 7, P 7⟩, ⟨headRows 6, P 6⟩, ⟨headRows 5, P 5⟩, ⟨headRows 4, P 4⟩,
   ⟨headRows 3, P 3⟩, ⟨headRows 2, P 2⟩, ⟨headRows 1, P 1⟩, ⟨headRows 0, P 0⟩]

theorem mem_stores (P : Fin 8 → (Row 512 128).Idx → Val e) (h : Fin 8) : (⟨headRows h, P h⟩ : View.Piece Val Block e) ∈ stores P := by
  fin_cases h <;> simp [stores]

theorem of_mem_stores (P : Fin 8 → (Row 512 128).Idx → Val e) (p : View.Piece Val Block e) (hp : p ∈ stores P) :
    ∃ h, p = ⟨headRows h, P h⟩ := by
  simp only [stores, List.mem_cons, List.not_mem_nil, or_false] at hp
  rcases hp with h | h | h | h | h | h | h | h <;> exact ⟨_, h⟩

theorem covered (P : Fin 8 → (Row 512 128).Idx → Val e) (y : Block.Idx) : ∃ p ∈ stores P, y ∈ p.1.set := by
  have h1 : (y 1).val < 512 * 8 := (y 1).isLt
  have h0 : (y 0).val < 1 := (y 0).isLt
  refine ⟨_, mem_stores P ⟨(y 1).val % 8, by omega⟩, ?_⟩
  rw [LoadRect.mem_set]
  intro a
  match a with
  | ⟨0, _⟩ => exact ⟨0, Nat.one_pos, show (y 0).val = 0 + 1 * 0 by omega⟩
  | ⟨1, _⟩ => exact ⟨(y 1).val / 8, show (y 1).val / 8 < 512 by omega, show (y 1).val = (y 1).val % 8 + 8 * ((y 1).val / 8) by omega⟩
  | ⟨2, _⟩ => exact ⟨(y 2).val, (y 2).isLt, show (y 2).val = 0 + 1 * (y 2).val by omega⟩

/-- After the eight stores the block holds the heads. -/
theorem read_stores [∀ e, Nonempty (Val e)] (v : View sig κ sp Block e) (f : v.ty.Contents Val) (P : Fin 8 → (Row 512 128).Idx → Val e)
    (o : ℕ) (ho : o ≤ 1024) (r : Tile.Idx → Val e) (hP : ∀ h, P h = head o ho r h) :
    v.read Val (v.writes Val f (stores P)) = heads o ho r := by
  refine (View.read_writes_eq_canon v f _ (covered P)).trans (funext fun y =>
    View.canon_apply_of_pieces (heads o ho r) _ (fun p hp x => ?_) y (covered P y))
  obtain ⟨h, rfl⟩ := of_mem_stores P p hp
  obtain ⟨-, h1, h2⟩ := rowRect_emb_val (C := 1) (N := 512) (L := 128) (le_refl 8) 0 h x
  have h1' : ((headRows h).emb x 1).val = h.val + 8 * (x 1).val := h1
  have h2' : ((headRows h).emb x 2).val = (x 2).val := h2
  show P h x = _
  rw [hP]
  unfold heads head
  refine congrArg r ?_
  have hx : (x 1).val < 512 := (x 1).isLt
  congr 1
  · exact Fin.ext (by show (x 1).val = ((headRows h).emb x 1).val / 8; rw [h1']; omega)
  · exact Fin.ext (by
      show o + h.val * 128 + (x 2).val = o + ((headRows h).emb x 1).val % 8 * 128 + ((headRows h).emb x 2).val
      rw [h1', h2']; omega)

end Cert.Kv

end
-- ==== Proof.KvBody.lean ====
/- The key and value projection's two calls, one per layer, on the idealized program: what one grid point's body leaves,
   and each call's proof data. -/
module

public import proofs.«01_k».proof.Proof.KvHeads
public import proofs.«01_k».proof.Proof.Gen.KvProjIdeal.Launch
public import proofs.«01_k».proof.Proof.Gen.KvProjIdeal.Skeleton
public import proofs.«01_k».proof.Proof.Gen.KvProjIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KvProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem corner2 : (![0, 0] : Fin 2 → ℕ) = fun _ => 0 := funext fun a => by fin_cases a <;> rfl
theorem corner3 : (![0, 0, 0] : Fin 3 → ℕ) = fun _ => 0 := funext fun a => by fin_cases a <;> rfl

/-! # Layer 0 -/

/-- The key heads as the kernel stores them. -/
abbrev keyRows0 (x : Vec F S512x2048 .bf16) (w : Vec F S1x2048x2048 .bf16) : Fin 8 → FVec F S1x512x128 .f32
  | 0 => k0_pay5 x w
  | 1 => k0_pay7 x w
  | 2 => k0_pay9 x w
  | 3 => k0_pay12 (k0_pay4 x w)
  | 4 => k0_pay14 (k0_pay4 x w)
  | 5 => k0_pay16 (k0_pay4 x w)
  | 6 => k0_pay18 (k0_pay4 x w)
  | 7 => k0_pay2 (k0_pay4 x w)

/-- The value heads as the kernel stores them. -/
abbrev valueRows0 (x : Vec F S512x2048 .bf16) (w : Vec F S1x2048x2048 .bf16) : Fin 8 → FVec F S1x512x128 .f32
  | 0 => k0_pay6 x w
  | 1 => k0_pay8 x w
  | 2 => k0_pay11 (k0_pay10 x w)
  | 3 => k0_pay13 (k0_pay4 x w)
  | 4 => k0_pay15 (k0_pay4 x w)
  | 5 => k0_pay17 (k0_pay4 x w)
  | 6 => k0_pay1 (k0_pay19 (k0_pay4 x w))
  | 7 => k0_pay3 (k0_pay4 x w)

theorem keyRows0_eq (x : Vec F S512x2048 .bf16) (w : Vec F S1x2048x2048 .bf16) (h : Fin 8) :
    keyRows0 x w h = Cert.Kv.head 0 (by decide) (k0_pay4 x w) h := by
  fin_cases h
  · exact Cert.Kv.slice_eq 0 0 (by decide) (k0_pay4 x w) 0 rfl slices_S512x2048_o0_0_S512x128 shapeCasts_S512x128_S1x512x128
  · exact Cert.Kv.slice_eq 0 128 (by decide) (k0_pay4 x w) 1 rfl slices_S512x2048_o0_128_S512x128 shapeCasts_S512x128_S1x512x128
  · exact Cert.Kv.slice_eq 0 256 (by decide) (k0_pay4 x w) 2 rfl slices_S512x2048_o0_256_S512x128 shapeCasts_S512x128_S1x512x128
  · exact Cert.Kv.slice_eq 0 384 (by decide) (k0_pay4 x w) 3 rfl slices_S512x2048_o0_384_S512x128 shapeCasts_S512x128_S1x512x128
  · exact Cert.Kv.slice_eq 0 512 (by decide) (k0_pay4 x w) 4 rfl slices_S512x2048_o0_512_S512x128 shapeCasts_S512x128_S1x512x128
  · exact Cert.Kv.slice_eq 0 640 (by decide) (k0_pay4 x w) 5 rfl slices_S512x2048_o0_640_S512x128 shapeCasts_S512x128_S1x512x128
  · exact Cert.Kv.slice_eq 0 768 (by decide) (k0_pay4 x w) 6 rfl slices_S512x2048_o0_768_S512x128 shapeCasts_S512x128_S1x512x128
  · exact Cert.Kv.slice_eq 0 896 (by decide) (k0_pay4 x w) 7 rfl slices_S512x2048_o0_896_S512x128 shapeCasts_S512x128_S1x512x128

theorem valueRows0_eq (x : Vec F S512x2048 .bf16) (w : Vec F S1x2048x2048 .bf16) (h : Fin 8) :
    valueRows0 x w h = Cert.Kv.head 1024 (by decide) (k0_pay4 x w) h := by
  fin_cases h
  · exact Cert.Kv.slice_eq 1024 1024 (by decide) (k0_pay4 x w) 0 rfl slices_S512x2048_o0_1024_S512x128 shapeCasts_S512x128_S1x512x128
  · exact Cert.Kv.slice_eq 1024 1152 (by decide) (k0_pay4 x w) 1 rfl slices_S512x2048_o0_1152_S512x128 shapeCasts_S512x128_S1x512x128
  · exact Cert.Kv.slice_eq 1024 1280 (by decide) (k0_pay4 x w) 2 rfl slices_S512x2048_o0_1280_S512x128 shapeCasts_S512x128_S1x512x128
  · exact Cert.Kv.slice_eq 1024 1408 (by decide) (k0_pay4 x w) 3 rfl slices_S512x2048_o0_1408_S512x128 shapeCasts_S512x128_S1x512x128
  · exact Cert.Kv.slice_eq 1024 1536 (by decide) (k0_pay4 x w) 4 rfl slices_S512x2048_o0_1536_S512x128 shapeCasts_S512x128_S1x512x128
  · exact Cert.Kv.slice_eq 1024 1664 (by decide) (k0_pay4 x w) 5 rfl slices_S512x2048_o0_1664_S512x128 shapeCasts_S512x128_S1x512x128
  · exact Cert.Kv.slice_eq 1024 1792 (by decide) (k0_pay4 x w) 6 rfl slices_S512x2048_o0_1792_S512x128 shapeCasts_S512x128_S1x512x128
  · exact Cert.Kv.slice_eq 1024 1920 (by decide) (k0_pay4 x w) 7 rfl slices_S512x2048_o0_1920_S512x128 shapeCasts_S512x128_S1x512x128

set_option maxHeartbeats 1000000 in
/-- The body leaves the product in its first output and the key and the value heads in the other two. -/
theorem sound_kernel0 (c : Dev nD) (i : grid0.Coords) (a1 : Memref sig .tc .vmem S512x2048 .bf16) (h1 : a1.IsWhole)
    (a2 : Memref sig .tc .vmem S1x2048x2048 .bf16) (h2 : a2.IsWhole) (a3 : Memref sig .tc .vmem S512x2048 .f32) (h3 : a3.IsWhole)
    (a4 : Memref sig .tc .vmem S1x4096x128 .f32) (h4 : a4.IsWhole) (a5 : Memref sig .tc .vmem S1x4096x128 .f32) (h5 : a5.IsWhole)
    (x : Vec F S512x2048 .bf16) (w : Vec F S1x2048x2048 .bf16) (E : Set ℕ) (K : PUnit → sProp 𝕄) :
    iprop(owns (c : Thread nD τ) a1 fullShare x ∗ owns (c : Thread nD τ) a2 fullShare w
        ∗ (∃ d, owns (c : Thread nD τ) a3 fullShare d) ∗ (∃ d, owns (c : Thread nD τ) a4 fullShare d)
        ∗ (∃ d, owns (c : Thread nD τ) a5 fullShare d)
        ∗ (iprop(owns (c : Thread nD τ) a1 fullShare x ∗ owns (c : Thread nD τ) a2 fullShare w
            ∗ owns (c : Thread nD τ) a3 fullShare (k0_pay4 x w)
            ∗ owns (c : Thread nD τ) a4 fullShare (Cert.Kv.heads 0 (by decide) (k0_pay4 x w))
            ∗ owns (c : Thread nD τ) a5 fullShare (Cert.Kv.heads 1024 (by decide) (k0_pay4 x w))) -∗ K ⟨⟩))
      ⊢ wp frame (wpE (defs₀ (F := F)) Variants.none c none) E (cc0_kv_proj i a1 h1 a2 h2 a3 h3 a4 h4 a5 h5) K := by
  simp only [cc0_kv_proj_eq_skeleton]; unfold cc0_kv_proj_skel
  simp only [k0_part1_eq_skeleton, k0_part2_eq_skeleton]
  unfold owns
  iintro ⟨⟨%f1, %e1, H1⟩, ⟨%f2, %e2, H2⟩, ⟨%d3, %f3, -, H3⟩, ⟨%d4, %f4, -, H4⟩, ⟨%d5, %f5, -, H5⟩, Hk⟩
  have l1 : View.readAt (Elt F) a1.view (Rect.unit ![0, 0] S512x2048.size inb_S512x2048_S512x2048_0_0).toLoadRect f1 = x := by
    subst e1; exact View.ld_unit_zero corner2 _ _
  have l2 : View.readAt (Elt F) a2.view (Rect.unit ![0, 0, 0] S1x2048x2048.size inb_S1x2048x2048_S1x2048x2048_0_0_0).toLoadRect f2 = w := by
    subst e2; exact View.ld_unit_zero corner3 _ _
  sl_exec
  sl_step
  iapply Hk
  isplitl [H1]
  · iexists f1; isplitr; · ipureintro; exact e1
    iexact H1
  isplitl [H2]
  · iexists f2; isplitr; · ipureintro; exact e2
    iexact H2
  isplitl [H3]
  · iexists _; isplitr
    swap; · iexact H3
    ipureintro
    refine (View.read_writes_eq_canon _ _ _ (View.cover_of_tiledL _ S512x2048.size (by sl_kernel_rfl))).trans ?_
    rw [← l1, ← l2]
    exact View.canon_unit_zero corner2 _ _
  isplitl [H4]
  · iexists _; isplitr
    swap; · iexact H4
    ipureintro
    rw [← l1, ← l2]
    exact Cert.Kv.read_stores a4.view f4 (keyRows0 _ _) 0 (by decide) _ (keyRows0_eq _ _)
  iexists _; isplitr
  swap; · iexact H5
  ipureintro
  rw [← l1, ← l2]
  exact Cert.Kv.read_stores a5.view f5 (valueRows0 _ _) 1024 (by decide) _ (valueRows0_eq _ _)

section Region0
variable (V : (c : Dev nD) → (b : Ref sig .tc) → Buf (Elt F) ((c : Thread nD τ).loc b))

/-- A window's block at a point, of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' buffer holds their block at every point: no block reaches past the array. -/
def tokens0 (c : Dev nD) (t : Fin cfg0.N) : (cfg0.win 0).block.Idx → Elt F (cfg0.win 0).elt :=
  (cfg0.win 0).fill (cfg0.grid.coords t) (fun _ => Classical.choice inferInstance) (iblk0 V c 0 t)
theorem whole0 : ∀ t : Fin cfg0.N, ∀ a, (cfg0.win 0).xsize (cfg0.grid.coords t) a = (cfg0.win 0).size a := by decide +kernel
theorem moved0 (t : Fin cfg0.N) (j : (cfg0.win 0).block.Idx) : (cfg0.win 0).moved (cfg0.grid.coords t) j = true :=
  ((cfg0.win 0).moved_iff _ j).mpr fun a => by rw [whole0 t a]; exact (j a).isLt
theorem fill0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0 t j), dif_pos (moved0 t j)]

/-- The product the body computes at a point. -/
def prod0 (c : Dev nD) (t : Fin cfg0.N) : FVec F S512x2048 .f32 := k0_pay4 (tokens0 V c t) (iblk0 V c 1 t)

/-- What every window's buffer holds after the body. -/
def dat0 (c : Dev nD) : Dat τ (Elt F) Unit ℕ (UR sig nD τ) ℕ cfg0 c where
  A w := V c (Pipeline.arrRef spec0 w)
  after w t := match w with
    | ⟨0, _⟩ => tokens0 V c t
    | ⟨1, _⟩ => iblk0 V c 1 t
    | ⟨2, _⟩ => prod0 V c t
    | ⟨3, _⟩ => Cert.Kv.heads 0 (by decide) (prod0 V c t)
    | ⟨4, _⟩ => Cert.Kv.heads 1024 (by decide) (prod0 V c t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = tokens0 V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 V c t := by dsimp only [dat0]
theorem after0_3 (c : Dev nD) (t : Fin cfg0.N) : (dat0 V c).after 3 t = Cert.Kv.heads 0 (by decide) (prod0 V c t) := by dsimp only [dat0]
theorem after0_4 (c : Dev nD) (t : Fin cfg0.N) : (dat0 V c).after 4 t = Cert.Kv.heads 1024 (by decide) (prod0 V c t) := by dsimp only [dat0]

/-- Each input's buffer holds its block when the body starts. -/
theorem before0_0 (c : Dev nD) (t : Fin cfg0.N) (d) : (dat0 V c).before 0 t d = tokens0 V c t :=
  ((dat0 V c).before_in_eq_fetched 0 rfl (fun _ => rfl)
    (fun t t' h => funext fun a => congrArg (fun n => Pipeline.Clip.of n ((cfg0.win 0).size a) (S8320x2048.size a)) (congrFun h a))
    (fun t => by rw [after0_0]; unfold tokens0; rw [Pipeline.Window.cut_fill]; unfold Dat.blockOf iblk0; rw [A_eq0]) t d).trans
    (by unfold Dat.fetched tokens0; rw [fill0 t d]; unfold Dat.blockOf iblk0; rw [A_eq0])
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]) t d).trans
    (by unfold Dat.fetched Dat.blockOf iblk0; rw [A_eq0]; rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  unfold prod0
  iintro ⟨HΦ, Ho, ⟨%d0, H0⟩, ⟨%d1, H1⟩, ⟨%d2, H2⟩, ⟨%d3, H3⟩, ⟨%d4, H4⟩⟩
  iapply (sound_kernel0 c (grid0.coords t) _ _ _ _ _ _ _ _ _ _ (tokens0 V c t) (iblk0 V c 1 t) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region0

/-! # Layer 1 -/

/-- The key heads as the kernel stores them. -/
abbrev keyRows1 (x : Vec F S512x2048 .bf16) (w : Vec F S1x2048x2048 .bf16) : Fin 8 → FVec F S1x512x128 .f32
  | 0 => k1_pay5 x w
  | 1 => k1_pay7 x w
  | 2 => k1_pay9 x w
  | 3 => k1_pay12 (k1_pay4 x w)
  | 4 => k1_pay14 (k1_pay4 x w)
  | 5 => k1_pay16 (k1_pay4 x w)
  | 6 => k1_pay18 (k1_pay4 x w)
  | 7 => k1_pay2 (k1_pay4 x w)

/-- The value heads as the kernel stores them. -/
abbrev valueRows1 (x : Vec F S512x2048 .bf16) (w : Vec F S1x2048x2048 .bf16) : Fin 8 → FVec F S1x512x128 .f32
  | 0 => k1_pay6 x w
  | 1 => k1_pay8 x w
  | 2 => k1_pay11 (k1_pay10 x w)
  | 3 => k1_pay13 (k1_pay4 x w)
  | 4 => k1_pay15 (k1_pay4 x w)
  | 5 => k1_pay17 (k1_pay4 x w)
  | 6 => k1_pay1 (k1_pay19 (k1_pay4 x w))
  | 7 => k1_pay3 (k1_pay4 x w)

theorem keyRows1_eq (x : Vec F S512x2048 .bf16) (w : Vec F S1x2048x2048 .bf16) (h : Fin 8) :
    keyRows1 x w h = Cert.Kv.head 0 (by decide) (k1_pay4 x w) h := by
  fin_cases h
  · exact Cert.Kv.slice_eq 0 0 (by decide) (k1_pay4 x w) 0 rfl slices_S512x2048_o0_0_S512x128 shapeCasts_S512x128_S1x512x128
  · exact Cert.Kv.slice_eq 0 128 (by decide) (k1_pay4 x w) 1 rfl slices_S512x2048_o0_128_S512x128 shapeCasts_S512x128_S1x512x128
  · exact Cert.Kv.slice_eq 0 256 (by decide) (k1_pay4 x w) 2 rfl slices_S512x2048_o0_256_S512x128 shapeCasts_S512x128_S1x512x128
  · exact Cert.Kv.slice_eq 0 384 (by decide) (k1_pay4 x w) 3 rfl slices_S512x2048_o0_384_S512x128 shapeCasts_S512x128_S1x512x128
  · exact Cert.Kv.slice_eq 0 512 (by decide) (k1_pay4 x w) 4 rfl slices_S512x2048_o0_512_S512x128 shapeCasts_S512x128_S1x512x128
  · exact Cert.Kv.slice_eq 0 640 (by decide) (k1_pay4 x w) 5 rfl slices_S512x2048_o0_640_S512x128 shapeCasts_S512x128_S1x512x128
  · exact Cert.Kv.slice_eq 0 768 (by decide) (k1_pay4 x w) 6 rfl slices_S512x2048_o0_768_S512x128 shapeCasts_S512x128_S1x512x128
  · exact Cert.Kv.slice_eq 0 896 (by decide) (k1_pay4 x w) 7 rfl slices_S512x2048_o0_896_S512x128 shapeCasts_S512x128_S1x512x128

theorem valueRows1_eq (x : Vec F S512x2048 .bf16) (w : Vec F S1x2048x2048 .bf16) (h : Fin 8) :
    valueRows1 x w h = Cert.Kv.head 1024 (by decide) (k1_pay4 x w) h := by
  fin_cases h
  · exact Cert.Kv.slice_eq 1024 1024 (by decide) (k1_pay4 x w) 0 rfl slices_S512x2048_o0_1024_S512x128 shapeCasts_S512x128_S1x512x128
  · exact Cert.Kv.slice_eq 1024 1152 (by decide) (k1_pay4 x w) 1 rfl slices_S512x2048_o0_1152_S512x128 shapeCasts_S512x128_S1x512x128
  · exact Cert.Kv.slice_eq 1024 1280 (by decide) (k1_pay4 x w) 2 rfl slices_S512x2048_o0_1280_S512x128 shapeCasts_S512x128_S1x512x128
  · exact Cert.Kv.slice_eq 1024 1408 (by decide) (k1_pay4 x w) 3 rfl slices_S512x2048_o0_1408_S512x128 shapeCasts_S512x128_S1x512x128
  · exact Cert.Kv.slice_eq 1024 1536 (by decide) (k1_pay4 x w) 4 rfl slices_S512x2048_o0_1536_S512x128 shapeCasts_S512x128_S1x512x128
  · exact Cert.Kv.slice_eq 1024 1664 (by decide) (k1_pay4 x w) 5 rfl slices_S512x2048_o0_1664_S512x128 shapeCasts_S512x128_S1x512x128
  · exact Cert.Kv.slice_eq 1024 1792 (by decide) (k1_pay4 x w) 6 rfl slices_S512x2048_o0_1792_S512x128 shapeCasts_S512x128_S1x512x128
  · exact Cert.Kv.slice_eq 1024 1920 (by decide) (k1_pay4 x w) 7 rfl slices_S512x2048_o0_1920_S512x128 shapeCasts_S512x128_S1x512x128

set_option maxHeartbeats 1000000 in
/-- The body leaves the product in its first output and the key and the value heads in the other two. -/
theorem sound_kernel1 (c : Dev nD) (i : grid1.Coords) (a1 : Memref sig .tc .vmem S512x2048 .bf16) (h1 : a1.IsWhole)
    (a2 : Memref sig .tc .vmem S1x2048x2048 .bf16) (h2 : a2.IsWhole) (a3 : Memref sig .tc .vmem S512x2048 .f32) (h3 : a3.IsWhole)
    (a4 : Memref sig .tc .vmem S1x4096x128 .f32) (h4 : a4.IsWhole) (a5 : Memref sig .tc .vmem S1x4096x128 .f32) (h5 : a5.IsWhole)
    (x : Vec F S512x2048 .bf16) (w : Vec F S1x2048x2048 .bf16) (E : Set ℕ) (K : PUnit → sProp 𝕄) :
    iprop(owns (c : Thread nD τ) a1 fullShare x ∗ owns (c : Thread nD τ) a2 fullShare w
        ∗ (∃ d, owns (c : Thread nD τ) a3 fullShare d) ∗ (∃ d, owns (c : Thread nD τ) a4 fullShare d)
        ∗ (∃ d, owns (c : Thread nD τ) a5 fullShare d)
        ∗ (iprop(owns (c : Thread nD τ) a1 fullShare x ∗ owns (c : Thread nD τ) a2 fullShare w
            ∗ owns (c : Thread nD τ) a3 fullShare (k1_pay4 x w)
            ∗ owns (c : Thread nD τ) a4 fullShare (Cert.Kv.heads 0 (by decide) (k1_pay4 x w))
            ∗ owns (c : Thread nD τ) a5 fullShare (Cert.Kv.heads 1024 (by decide) (k1_pay4 x w))) -∗ K ⟨⟩))
      ⊢ wp frame (wpE (defs₀ (F := F)) Variants.none c none) E (cc1_kv_proj i a1 h1 a2 h2 (Memref.whole main_v0_1) (Memref.isWhole_whole _) (Memref.whole main_v0_2) (Memref.isWhole_whole _) a3 h3 a4 h4 a5 h5) K := by
  simp only [cc1_kv_proj_eq_skeleton]; unfold cc1_kv_proj_skel
  simp only [k1_part1_eq_skeleton, k1_part2_eq_skeleton]
  unfold owns
  iintro ⟨⟨%f1, %e1, H1⟩, ⟨%f2, %e2, H2⟩, ⟨%d3, %f3, -, H3⟩, ⟨%d4, %f4, -, H4⟩, ⟨%d5, %f5, -, H5⟩, Hk⟩
  have l1 : View.readAt (Elt F) a1.view (Rect.unit ![0, 0] S512x2048.size inb_S512x2048_S512x2048_0_0).toLoadRect f1 = x := by
    subst e1; exact View.ld_unit_zero corner2 _ _
  have l2 : View.readAt (Elt F) a2.view (Rect.unit ![0, 0, 0] S1x2048x2048.size inb_S1x2048x2048_S1x2048x2048_0_0_0).toLoadRect f2 = w := by
    subst e2; exact View.ld_unit_zero corner3 _ _
  sl_exec
  sl_step
  iapply Hk
  isplitl [H1]
  · iexists f1; isplitr; · ipureintro; exact e1
    iexact H1
  isplitl [H2]
  · iexists f2; isplitr; · ipureintro; exact e2
    iexact H2
  isplitl [H3]
  · iexists _; isplitr
    swap; · iexact H3
    ipureintro
    refine (View.read_writes_eq_canon _ _ _ (View.cover_of_tiledL _ S512x2048.size (by sl_kernel_rfl))).trans ?_
    rw [← l1, ← l2]
    exact View.canon_unit_zero corner2 _ _
  isplitl [H4]
  · iexists _; isplitr
    swap; · iexact H4
    ipureintro
    rw [← l1, ← l2]
    exact Cert.Kv.read_stores a4.view f4 (keyRows1 _ _) 0 (by decide) _ (keyRows1_eq _ _)
  iexists _; isplitr
  swap; · iexact H5
  ipureintro
  rw [← l1, ← l2]
  exact Cert.Kv.read_stores a5.view f5 (valueRows1 _ _) 1024 (by decide) _ (valueRows1_eq _ _)

section Region1
variable (V : (c : Dev nD) → (b : Ref sig .tc) → Buf (Elt F) ((c : Thread nD τ).loc b))

/-- A window's block at a point, of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tokens' buffer holds their block at every point: no block reaches past the array. -/
def tokens1 (c : Dev nD) (t : Fin cfg1.N) : (cfg1.win 0).block.Idx → Elt F (cfg1.win 0).elt :=
  (cfg1.win 0).fill (cfg1.grid.coords t) (fun _ => Classical.choice inferInstance) (iblk1 V c 0 t)
theorem whole1 : ∀ t : Fin cfg1.N, ∀ a, (cfg1.win 0).xsize (cfg1.grid.coords t) a = (cfg1.win 0).size a := by decide +kernel
theorem moved1 (t : Fin cfg1.N) (j : (cfg1.win 0).block.Idx) : (cfg1.win 0).moved (cfg1.grid.coords t) j = true :=
  ((cfg1.win 0).moved_iff _ j).mpr fun a => by rw [whole1 t a]; exact (j a).isLt
theorem fill1 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1 t j), dif_pos (moved1 t j)]

/-- The product the body computes at a point. -/
def prod1 (c : Dev nD) (t : Fin cfg1.N) : FVec F S512x2048 .f32 := k1_pay4 (tokens1 V c t) (iblk1 V c 1 t)

/-- What every window's buffer holds after the body. -/
def dat1 (c : Dev nD) : Dat τ (Elt F) Unit ℕ (UR sig nD τ) ℕ cfg1 c where
  A w := V c (Pipeline.arrRef spec1 w)
  after w t := match w with
    | ⟨0, _⟩ => tokens1 V c t
    | ⟨1, _⟩ => iblk1 V c 1 t
    | ⟨2, _⟩ => prod1 V c t
    | ⟨3, _⟩ => Cert.Kv.heads 0 (by decide) (prod1 V c t)
    | ⟨4, _⟩ => Cert.Kv.heads 1024 (by decide) (prod1 V c t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = tokens1 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = prod1 V c t := by dsimp only [dat1]
theorem after1_3 (c : Dev nD) (t : Fin cfg1.N) : (dat1 V c).after 3 t = Cert.Kv.heads 0 (by decide) (prod1 V c t) := by dsimp only [dat1]
theorem after1_4 (c : Dev nD) (t : Fin cfg1.N) : (dat1 V c).after 4 t = Cert.Kv.heads 1024 (by decide) (prod1 V c t) := by dsimp only [dat1]

/-- Each input's buffer holds its block when the body starts. -/
theorem before1_0 (c : Dev nD) (t : Fin cfg1.N) (d) : (dat1 V c).before 0 t d = tokens1 V c t :=
  ((dat1 V c).before_in_eq_fetched 0 rfl (fun _ => rfl)
    (fun t t' h => funext fun a => congrArg (fun n => Pipeline.Clip.of n ((cfg1.win 0).size a) (S8320x2048.size a)) (congrFun h a))
    (fun t => by rw [after1_0]; unfold tokens1; rw [Pipeline.Window.cut_fill]; unfold Dat.blockOf iblk1; rw [A_eq1]) t d).trans
    (by unfold Dat.fetched tokens1; rw [fill1 t d]; unfold Dat.blockOf iblk1; rw [A_eq1])
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  unfold prod1
  iintro ⟨HΦ, Ho, ⟨%d0, H0⟩, ⟨%d1, H1⟩, ⟨%d2, H2⟩, ⟨%d3, H3⟩, ⟨%d4, H4⟩⟩
  iapply (sound_kernel1 c (grid1.coords t) _ _ _ _ _ _ _ _ _ _ (tokens1 V c t) (iblk1 V c 1 t) Set.univ _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.KvProjIdeal.Gen

end
-- ==== Proof.KvFrame.lean ====
/- The run of the key and value projection on the idealized program: two calls with the host's copies of the caches between
   them, the buffers followed from boundary to boundary. -/
module

public import proofs.«01_k».proof.Proof.KvBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KvProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2]

/-- The host's copies between the calls allocate nothing, -/
theorem hostOps1_fresh : (hostOps1 : List (HloOp τ sig (Elt F))).Forall fun op => op.fresh = ∅ := by
  simp only [List.Forall]; repeat' constructor
/-- write the second call's two caches, -/
abbrev hostOps1_W : List (Ref sig .tc) := [main_v1_1, main_v1_2]
theorem hostOps1_writes : (hostOps1 : List (HloOp τ sig (Elt F))).Forall fun op => op.writes ⊆ (hostOps1_W.map (Proc.devRef (τ := τ) .tc)).toFinset :=
  StableHlo.forall_writes_sub_of_map rfl
/-- and no argument. -/
theorem hostOps1_args : ∀ a ∈ argRefs, a ∉ hostOps1_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- after the first call, -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What is no output of the first call stays. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- after the copies, -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- and after the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What is no output of the second call stays. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev adm : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator's register, and nothing owed. -/
abbrev R (c : Dev nD) : sProp 𝕄 := iprop((∃ r, prngReg c r) ∗ ∃ W, owes (c : Thread nD τ) (0 : CellTallies nD τ sig Unit) W)
/-- The copies as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first call as a segment, -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- and the second. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its three segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every buffer ends at the last contents, and every semaphore at zero. -/
theorem ends : θ_run defs (onTc (τ := τ) (main (F := F))) ⟨m, fun _ => 0, ρ⟩ fun r =>
    (∀ (c : Dev nD), ∀ b ∈ Pipeline.ucRefs τ sig, r.2.mem (((c : Thread nD τ)).1, b) = W3 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide))⟩, h.2⟩) (ends m ρ)

end Cert.KvProjIdeal.Gen

end
-- ==== Proof.KvProj.lean ====
/- The key and value projection of both layers: each call's product goes to its own array, and its heads to the layer's
   part of the two caches. Both the kernel and the reference leave the tokens times the layer's weights there. -/
module

public import proofs.«01_k».proof.Defs
public import proofs.«01_k».proof.Proof.KvFrame
public import proofs.«01_k».proof.Proof.KvPFrame
public import proofs.«01_k».proof.Proof.Gen.KvProjReferenceIdeal.Run
public import Idealize.ShloMosaic.Lib.Claim
public import Idealize.ShloMosaic.Lib.Pointwise
public import Idealize.ShloMosaic.Lib.Pipeline.ValueKit

@[expose] public section

set_option maxRecDepth 16384

noncomputable section

namespace Cert.KvProjReferenceIdeal.Val
open Cert.KvProjReferenceIdeal Cert.KvProjReferenceIdeal.Gen Idealize.ShloMosaic Idealize.ShloMosaic.TcCoe
open scoped BigOperators

/-- A layer's product as the reference forms it, at an element. -/
theorem product0_at (x : FVec Ideal S8320x2048 .bf16) (w : FVec Ideal S2x2048x2048 .bf16) (r : Fin 8192) (d : Fin 2048) :
    Host.dotGeneral dot_S8192x2048_S2048x2048_S8192x2048_1_0_0_1_n_n none
      (extf .f32 (extractStridedSlice S8192x2048 ![0, 0] x slices_S8320x2048_S8192x2048_0_0) bitsLt_bf16_f32)
      (extf .f32 (shapeCast _ (extractStridedSlice S1x2048x2048 ![0, 0, 0] w slices_S2x2048x2048_S1x2048x2048_0_0_0)
        shapeCasts_S1x2048x2048_S2048x2048) bitsLt_bf16_f32) (ix2 r d)
      = ∑ k : Fin 2048, x (ix2 ⟨r.val, by omega⟩ k) * w (ix3 0 k d) := by
  pointwise []

theorem product1_at (x : FVec Ideal S8320x2048 .bf16) (w : FVec Ideal S2x2048x2048 .bf16) (r : Fin 8192) (d : Fin 2048) :
    Host.dotGeneral dot_S8192x2048_S2048x2048_S8192x2048_1_0_0_1_n_n none
      (extf .f32 (extractStridedSlice S8192x2048 ![0, 0] x slices_S8320x2048_S8192x2048_0_0) bitsLt_bf16_f32)
      (extf .f32 (shapeCast _ (extractStridedSlice S1x2048x2048 ![1, 0, 0] w slices_S2x2048x2048_S1x2048x2048_1_0_0)
        shapeCasts_S1x2048x2048_S2048x2048) bitsLt_bf16_f32) (ix2 r d)
      = ∑ k : Fin 2048, x (ix2 ⟨r.val, by omega⟩ k) * w (ix3 1 k d) := by
  pointwise []

/-- Two arrays' heads from column `o` on, stacked as the reference stacks them, at an element. -/
theorem cache_at (o : ℕ) (ho : o ≤ 1024) (a b : FVec Ideal S8192x2048 .f32) (hs : S8192x2048.Slices ![0, o] S8192x1024)
    (l : Fin 2) (q : Fin 65536) (e : Fin 128) :
    concatenate S2x65536x128 0
      [⟨S1x65536x128, (broadcastInDim S1x65536x128 ![1, 2] bcast_S65536x128_S1x65536x128_1_2
        (shapeCast S65536x128 (extractStridedSlice S8192x1024 ![0, o] a hs) shapeCasts_S8192x1024_S65536x128))⟩,
       ⟨S1x65536x128, (broadcastInDim S1x65536x128 ![1, 2] bcast_S65536x128_S1x65536x128_1_2
        (shapeCast S65536x128 (extractStridedSlice S8192x1024 ![0, o] b hs) shapeCasts_S8192x1024_S65536x128))⟩]
      concatenates_S1x65536x128_S1x65536x128_S2x65536x128_d0 (ix3 l q e)
    = (if l = 0 then a else b) (ix2 ⟨q.val / 8, by omega⟩ ⟨o + q.val % 8 * 128 + e.val, by omega⟩) := by
  rcases (by omega : l = 0 ∨ l = 1) with rfl | rfl
  · pointwise []
    exact congrArg a (congrArg₂ ix2 rfl (Fin.ext (Nat.add_assoc o _ e.val).symm))
  · pointwise []
    exact congrArg b (congrArg₂ ix2 rfl (Fin.ext (Nat.add_assoc o _ e.val).symm))

end Cert.KvProjReferenceIdeal.Val

namespace Cert.KvProjIdeal.Val

open Cert.KvProjIdeal Cert.KvProjIdeal.Gen Idealize.ShloMosaic Idealize.ShloMosaic.TcCoe Idealize.SL.Sem
open scoped BigOperators

variable (m : (ℓ : Loc nD τ sig) → Buf (Elt Ideal) ℓ) (ρ : Dev nD → PrngReg)

/-- The prompt's tokens times a layer's key and value columns. -/
def product (x : FVec Ideal S8320x2048 .bf16) (w : FVec Ideal S2x2048x2048 .bf16) (l : Fin 2) : FVec Ideal S8192x2048 .f32 :=
  fun i => ∑ k : Fin 2048, x (ix2 ⟨(i 0).val, lt_trans (i 0).isLt (by decide)⟩ k) * w (ix3 l k (i 1))

/-- Both layers' heads from column `o` on, a token's eight heads in eight rows. -/
def cache (o : ℕ) (ho : o ≤ 1024) (x : Fin 2 → FVec Ideal S8320x2048 .bf16) (w : FVec Ideal S2x2048x2048 .bf16) : FVec Ideal S2x65536x128 .f32 :=
  fun i => product (x (i 0)) w (i 0) (ix2 ⟨(i 1).val / 8, by have : (i 1).val < 65536 := (i 1).isLt; omega⟩
    ⟨o + (i 1).val % 8 * 128 + (i 2).val, by have : (i 2).val < 128 := (i 2).isLt; omega⟩)

theorem first_idx : ∀ t : Fin cfg0.N, win0_0.index t = ![t.val, 0] ∧ win0_1.index t = ![0, 0, 0] ∧ win0_2.index t = ![t.val, 0]
    ∧ win0_3.index t = ![0, t.val, 0] ∧ win0_4.index t = ![0, t.val, 0] :=
  (by decide +kernel : ∀ t : Fin grid0.N, _)

theorem second_idx : ∀ t : Fin cfg1.N, win1_0.index t = ![t.val, 0] ∧ win1_1.index t = ![1, 0, 0] ∧ win1_2.index t = ![t.val, 0]
    ∧ win1_3.index t = ![1, t.val, 0] ∧ win1_4.index t = ![1, t.val, 0] :=
  (by decide +kernel : ∀ t : Fin grid1.N, _)

/-- The heads of a block of a layer's product are its rows of the cache. -/
theorem heads_at (o : ℕ) (ho : o ≤ 1024) (P : Cert.Kv.Tile.Idx → EReal) (x : Fin 2 → FVec Ideal S8320x2048 .bf16)
    (w : FVec Ideal S2x2048x2048 .bf16) (l : Fin 2) (t : ℕ) (ht : t < 16)
    (hP : ∀ (p : Fin 512) (d : Fin 2048) (r : Fin 8192), r.val = t * 512 + p.val → P (ix2 p d) = product (x l) w l (ix2 r d))
    (y : Cert.Kv.Block.Idx) (i : S2x65536x128.Idx) (h0 : (i 0).val = l.val) (h1 : (i 1).val = t * 4096 + (y 1).val)
    (h2 : (i 2).val = (y 2).val) : Cert.Kv.heads o ho P y = cache o ho x w i := by
  have e0 : i 0 = l := Fin.ext h0
  have hy : (y 1).val < 4096 := (y 1).isLt
  refine (hP _ _ ⟨t * 512 + (y 1).val / 8, by omega⟩ rfl).trans ?_
  unfold cache
  rw [e0]
  exact congrArg _ (congrArg₂ ix2 (Fin.ext (by show t * 512 + (y 1).val / 8 = (i 1).val / 8; omega))
    (Fin.ext (by show o + (y 1).val % 8 * 128 + (y 2).val = o + (i 1).val % 8 * 128 + (i 2).val; rw [h2]; omega)))

section first
variable (V : (c : Dev nD) → (b : Ref sig .tc) → Buf (Elt Ideal) ((c : Thread nD τ).loc b)) (c : Dev nD) (t : Fin cfg0.N)

theorem first_tokens (p : Fin 512) (k : Fin 2048) (r : Fin 8320) (hr : r.val = t.val * 512 + p.val) :
    tokens0 V c t (ix2 p k) = V c main_arg0 (ix2 r k) := by
  obtain ⟨e, -⟩ := first_idx t
  unfold tokens0 Pipeline.Window.fill
  rw [dif_pos (moved0 _ _)]
  blk_ext [iblk0, e]

theorem first_weights (k d : Fin 2048) : iblk0 V c 1 t (ix3 0 k d) = V c main_arg2 (ix3 0 k d) := by
  obtain ⟨-, e, -⟩ := first_idx t
  blk_ext [iblk0, e]

theorem first_prod (p : Fin 512) (d : Fin 2048) (r : Fin 8192) (hr : r.val = t.val * 512 + p.val) :
    prod0 V c t (ix2 p d) = product (V c main_arg0) (V c main_arg2) 0 (ix2 r d) := by
  unfold prod0
  pointwise [k0_pay4, product]
  simp only [first_tokens V c t p _ ⟨r.val, by omega⟩ hr, first_weights V c t]

end first

section second
variable (V : (c : Dev nD) → (b : Ref sig .tc) → Buf (Elt Ideal) ((c : Thread nD τ).loc b)) (c : Dev nD) (t : Fin cfg1.N)

theorem second_tokens (p : Fin 512) (k : Fin 2048) (r : Fin 8320) (hr : r.val = t.val * 512 + p.val) :
    tokens1 V c t (ix2 p k) = V c main_arg1 (ix2 r k) := by
  obtain ⟨e, -⟩ := second_idx t
  unfold tokens1 Pipeline.Window.fill
  rw [dif_pos (moved1 _ _)]
  blk_ext [iblk1, e]

theorem second_weights (k d : Fin 2048) : iblk1 V c 1 t (ix3 0 k d) = V c main_arg2 (ix3 1 k d) := by
  obtain ⟨-, e, -⟩ := second_idx t
  blk_ext [iblk1, e]

theorem second_prod (p : Fin 512) (d : Fin 2048) (r : Fin 8192) (hr : r.val = t.val * 512 + p.val) :
    prod1 V c t (ix2 p d) = product (V c main_arg1) (V c main_arg2) 1 (ix2 r d) := by
  unfold prod1
  pointwise [k1_pay4, product]
  simp only [second_tokens V c t p _ ⟨r.val, by omega⟩ hr, second_weights V c t]

end second

/-- The arguments' tokens, by layer. -/
abbrev tok (c : Dev nD) : Fin 2 → FVec Ideal S8320x2048 .bf16
  | 0 => m (c.tc.loc main_arg0)
  | 1 => m (c.tc.loc main_arg1)
abbrev keys (c : Dev nD) : FVec Ideal S2x65536x128 .f32 := cache 0 (by decide) (tok m c) (m (c.tc.loc main_arg2))
abbrev vals (c : Dev nD) : FVec Ideal S2x65536x128 .f32 := cache 1024 (by decide) (tok m c) (m (c.tc.loc main_arg2))

/-- The first call leaves its product, -/
theorem first_array (c : Dev nD) : (dat0 (V0 m ρ) c).arrAt 2 cfg0.N
    = (product (tok m c 0) (m (c.tc.loc main_arg2)) 0 : (⟨S8192x2048, .f32⟩ : BufTy).Contents (Elt Ideal)) := by
  refine (dat0 (V0 m ρ) c).arrAt_eq_of_covers 2 _ (by decide +kernel) fun t hf y => ?_
  blk_simp
  rw [after0_2]
  have e := (first_idx t).2.2.1
  have hN : t.val < 16 := lt_of_lt_of_eq t.isLt (by decide)
  obtain ⟨p, d, rfl⟩ : ∃ (p : Fin 512) (d : Fin 2048), y = ix2 p d := ⟨y 0, y 1, eq_ix2 y⟩
  refine (first_prod (V0 m ρ) c t p d ⟨t.val * 512 + p.val, by omega⟩ rfl).trans ?_
  blk_ext [e]

/-- and its layer of each cache. -/
theorem first_keys (c : Dev nD) : (dat0 (V0 m ρ) c).arrAt 3 cfg0.N
    = (fun i => if (i 0).val < 1 then (keys m c : (⟨S2x65536x128, .f32⟩ : BufTy).Contents (Elt Ideal)) i else (dat0 (V0 m ρ) c).A 3 i) := by
  refine (dat0 (V0 m ρ) c).arrAt_eq_of_coversWhere 3 (keys m c : (⟨S2x65536x128, .f32⟩ : BufTy).Contents (Elt Ideal))
    (fun β => β (0 : Fin 3) < 1) (by decide +kernel) (fun t hf y => ?_) (fun j => by blk_simp [Pipeline.Window.cell_apply]; omega)
  blk_simp
  rw [after0_3]
  have e := (first_idx t).2.2.2.1
  have hN : t.val < 16 := lt_of_lt_of_eq t.isLt (by decide)
  have hy : (y 0).val < 1 := (y 0).isLt
  exact heads_at _ _ _ (tok m c) _ 0 t.val hN (fun p d r hr => first_prod (V0 m ρ) c t p d r hr) y _
    (by blk_simp [e]; omega) (by blk_simp [e]) (by blk_simp [e])

theorem first_vals (c : Dev nD) : (dat0 (V0 m ρ) c).arrAt 4 cfg0.N
    = (fun i => if (i 0).val < 1 then (vals m c : (⟨S2x65536x128, .f32⟩ : BufTy).Contents (Elt Ideal)) i else (dat0 (V0 m ρ) c).A 4 i) := by
  refine (dat0 (V0 m ρ) c).arrAt_eq_of_coversWhere 4 (vals m c : (⟨S2x65536x128, .f32⟩ : BufTy).Contents (Elt Ideal))
    (fun β => β (0 : Fin 3) < 1) (by decide +kernel) (fun t hf y => ?_) (fun j => by blk_simp [Pipeline.Window.cell_apply]; omega)
  blk_simp
  rw [after0_4]
  have e := (first_idx t).2.2.2.2
  have hN : t.val < 16 := lt_of_lt_of_eq t.isLt (by decide)
  have hy : (y 0).val < 1 := (y 0).isLt
  exact heads_at _ _ _ (tok m c) _ 0 t.val hN (fun p d r hr => first_prod (V0 m ρ) c t p d r hr) y _
    (by blk_simp [e]; omega) (by blk_simp [e]) (by blk_simp [e])

/-- Between the calls the caches are handed on, -/
theorem handed (c : Dev nD) : V2 m ρ c main_v1_1 = (dat0 (V0 m ρ) c).arrAt 3 cfg0.N
    ∧ V2 m ρ c main_v1_2 = (dat0 (V0 m ρ) c).arrAt 4 cfg0.N := by
  constructor
  · refine Eq.trans ?_ (W1_arr m ρ c 3)
    rfl
  · refine Eq.trans ?_ (W1_arr m ρ c 4)
    rfl
/-- and the second call reads the arguments as launched. -/
theorem kept_tokens (c : Dev nD) : V2 m ρ c main_arg1 = tok m c 1 := W2_args m ρ c main_arg1 (by decide)
theorem kept_weights (c : Dev nD) : V2 m ρ c main_arg2 = m (c.tc.loc main_arg2) := W2_args m ρ c main_arg2 (by decide)

/-- The second call leaves its product, -/
theorem second_array (c : Dev nD) : (dat1 (V2 m ρ) c).arrAt 2 cfg1.N
    = (product (tok m c 1) (m (c.tc.loc main_arg2)) 1 : (⟨S8192x2048, .f32⟩ : BufTy).Contents (Elt Ideal)) := by
  refine (dat1 (V2 m ρ) c).arrAt_eq_of_covers 2 _ (by decide +kernel) fun t hf y => ?_
  blk_simp
  rw [after1_2]
  have e := (second_idx t).2.2.1
  have hN : t.val < 16 := lt_of_lt_of_eq t.isLt (by decide)
  obtain ⟨p, d, rfl⟩ : ∃ (p : Fin 512) (d : Fin 2048), y = ix2 p d := ⟨y 0, y 1, eq_ix2 y⟩
  refine (second_prod (V2 m ρ) c t p d ⟨t.val * 512 + p.val, by omega⟩ rfl).trans ?_
  rw [kept_tokens, kept_weights]
  blk_ext [e]

/-- and completes the caches. -/
theorem second_keys (c : Dev nD) : (dat1 (V2 m ρ) c).arrAt 3 cfg1.N = (keys m c : (⟨S2x65536x128, .f32⟩ : BufTy).Contents (Elt Ideal)) := by
  refine (dat1 (V2 m ρ) c).arrAt_eq_of_coversWhere_of_agree 3 (keys m c : (⟨S2x65536x128, .f32⟩ : BufTy).Contents (Elt Ideal))
    (fun β => 1 ≤ β (0 : Fin 3)) (by decide +kernel) (fun t hf y => ?_) (fun j hj => ?_)
  · blk_simp
    rw [after1_3]
    have e := (second_idx t).2.2.2.1
    have hN : t.val < 16 := lt_of_lt_of_eq t.isLt (by decide)
    have hy : (y 0).val < 1 := (y 0).isLt
    refine heads_at _ _ _ (tok m c) _ 1 t.val hN (fun p d r hr => (second_prod (V2 m ρ) c t p d r hr).trans ?_) y _
      (by blk_simp [e]; omega) (by blk_simp [e]) (by blk_simp [e])
    rw [kept_tokens, kept_weights]
  · blk_simp [Pipeline.Window.cell_apply] at hj
    refine (congrFun ((handed m ρ c).1.trans (first_keys m ρ c)) j).trans (if_pos ?_)
    omega

theorem second_vals (c : Dev nD) : (dat1 (V2 m ρ) c).arrAt 4 cfg1.N = (vals m c : (⟨S2x65536x128, .f32⟩ : BufTy).Contents (Elt Ideal)) := by
  refine (dat1 (V2 m ρ) c).arrAt_eq_of_coversWhere_of_agree 4 (vals m c : (⟨S2x65536x128, .f32⟩ : BufTy).Contents (Elt Ideal))
    (fun β => 1 ≤ β (0 : Fin 3)) (by decide +kernel) (fun t hf y => ?_) (fun j hj => ?_)
  · blk_simp
    rw [after1_4]
    have e := (second_idx t).2.2.2.2
    have hN : t.val < 16 := lt_of_lt_of_eq t.isLt (by decide)
    have hy : (y 0).val < 1 := (y 0).isLt
    refine heads_at _ _ _ (tok m c) _ 1 t.val hN (fun p d r hr => (second_prod (V2 m ρ) c t p d r hr).trans ?_) y _
      (by blk_simp [e]; omega) (by blk_simp [e]) (by blk_simp [e])
    rw [kept_tokens, kept_weights]
  · blk_simp [Pipeline.Window.cell_apply] at hj
    refine (congrFun ((handed m ρ c).2.trans (first_vals m ρ c)) j).trans (if_pos ?_)
    omega

/-- The kernel's run, its results and arguments named. -/
theorem kernel_run : θ_run defs (onTc (τ := τ) (main (F := Ideal))) ⟨m, fun _ => 0, ρ⟩ (fun r => ∀ c : Dev nD,
    r.2.mem (c.tc.loc main_v0_0) = (product (tok m c 0) (m (c.tc.loc main_arg2)) 0 : (⟨S8192x2048, .f32⟩ : BufTy).Contents (Elt Ideal))
    ∧ r.2.mem (c.tc.loc main_v1_0) = (product (tok m c 1) (m (c.tc.loc main_arg2)) 1 : (⟨S8192x2048, .f32⟩ : BufTy).Contents (Elt Ideal))
    ∧ r.2.mem (c.tc.loc main_v1_1) = (keys m c : (⟨S2x65536x128, .f32⟩ : BufTy).Contents (Elt Ideal))
    ∧ r.2.mem (c.tc.loc main_v1_2) = (vals m c : (⟨S2x65536x128, .f32⟩ : BufTy).Contents (Elt Ideal))
    ∧ r.2.mem (c.tc.loc main_arg0) = m (c.tc.loc main_arg0) ∧ r.2.mem (c.tc.loc main_arg1) = m (c.tc.loc main_arg1)
    ∧ r.2.mem (c.tc.loc main_arg2) = m (c.tc.loc main_arg2)) :=
  (θ_run _ _ _).mono (fun r h c => by
    have first : W3 m ρ c (Proc.devRef .tc main_v0_0) = _ :=
      (W3_of_ne m ρ c main_v0_0 (by decide)).trans ((W2_of m ρ c main_v0_0 (by decide)).trans ((W1_arr m ρ c 2).trans (first_array m ρ c)))
    exact ⟨(h.1 c _ (mem_uc main_v0_0 (by decide))).trans first,
      (h.1 c _ (mem_uc main_v1_0 (by decide))).trans ((W3_arr m ρ c 2).trans (second_array m ρ c)),
      (h.1 c _ (mem_uc main_v1_1 (by decide))).trans ((W3_arr m ρ c 3).trans (second_keys m ρ c)),
      (h.1 c _ (mem_uc main_v1_2 (by decide))).trans ((W3_arr m ρ c 4).trans (second_vals m ρ c)),
      (h.1 c _ (mem_uc main_arg0 (by decide))).trans (W3_args m ρ c _ (by decide)),
      (h.1 c _ (mem_uc main_arg1 (by decide))).trans (W3_args m ρ c _ (by decide)),
      (h.1 c _ (mem_uc main_arg2 (by decide))).trans (W3_args m ρ c _ (by decide))⟩) (ends m ρ)

theorem quiescent_P : Cert.quiescent_KvProj := fun m ρ _ => Cert.KvProj.Gen.frame m ρ
theorem quiescent_PI : Cert.quiescent_KvProjIdeal := fun m ρ _ => Cert.KvProjIdeal.Gen.frame m ρ
theorem quiescent_RI : Cert.quiescent_KvProjReferenceIdeal := fun m ρ _ =>
  (θ_run _ _ _).mono (fun r h => ⟨fun c => (h c).2.2.2.2, sem_eq_zero_of_no_sems (by decide) r.2⟩)
    (Cert.KvProjReferenceIdeal.Value.run m ρ)

theorem results_equal : Cert.algebraic_KvProjIdeal_KvProjReferenceIdeal := by
  intro m ρ m' ρ' hpre hag
  refine ⟨fun c => product (tok m c 0) (m (c.tc.loc main_arg2)) 0, fun c => product (tok m c 1) (m (c.tc.loc main_arg2)) 1,
    fun c => keys m c, fun c => vals m c, kernel_run m ρ,
    (θ_run _ _ _).mono (fun _ h c => ?_) (Cert.KvProjReferenceIdeal.Value.run m' ρ')⟩
  obtain ⟨h0, h1, h2⟩ := hag c
  obtain ⟨r0, r1, r2, r3, rest⟩ := h c
  rw [h0, h2] at r0
  rw [h1, h2] at r1
  rw [h0, h1, h2] at r2 r3
  have e0 := fun r d => Cert.KvProjReferenceIdeal.Val.product0_at (m (c.tc.loc main_arg0)) (m (c.tc.loc main_arg2)) r d
  have e1 := fun r d => Cert.KvProjReferenceIdeal.Val.product1_at (m (c.tc.loc main_arg1)) (m (c.tc.loc main_arg2)) r d
  refine ⟨r0.trans (funext fun i => ?_), r1.trans (funext fun i => ?_), r2.trans (funext fun i => ?_), r3.trans (funext fun i => ?_), rest⟩
  · obtain ⟨r, d, rfl⟩ : ∃ (r : Fin 8192) (d : Fin 2048), i = ix2 r d := ⟨i 0, i 1, eq_ix2 i⟩
    exact e0 r d
  · obtain ⟨r, d, rfl⟩ : ∃ (r : Fin 8192) (d : Fin 2048), i = ix2 r d := ⟨i 0, i 1, eq_ix2 i⟩
    exact e1 r d
  · obtain ⟨l, q, e, rfl⟩ : ∃ (l : Fin 2) (q : Fin 65536) (e : Fin 128), i = ix3 l q e := ⟨i 0, i 1, i 2, eq_ix3 i⟩
    refine (Cert.KvProjReferenceIdeal.Val.cache_at 0 (by decide) _ _ _ l q e).trans ?_
    rcases (by omega : l = 0 ∨ l = 1) with rfl | rfl
    · exact e0 _ _
    · exact e1 _ _
  · obtain ⟨l, q, e, rfl⟩ : ∃ (l : Fin 2) (q : Fin 65536) (e : Fin 128), i = ix3 l q e := ⟨i 0, i 1, i 2, eq_ix3 i⟩
    refine (Cert.KvProjReferenceIdeal.Val.cache_at 1024 (by decide) _ _ _ l q e).trans ?_
    rcases (by omega : l = 0 ∨ l = 1) with rfl | rfl
    · exact e0 _ _
    · exact e1 _ _

end Cert.KvProjIdeal.Val

end
-- ==== Proof.MidBody.lean ====
/- The first layer's last norm on the idealized program, the prompt's call and the samples': what one grid point's body leaves,
   and each call's proof data. -/
module

public import Idealize.ShloMosaic.Lib.Pipeline.ValueKit
public import proofs.«01_k».proof.Proof.Gen.MidIdeal.Launch
public import proofs.«01_k».proof.Proof.Gen.MidIdeal.Skeleton
public import proofs.«01_k».proof.Proof.Gen.MidIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem corner2 : (![0, 0] : Fin 2 → ℕ) = fun _ => 0 := funext fun a => by fin_cases a <;> rfl
theorem corner3 : (![0, 0, 0] : Fin 3 → ℕ) = fun _ => 0 := funext fun a => by fin_cases a <;> rfl

/-! # The prompt -/

/-- The rows the body writes, -/
abbrev rows0 (x f : Vec F S256x2048 .f32) (pe : Vec F S1x256x256 .f32) (wg : Vec F S1x2048x2048 .bf16) (pw : Vec F S1x256x2048 .f32) (g b : Vec F S1x1x2048 .f32) : FVec F S256x2048 .f32 :=
  k0_pay1 (k0_pay3 g) (k0_pay4 b) (k0_pay5 x wg pe pw f) (k0_pay6 x wg pe pw f) (k0_pay7 (F := F))
/-- and the same in the narrow format. -/
abbrev narrow0 (x f : Vec F S256x2048 .f32) (pe : Vec F S1x256x256 .f32) (wg : Vec F S1x2048x2048 .bf16) (pw : Vec F S1x256x2048 .f32) (g b : Vec F S1x1x2048 .f32) : FVec F S256x2048 .bf16 :=
  k0_pay2 (k0_pay3 g) (k0_pay4 b) (k0_pay5 x wg pe pw f) (k0_pay6 x wg pe pw f) (k0_pay7 (F := F))

set_option maxHeartbeats 1000000 in
/-- The body leaves the rows in its two outputs. -/
theorem sound_kernel0 (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S1x256x256 .f32) (h3 : a3.IsWhole)
    (a4 : Memref sig .tc .vmem S1x2048x2048 .bf16) (h4 : a4.IsWhole)
    (a5 : Memref sig .tc .vmem S1x256x2048 .f32) (h5 : a5.IsWhole)
    (a6 : Memref sig .tc .vmem S1x1x2048 .f32) (h6 : a6.IsWhole)
    (a7 : Memref sig .tc .vmem S1x1x2048 .f32) (h7 : a7.IsWhole)
    (a8 : Memref sig .tc .vmem S256x2048 .f32) (h8 : a8.IsWhole)
    (a9 : Memref sig .tc .vmem S256x2048 .bf16) (h9 : a9.IsWhole)
    (x f : Vec F S256x2048 .f32) (pe : Vec F S1x256x256 .f32) (wg : Vec F S1x2048x2048 .bf16) (pw : Vec F S1x256x2048 .f32) (g b : Vec F S1x1x2048 .f32) (E : Set ℕ) (K : PUnit → sProp 𝕄) :
    iprop(owns (c : Thread nD τ) a1 fullShare x
        ∗ owns (c : Thread nD τ) a2 fullShare f
        ∗ owns (c : Thread nD τ) a3 fullShare pe
        ∗ owns (c : Thread nD τ) a4 fullShare wg
        ∗ owns (c : Thread nD τ) a5 fullShare pw
        ∗ owns (c : Thread nD τ) a6 fullShare g
        ∗ owns (c : Thread nD τ) a7 fullShare b
        ∗ (∃ d, owns (c : Thread nD τ) a8 fullShare d)
        ∗ (∃ d, owns (c : Thread nD τ) a9 fullShare d)
        ∗ (iprop(owns (c : Thread nD τ) a1 fullShare x
            ∗ owns (c : Thread nD τ) a2 fullShare f
            ∗ owns (c : Thread nD τ) a3 fullShare pe
            ∗ owns (c : Thread nD τ) a4 fullShare wg
            ∗ owns (c : Thread nD τ) a5 fullShare pw
            ∗ owns (c : Thread nD τ) a6 fullShare g
            ∗ owns (c : Thread nD τ) a7 fullShare b
            ∗ owns (c : Thread nD τ) a8 fullShare (rows0 x f pe wg pw g b)
            ∗ owns (c : Thread nD τ) a9 fullShare (narrow0 x f pe wg pw g b)) -∗ K ⟨⟩))
      ⊢ wp frame (wpE (defs₀ (F := F)) Variants.none c none) E (cc0_ple_ln i a1 h1 a2 h2 a3 h3 a4 h4 a5 h5 a6 h6 a7 h7 a8 h8 a9 h9) K := by
  simp only [cc0_ple_ln_eq_skeleton]; unfold cc0_ple_ln_skel
  simp only [k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
  have l1 : View.readAt (Elt F) a1.view (Rect.unit ![0, 0] S256x2048.size inb_S256x2048_S256x2048_0_0).toLoadRect f1 = x := by
    subst e1; exact View.ld_unit_zero corner2 _ _
  have l2 : View.readAt (Elt F) a2.view (Rect.unit ![0, 0] S256x2048.size inb_S256x2048_S256x2048_0_0).toLoadRect f2 = f := by
    subst e2; exact View.ld_unit_zero corner2 _ _
  have l3 : View.readAt (Elt F) a3.view (Rect.unit ![0, 0, 0] S1x256x256.size inb_S1x256x256_S1x256x256_0_0_0).toLoadRect f3 = pe := by
    subst e3; exact View.ld_unit_zero corner3 _ _
  have l4 : View.readAt (Elt F) a4.view (Rect.unit ![0, 0, 0] S1x2048x2048.size inb_S1x2048x2048_S1x2048x2048_0_0_0).toLoadRect f4 = wg := by
    subst e4; exact View.ld_unit_zero corner3 _ _
  have l5 : View.readAt (Elt F) a5.view (Rect.unit ![0, 0, 0] S1x256x2048.size inb_S1x256x2048_S1x256x2048_0_0_0).toLoadRect f5 = pw := by
    subst e5; exact View.ld_unit_zero corner3 _ _
  have l6 : View.readAt (Elt F) a6.view (Rect.unit ![0, 0, 0] S1x1x2048.size inb_S1x1x2048_S1x1x2048_0_0_0).toLoadRect f6 = g := by
    subst e6; exact View.ld_unit_zero corner3 _ _
  have l7 : View.readAt (Elt F) a7.view (Rect.unit ![0, 0, 0] S1x1x2048.size inb_S1x1x2048_S1x1x2048_0_0_0).toLoadRect f7 = b := by
    subst e7; exact View.ld_unit_zero corner3 _ _
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr
    swap; · iexact H8
    ipureintro
    refine (View.read_writes_eq_canon _ _ _ (View.cover_of_tiledL _ S256x2048.size (by sl_kernel_rfl))).trans ?_
    rw [← l1, ← l2, ← l3, ← l4, ← l5, ← l6, ← l7]
    exact View.canon_unit_zero corner2 _ _
  iexists _; isplitr
  swap; · iexact H9
  ipureintro
  refine (View.read_writes_eq_canon _ _ _ (View.cover_of_tiledL _ S256x2048.size (by sl_kernel_rfl))).trans ?_
  rw [← l1, ← l2, ← l3, ← l4, ← l5, ← l6, ← l7]
  exact View.canon_unit_zero corner2 _ _

section Region0
variable (V : (c : Dev nD) → (b : Ref sig .tc) → Buf (Elt F) ((c : Thread nD τ).loc b))

/-- A window's block at a point, of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The residual's and the feed-forward's buffers hold their block at every point: no block reaches past the array. -/
def held0_0 (c : Dev nD) (t : Fin cfg0.N) : (cfg0.win 0).block.Idx → Elt F (cfg0.win 0).elt :=
  (cfg0.win 0).fill (cfg0.grid.coords t) (fun _ => Classical.choice inferInstance) (iblk0 V c 0 t)
theorem whole0_0 : ∀ t : Fin cfg0.N, ∀ a, (cfg0.win 0).xsize (cfg0.grid.coords t) a = (cfg0.win 0).size a := by decide +kernel
theorem moved0_0 (t : Fin cfg0.N) (j : (cfg0.win 0).block.Idx) : (cfg0.win 0).moved (cfg0.grid.coords t) j = true :=
  ((cfg0.win 0).moved_iff _ j).mpr fun a => by rw [whole0_0 t a]; exact (j a).isLt
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]

def held0_1 (c : Dev nD) (t : Fin cfg0.N) : (cfg0.win 1).block.Idx → Elt F (cfg0.win 1).elt :=
  (cfg0.win 1).fill (cfg0.grid.coords t) (fun _ => Classical.choice inferInstance) (iblk0 V c 1 t)
theorem whole0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [whole0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]

/-- The rows a point writes. -/
def wrote0 (c : Dev nD) (t : Fin cfg0.N) : FVec F S256x2048 .f32 :=
  rows0 (held0_0 V c t) (held0_1 V c t) (iblk0 V c 2 t) (iblk0 V c 3 t) (iblk0 V c 4 t) (iblk0 V c 5 t) (iblk0 V c 6 t)
def wroteNarrow0 (c : Dev nD) (t : Fin cfg0.N) : FVec F S256x2048 .bf16 :=
  narrow0 (held0_0 V c t) (held0_1 V c t) (iblk0 V c 2 t) (iblk0 V c 3 t) (iblk0 V c 4 t) (iblk0 V c 5 t) (iblk0 V c 6 t)

/-- What every window's buffer holds after the body. -/
def dat0 (c : Dev nD) : Dat τ (Elt F) Unit ℕ (UR sig nD τ) ℕ cfg0 c where
  A w := V c (Pipeline.arrRef spec0 w)
  after w t := match w with
    | ⟨0, _⟩ => held0_0 V c t
    | ⟨1, _⟩ => held0_1 V c t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => wrote0 V c t
    | ⟨8, _⟩ => wroteNarrow0 V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = held0_0 V c t := by dsimp only [dat0]
theorem after0_1 (c : Dev nD) (t : Fin cfg0.N) : (dat0 V c).after 1 t = held0_1 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = wrote0 V c t := by dsimp only [dat0]
theorem after0_8 (c : Dev nD) (t : Fin cfg0.N) : (dat0 V c).after 8 t = wroteNarrow0 V c t := by dsimp only [dat0]

/-- Each input's buffer holds its block when the body starts. -/
theorem before0_0 (c : Dev nD) (t : Fin cfg0.N) (d) : (dat0 V c).before 0 t d = held0_0 V c t :=
  ((dat0 V c).before_in_eq_fetched 0 rfl (fun _ => rfl)
    (fun t t' h => funext fun a => congrArg (fun n => Pipeline.Clip.of n ((cfg0.win 0).size a) (S8320x2048.size a)) (congrFun h a))
    (fun t => by rw [after0_0]; unfold held0_0; rw [Pipeline.Window.cut_fill]; unfold Dat.blockOf iblk0; rw [A_eq0]) t d).trans
    (by unfold Dat.fetched held0_0; rw [fill0_0 t d]; unfold Dat.blockOf iblk0; rw [A_eq0])
theorem before0_1 (c : Dev nD) (t : Fin cfg0.N) (d) : (dat0 V c).before 1 t d = held0_1 V c t :=
  ((dat0 V c).before_in_eq_fetched 1 rfl (fun _ => rfl)
    (fun t t' h => funext fun a => congrArg (fun n => Pipeline.Clip.of n ((cfg0.win 1).size a) (S8320x2048.size a)) (congrFun h a))
    (fun t => by rw [after0_1]; unfold held0_1; rw [Pipeline.Window.cut_fill]; unfold Dat.blockOf iblk0; rw [A_eq0]) t d).trans
    (by unfold Dat.fetched held0_1; rw [fill0_1 t d]; unfold Dat.blockOf iblk0; rw [A_eq0])
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]) t d).trans
    (by unfold Dat.fetched Dat.blockOf iblk0; rw [A_eq0]; rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]) t d).trans
    (by unfold Dat.fetched Dat.blockOf iblk0; rw [A_eq0]; rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]) t d).trans
    (by unfold Dat.fetched Dat.blockOf iblk0; rw [A_eq0]; rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]) t d).trans
    (by unfold Dat.fetched Dat.blockOf iblk0; rw [A_eq0]; rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold wrote0 wroteNarrow0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c (grid0.coords t) _ _ _ _ _ _ _ _ _ _ _ _ _ _ _ _ _ _
    (held0_0 V c t) (held0_1 V c t) (iblk0 V c 2 t) (iblk0 V c 3 t) (iblk0 V c 4 t) (iblk0 V c 5 t) (iblk0 V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region0

/-! # The samples -/

/-- The rows the body writes, -/
abbrev rows1 (x f : Vec F S128x2048 .f32) (pe : Vec F S1x128x256 .f32) (wg : Vec F S1x2048x2048 .bf16) (pw : Vec F S1x256x2048 .f32) (g b : Vec F S1x1x2048 .f32) : FVec F S128x2048 .f32 :=
  k1_pay1 (k1_pay3 g) (k1_pay4 b) (k1_pay5 x wg pe pw f) (k1_pay6 x wg pe pw f) (k1_pay7 (F := F))
/-- and the same in the narrow format. -/
abbrev narrow1 (x f : Vec F S128x2048 .f32) (pe : Vec F S1x128x256 .f32) (wg : Vec F S1x2048x2048 .bf16) (pw : Vec F S1x256x2048 .f32) (g b : Vec F S1x1x2048 .f32) : FVec F S128x2048 .bf16 :=
  k1_pay2 (k1_pay3 g) (k1_pay4 b) (k1_pay5 x wg pe pw f) (k1_pay6 x wg pe pw f) (k1_pay7 (F := F))

set_option maxHeartbeats 1000000 in
/-- The body leaves the rows in its two outputs. -/
theorem sound_kernel1 (c : Dev nD) (i : grid1.Coords)
    (a1 : Memref sig .tc .vmem S128x2048 .f32) (h1 : a1.IsWhole)
    (a2 : Memref sig .tc .vmem S128x2048 .f32) (h2 : a2.IsWhole)
    (a3 : Memref sig .tc .vmem S1x128x256 .f32) (h3 : a3.IsWhole)
    (a4 : Memref sig .tc .vmem S1x2048x2048 .bf16) (h4 : a4.IsWhole)
    (a5 : Memref sig .tc .vmem S1x256x2048 .f32) (h5 : a5.IsWhole)
    (a6 : Memref sig .tc .vmem S1x1x2048 .f32) (h6 : a6.IsWhole)
    (a7 : Memref sig .tc .vmem S1x1x2048 .f32) (h7 : a7.IsWhole)
    (a8 : Memref sig .tc .vmem S128x2048 .f32) (h8 : a8.IsWhole)
    (a9 : Memref sig .tc .vmem S128x2048 .bf16) (h9 : a9.IsWhole)
    (x f : Vec F S128x2048 .f32) (pe : Vec F S1x128x256 .f32) (wg : Vec F S1x2048x2048 .bf16) (pw : Vec F S1x256x2048 .f32) (g b : Vec F S1x1x2048 .f32) (E : Set ℕ) (K : PUnit → sProp 𝕄) :
    iprop(owns (c : Thread nD τ) a1 fullShare x
        ∗ owns (c : Thread nD τ) a2 fullShare f
        ∗ owns (c : Thread nD τ) a3 fullShare pe
        ∗ owns (c : Thread nD τ) a4 fullShare wg
        ∗ owns (c : Thread nD τ) a5 fullShare pw
        ∗ owns (c : Thread nD τ) a6 fullShare g
        ∗ owns (c : Thread nD τ) a7 fullShare b
        ∗ (∃ d, owns (c : Thread nD τ) a8 fullShare d)
        ∗ (∃ d, owns (c : Thread nD τ) a9 fullShare d)
        ∗ (iprop(owns (c : Thread nD τ) a1 fullShare x
            ∗ owns (c : Thread nD τ) a2 fullShare f
            ∗ owns (c : Thread nD τ) a3 fullShare pe
            ∗ owns (c : Thread nD τ) a4 fullShare wg
            ∗ owns (c : Thread nD τ) a5 fullShare pw
            ∗ owns (c : Thread nD τ) a6 fullShare g
            ∗ owns (c : Thread nD τ) a7 fullShare b
            ∗ owns (c : Thread nD τ) a8 fullShare (rows1 x f pe wg pw g b)
            ∗ owns (c : Thread nD τ) a9 fullShare (narrow1 x f pe wg pw g b)) -∗ K ⟨⟩))
      ⊢ wp frame (wpE (defs₀ (F := F)) Variants.none c none) E (cc1_ple_ln i a1 h1 a2 h2 a3 h3 a4 h4 a5 h5 a6 h6 a7 h7 (Memref.whole main_v0_0) (Memref.isWhole_whole _) (Memref.whole main_v0_1) (Memref.isWhole_whole _) a8 h8 a9 h9) K := by
  simp only [cc1_ple_ln_eq_skeleton]; unfold cc1_ple_ln_skel
  simp only [k1_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
  have l1 : View.readAt (Elt F) a1.view (Rect.unit ![0, 0] S128x2048.size inb_S128x2048_S128x2048_0_0).toLoadRect f1 = x := by
    subst e1; exact View.ld_unit_zero corner2 _ _
  have l2 : View.readAt (Elt F) a2.view (Rect.unit ![0, 0] S128x2048.size inb_S128x2048_S128x2048_0_0).toLoadRect f2 = f := by
    subst e2; exact View.ld_unit_zero corner2 _ _
  have l3 : View.readAt (Elt F) a3.view (Rect.unit ![0, 0, 0] S1x128x256.size inb_S1x128x256_S1x128x256_0_0_0).toLoadRect f3 = pe := by
    subst e3; exact View.ld_unit_zero corner3 _ _
  have l4 : View.readAt (Elt F) a4.view (Rect.unit ![0, 0, 0] S1x2048x2048.size inb_S1x2048x2048_S1x2048x2048_0_0_0).toLoadRect f4 = wg := by
    subst e4; exact View.ld_unit_zero corner3 _ _
  have l5 : View.readAt (Elt F) a5.view (Rect.unit ![0, 0, 0] S1x256x2048.size inb_S1x256x2048_S1x256x2048_0_0_0).toLoadRect f5 = pw := by
    subst e5; exact View.ld_unit_zero corner3 _ _
  have l6 : View.readAt (Elt F) a6.view (Rect.unit ![0, 0, 0] S1x1x2048.size inb_S1x1x2048_S1x1x2048_0_0_0).toLoadRect f6 = g := by
    subst e6; exact View.ld_unit_zero corner3 _ _
  have l7 : View.readAt (Elt F) a7.view (Rect.unit ![0, 0, 0] S1x1x2048.size inb_S1x1x2048_S1x1x2048_0_0_0).toLoadRect f7 = b := by
    subst e7; exact View.ld_unit_zero corner3 _ _
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr
    swap; · iexact H8
    ipureintro
    refine (View.read_writes_eq_canon _ _ _ (View.cover_of_tiledL _ S128x2048.size (by sl_kernel_rfl))).trans ?_
    rw [← l1, ← l2, ← l3, ← l4, ← l5, ← l6, ← l7]
    exact View.canon_unit_zero corner2 _ _
  iexists _; isplitr
  swap; · iexact H9
  ipureintro
  refine (View.read_writes_eq_canon _ _ _ (View.cover_of_tiledL _ S128x2048.size (by sl_kernel_rfl))).trans ?_
  rw [← l1, ← l2, ← l3, ← l4, ← l5, ← l6, ← l7]
  exact View.canon_unit_zero corner2 _ _

section Region1
variable (V : (c : Dev nD) → (b : Ref sig .tc) → Buf (Elt F) ((c : Thread nD τ).loc b))

/-- A window's block at a point, of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows a point writes. -/
def wrote1 (c : Dev nD) (t : Fin cfg1.N) : FVec F S128x2048 .f32 :=
  rows1 (iblk1 V c 0 t) (iblk1 V c 1 t) (iblk1 V c 2 t) (iblk1 V c 3 t) (iblk1 V c 4 t) (iblk1 V c 5 t) (iblk1 V c 6 t)
def wroteNarrow1 (c : Dev nD) (t : Fin cfg1.N) : FVec F S128x2048 .bf16 :=
  narrow1 (iblk1 V c 0 t) (iblk1 V c 1 t) (iblk1 V c 2 t) (iblk1 V c 3 t) (iblk1 V c 4 t) (iblk1 V c 5 t) (iblk1 V c 6 t)

/-- What every window's buffer holds after the body. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => wrote1 V c t
    | ⟨8, _⟩ => wroteNarrow1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = wrote1 V c t := by dsimp only [dat1]
theorem after1_8 (c : Dev nD) (t : Fin cfg1.N) : (dat1 V c).after 8 t = wroteNarrow1 V c t := by dsimp only [dat1]

/-- Each input's buffer holds its block when the body starts. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]) t d).trans
    (by unfold Dat.fetched Dat.blockOf iblk1; rw [A_eq1]; rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]) t d).trans
    (by unfold Dat.fetched Dat.blockOf iblk1; rw [A_eq1]; rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]) t d).trans
    (by unfold Dat.fetched Dat.blockOf iblk1; rw [A_eq1]; rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]) t d).trans
    (by unfold Dat.fetched Dat.blockOf iblk1; rw [A_eq1]; rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold wrote1 wroteNarrow1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.MidIdeal.Gen

end
-- ==== Proof.MidFrame.lean ====
/- The run of the first layer's last norm on the idealized program: two calls with the host's copies of the arrays between
   them, the buffers followed from boundary to boundary. -/
module

public import proofs.«01_k».proof.Proof.MidBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]

/-- The host's copies between the calls allocate nothing, -/
theorem hostOps1_fresh : (hostOps1 : List (HloOp τ sig (Elt F))).Forall fun op => op.fresh = ∅ := by
  simp only [List.Forall]; repeat' constructor
/-- write the second call's two arrays, -/
abbrev hostOps1_W : List (Ref sig .tc) := [main_v1_0, main_v1_1]
theorem hostOps1_writes : (hostOps1 : List (HloOp τ sig (Elt F))).Forall fun op => op.writes ⊆ (hostOps1_W.map (Proc.devRef (τ := τ) .tc)).toFinset :=
  StableHlo.forall_writes_sub_of_map rfl
/-- and no argument. -/
theorem hostOps1_args : ∀ a ∈ argRefs, a ∉ hostOps1_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- after the first call, -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What is no output of the first call stays. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- after the copies, -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- and after the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What is no output of the second call stays. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev adm : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator's register, and nothing owed. -/
abbrev R (c : Dev nD) : sProp 𝕄 := iprop((∃ r, prngReg c r) ∗ ∃ W, owes (c : Thread nD τ) (0 : CellTallies nD τ sig Unit) W)
/-- The copies as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first call as a segment, -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- and the second. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its three segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every buffer ends at the last contents, and every semaphore at zero. -/
theorem ends : θ_run defs (onTc (τ := τ) (main (F := F))) ⟨m, fun _ => 0, ρ⟩ fun r =>
    (∀ (c : Dev nD), ∀ b ∈ Pipeline.ucRefs τ sig, r.2.mem (((c : Thread nD τ)).1, b) = W3 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide)),
     (h.1 c _ (mem_uc main_arg3 (by decide))).trans (W3_args m ρ c main_arg3 (by decide)),
     (h.1 c _ (mem_uc main_arg4 (by decide))).trans (W3_args m ρ c main_arg4 (by decide)),
     (h.1 c _ (mem_uc main_arg5 (by decide))).trans (W3_args m ρ c main_arg5 (by decide)),
     (h.1 c _ (mem_uc main_arg6 (by decide))).trans (W3_args m ρ c main_arg6 (by decide)),
     (h.1 c _ (mem_uc main_arg7 (by decide))).trans (W3_args m ρ c main_arg7 (by decide))⟩, h.2⟩) (ends m ρ)

end Cert.MidIdeal.Gen

end
-- ==== Proof.Mid.lean ====
/- The first layer's last norm: two calls that write the prompt's and the samples' rows of the same arrays in turn. Each
   row is the residual, the feed-forward's result and the gated per-layer input, through the layer norm. -/
module

public import proofs.«01_k».proof.Defs
public import proofs.«01_k».proof.Proof.RowNorm
public import proofs.«01_k».proof.Proof.MidFrame
public import proofs.«01_k».proof.Proof.MidPFrame
public import proofs.«01_k».proof.Proof.Gen.MidReferenceIdeal.Run
public import Idealize.ShloMosaic.Lib.Claim
public import Idealize.ShloMosaic.Lib.Pipeline.ValueKit

@[expose] public section

set_option maxRecDepth 16384

noncomputable section

namespace Cert.MidIdeal.Val

open Cert.MidIdeal Cert.MidIdeal.Gen Idealize.ShloMosaic Idealize.ShloMosaic.TcCoe Idealize.SL.Sem
open Cert.RowNorm
open scoped BigOperators

variable (m : (ℓ : Loc nD τ sig) → Buf (Elt Ideal) ℓ) (ρ : Dev nD → PrngReg)

/-- A token's per-layer input: the prompt's tokens come before the samples'. -/
def layerInput (pp : FVec Ideal S2x8192x256 .f32) (ps : FVec Ideal S2x128x256 .f32) (t : Fin 8320) (k : Fin 256) : EReal :=
  if h : t.val < 8192 then pp (ix3 0 ⟨t.val, h⟩ k) else ps (ix3 0 ⟨t.val - 8192, by omega⟩ k)

/-- A row before the norm. -/
def gated (x f : Fin 2048 → EReal) (pe : Fin 256 → EReal) (wg : Fin 2048 → Fin 2048 → EReal) (pw : Fin 256 → Fin 2048 → EReal)
    (d : Fin 2048) : EReal :=
  alpha * x d + f d + Ideal.logistic (∑ k : Fin 2048, x k * wg k d) * ∑ k : Fin 256, pe k * pw k d

/-- The two calls' result. -/
def result (x f : FVec Ideal S8320x2048 .f32) (pp : FVec Ideal S2x8192x256 .f32) (ps : FVec Ideal S2x128x256 .f32)
    (wg : FVec Ideal S2x2048x2048 .bf16) (pw : FVec Ideal S2x256x2048 .f32) (g b : FVec Ideal S2x1x2048 .f32) : FVec Ideal S8320x2048 .f32 :=
  fun i => normed (gated (fun k => x (ix2 (i 0) k)) (fun k => f (ix2 (i 0) k)) (layerInput pp ps (i 0)) (fun k d => wg (ix3 0 k d))
    (fun k d => pw (ix3 0 k d))) (i 1) (g (ix3 0 0 (i 1))) (b (ix3 0 0 (i 1)))

/-- One row of a point's block of the prompt, from the blocks it reads. -/
theorem prompt_row (x f : Vec Ideal S256x2048 .f32) (pe : Vec Ideal S1x256x256 .f32) (wg : Vec Ideal S1x2048x2048 .bf16)
    (pw : Vec Ideal S1x256x2048 .f32) (g b : Vec Ideal S1x1x2048 .f32) (p : Fin 256) (d : Fin 2048) :
    rows0 x f pe wg pw g b (ix2 p d)
      = normed (gated (fun k => x (ix2 p k)) (fun k => f (ix2 p k)) (fun k => pe (ix3 0 p k)) (fun k d => wg (ix3 0 k d)) (fun k d => pw (ix3 0 k d)))
        d (g (ix3 0 0 d)) (b (ix3 0 0 d)) := by
  have h5 : ∀ d : Fin 2048, k0_pay5 x wg pe pw f (ix2 p d) = centred (gated (fun k => x (ix2 p k)) (fun k => f (ix2 p k)) (fun k => pe (ix3
      0 p k)) (fun k d => wg (ix3 0 k d)) (fun k d => pw (ix3 0 k d))) d := by
    intro d
    pointwise [k0_pay5]
    rfl
  have h6 : k0_pay6 x wg pe pw f (ix2 p 0) = ∑ d : Fin 2048, k0_pay5 x wg pe pw f (ix2 p d) * k0_pay5 x wg pe pw f (ix2 p d) := by
    pointwise [k0_pay6]
  pointwise [rows0, k0_pay1, k0_pay3, k0_pay4, k0_pay7]
  rw [h6]
  simp only [h5]
  rfl

/-- One row of a point's block of the samples, from the blocks it reads. -/
theorem sample_row (x f : Vec Ideal S128x2048 .f32) (pe : Vec Ideal S1x128x256 .f32) (wg : Vec Ideal S1x2048x2048 .bf16)
    (pw : Vec Ideal S1x256x2048 .f32) (g b : Vec Ideal S1x1x2048 .f32) (p : Fin 128) (d : Fin 2048) :
    rows1 x f pe wg pw g b (ix2 p d)
      = normed (gated (fun k => x (ix2 p k)) (fun k => f (ix2 p k)) (fun k => pe (ix3 0 p k)) (fun k d => wg (ix3 0 k d)) (fun k d => pw (ix3 0 k d)))
        d (g (ix3 0 0 d)) (b (ix3 0 0 d)) := by
  have h5 : ∀ d : Fin 2048, k1_pay5 x wg pe pw f (ix2 p d) = centred (gated (fun k => x (ix2 p k)) (fun k => f (ix2 p k)) (fun k => pe (ix3
      0 p k)) (fun k d => wg (ix3 0 k d)) (fun k d => pw (ix3 0 k d))) d := by
    intro d
    pointwise [k1_pay5]
    rfl
  have h6 : k1_pay6 x wg pe pw f (ix2 p 0) = ∑ d : Fin 2048, k1_pay5 x wg pe pw f (ix2 p d) * k1_pay5 x wg pe pw f (ix2 p d) := by
    pointwise [k1_pay6]
  pointwise [rows1, k1_pay1, k1_pay3, k1_pay4, k1_pay7]
  rw [h6]
  simp only [h5]
  rfl

/-- Which block each window reads or writes at a point: the prompt's call walks its 32 blocks, -/
theorem prompt_idx : ∀ t : Fin cfg0.N, win0_0.index t = ![t.val, 0] ∧ win0_1.index t = ![t.val, 0] ∧ win0_2.index t = ![0, t.val, 0] ∧
    win0_3.index t = ![0, 0, 0]
    ∧ win0_4.index t = ![0, 0, 0] ∧ win0_5.index t = ![0, 0, 0] ∧ win0_6.index t = ![0, 0, 0] ∧ win0_7.index t = ![t.val, 0] ∧ win0_8.index
        t = ![t.val, 0] :=
  (by decide +kernel : ∀ t : Fin grid0.N, _)

/-- and the samples' call has the one block after them. -/
theorem sample_idx : ∀ t : Fin cfg1.N, win1_0.index t = ![64, 0] ∧ win1_1.index t = ![64, 0] ∧ win1_2.index t = ![0, 0, 0] ∧ win1_3.index t
    = ![0, 0, 0]
    ∧ win1_4.index t = ![0, 0, 0] ∧ win1_5.index t = ![0, 0, 0] ∧ win1_6.index t = ![0, 0, 0] ∧ win1_7.index t = ![64, 0] ∧ win1_8.index t
        = ![64, 0] :=
  (by decide +kernel : ∀ t : Fin grid1.N, _)

section prompt
variable (V : (c : Dev nD) → (b : Ref sig .tc) → Buf (Elt Ideal) ((c : Thread nD τ).loc b)) (c : Dev nD) (t : Fin cfg0.N)

theorem prompt_residual (p : Fin 256) (k : Fin 2048) (r : Fin 8320) (hr : r.val = t.val * 256 + p.val) :
    held0_0 V c t (ix2 p k) = V c main_arg0 (ix2 r k) := by
  have e := (prompt_idx t).1
  unfold held0_0 Pipeline.Window.fill
  rw [dif_pos (moved0_0 _ _)]
  blk_ext [iblk0, e]

theorem prompt_forward (p : Fin 256) (k : Fin 2048) (r : Fin 8320) (hr : r.val = t.val * 256 + p.val) :
    held0_1 V c t (ix2 p k) = V c main_arg1 (ix2 r k) := by
  have e := (prompt_idx t).2.1
  unfold held0_1 Pipeline.Window.fill
  rw [dif_pos (moved0_1 _ _)]
  blk_ext [iblk0, e]

theorem prompt_input (p : Fin 256) (k : Fin 256) (r : Fin 8320) (hr : r.val = t.val * 256 + p.val) :
    iblk0 V c 2 t (ix3 0 p k) = layerInput (V c main_arg2) (V c main_arg3) r k := by
  have e := (prompt_idx t).2.2.1
  have hN : t.val < 32 := lt_of_lt_of_eq t.isLt (by decide)
  rw [layerInput, dif_pos (by omega : r.val < 8192)]
  blk_ext [iblk0, e]

theorem prompt_gate (k : Fin 2048) (d : Fin 2048) : iblk0 V c 3 t (ix3 0 k d) = V c main_arg4 (ix3 0 k d) := by
  have e := (prompt_idx t).2.2.2.1
  blk_ext [iblk0, e]

theorem prompt_weights (k : Fin 256) (d : Fin 2048) : iblk0 V c 4 t (ix3 0 k d) = V c main_arg5 (ix3 0 k d) := by
  have e := (prompt_idx t).2.2.2.2.1
  blk_ext [iblk0, e]

theorem prompt_gain (d : Fin 2048) : iblk0 V c 5 t (ix3 0 0 d) = V c main_arg6 (ix3 0 0 d) := by
  have e := (prompt_idx t).2.2.2.2.2.1
  blk_ext [iblk0, e]

theorem prompt_offset (d : Fin 2048) : iblk0 V c 6 t (ix3 0 0 d) = V c main_arg7 (ix3 0 0 d) := by
  have e := (prompt_idx t).2.2.2.2.2.2.1
  blk_ext [iblk0, e]

/-- What a point leaves of the prompt's rows. -/
theorem prompt_block (p : Fin 256) (d : Fin 2048) (r : Fin 8320) (hr : r.val = t.val * 256 + p.val) :
    wrote0 V c t (ix2 p d) = result (V c main_arg0) (V c main_arg1) (V c main_arg2) (V c main_arg3) (V c main_arg4) (V c main_arg5) (V c
        main_arg6) (V c main_arg7) (ix2 r d) := by
  refine (prompt_row (held0_0 V c t) (held0_1 V c t) (iblk0 V c 2 t) (iblk0 V c 3 t) (iblk0 V c 4 t) (iblk0 V c 5 t) (iblk0 V c 6 t) p d).trans ?_
  rw [prompt_gain, prompt_offset]
  simp only [prompt_residual V c t p _ r hr, prompt_forward V c t p _ r hr, prompt_input V c t p _ r hr, prompt_gate, prompt_weights]
  rfl

end prompt

section sample
variable (V : (c : Dev nD) → (b : Ref sig .tc) → Buf (Elt Ideal) ((c : Thread nD τ).loc b)) (c : Dev nD) (t : Fin cfg1.N)

theorem sample_residual (p : Fin 128) (k : Fin 2048) (r : Fin 8320) (hr : r.val = 8192 + p.val) :
    iblk1 V c 0 t (ix2 p k) = V c main_arg0 (ix2 r k) := by
  have e := (sample_idx t).1
  blk_ext [iblk1, e]

theorem sample_forward (p : Fin 128) (k : Fin 2048) (r : Fin 8320) (hr : r.val = 8192 + p.val) :
    iblk1 V c 1 t (ix2 p k) = V c main_arg1 (ix2 r k) := by
  have e := (sample_idx t).2.1
  blk_ext [iblk1, e]

theorem sample_input (p : Fin 128) (k : Fin 256) (r : Fin 8320) (hr : r.val = 8192 + p.val) :
    iblk1 V c 2 t (ix3 0 p k) = layerInput (V c main_arg2) (V c main_arg3) r k := by
  have e := (sample_idx t).2.2.1
  have hN : t.val < 1 := lt_of_lt_of_eq t.isLt (by decide)
  rw [layerInput, dif_neg (by omega : ¬r.val < 8192)]
  blk_ext [iblk1, e]

theorem sample_gate (k : Fin 2048) (d : Fin 2048) : iblk1 V c 3 t (ix3 0 k d) = V c main_arg4 (ix3 0 k d) := by
  have e := (sample_idx t).2.2.2.1
  blk_ext [iblk1, e]

theorem sample_weights (k : Fin 256) (d : Fin 2048) : iblk1 V c 4 t (ix3 0 k d) = V c main_arg5 (ix3 0 k d) := by
  have e := (sample_idx t).2.2.2.2.1
  blk_ext [iblk1, e]

theorem sample_gain (d : Fin 2048) : iblk1 V c 5 t (ix3 0 0 d) = V c main_arg6 (ix3 0 0 d) := by
  have e := (sample_idx t).2.2.2.2.2.1
  blk_ext [iblk1, e]

theorem sample_offset (d : Fin 2048) : iblk1 V c 6 t (ix3 0 0 d) = V c main_arg7 (ix3 0 0 d) := by
  have e := (sample_idx t).2.2.2.2.2.2.1
  blk_ext [iblk1, e]

/-- What a point leaves of the samples' rows. -/
theorem sample_block (p : Fin 128) (d : Fin 2048) (r : Fin 8320) (hr : r.val = 8192 + p.val) :
    wrote1 V c t (ix2 p d) = result (V c main_arg0) (V c main_arg1) (V c main_arg2) (V c main_arg3) (V c main_arg4) (V c main_arg5) (V c
        main_arg6) (V c main_arg7) (ix2 r d) := by
  refine (sample_row (iblk1 V c 0 t) (iblk1 V c 1 t) (iblk1 V c 2 t) (iblk1 V c 3 t) (iblk1 V c 4 t) (iblk1 V c 5 t) (iblk1 V c 6 t) p d).trans ?_
  rw [sample_gain, sample_offset]
  simp only [sample_residual V c t p _ r hr, sample_forward V c t p _ r hr, sample_input V c t p _ r hr, sample_gate, sample_weights]
  rfl

end sample

/-- The result of the launch's arguments. -/
abbrev whole (c : Dev nD) : FVec Ideal S8320x2048 .f32 :=
  result (m (c.tc.loc main_arg0)) (m (c.tc.loc main_arg1)) (m (c.tc.loc main_arg2)) (m (c.tc.loc main_arg3)) (m (c.tc.loc main_arg4)) (m
      (c.tc.loc main_arg5)) (m (c.tc.loc main_arg6)) (m (c.tc.loc main_arg7))

/-- The arrays as the first call leaves them: the prompt's rows written. -/
theorem first_wide (c : Dev nD) : (dat0 (V0 m ρ) c).arrAt 7 cfg0.N
    = (fun i => if (i 0).val < 8192 then (whole m c : (⟨S8320x2048, .f32⟩ : BufTy).Contents (Elt Ideal)) i else (dat0 (V0 m ρ) c).A 7 i) := by
  refine (dat0 (V0 m ρ) c).arrAt_eq_of_coversWhere 7 (whole m c : (⟨S8320x2048, .f32⟩ : BufTy).Contents (Elt Ideal))
    (fun β => β (0 : Fin 2) < 32) (by decide +kernel) (fun t hf y => ?_) (fun j => by blk_simp [Pipeline.Window.cell_apply]; omega)
  blk_simp
  rw [after0_7]
  have e := (prompt_idx t).2.2.2.2.2.2.2.1
  have hN : t.val < 32 := lt_of_lt_of_eq t.isLt (by decide)
  obtain ⟨p, d, hz⟩ : ∃ (p : Fin 256) (d : Fin 2048), (cfg0.win 7).xinj (cfg0.grid.coords t) y = ix2 p d := ⟨_, _, eq_ix2 _⟩
  have hp : p.val = (y 0).val := (congrArg (fun z : S256x2048.Idx => (z 0).val) hz).symm
  have hd : d.val = (y 1).val := (congrArg (fun z : S256x2048.Idx => (z 1).val) hz).symm
  rw [hz]
  refine (prompt_block (V0 m ρ) c t p d ⟨t.val * 256 + p.val, by omega⟩ rfl).trans ?_
  blk_ext [e, hp, hd]

theorem first_narrow (c : Dev nD) : (dat0 (V0 m ρ) c).arrAt 8 cfg0.N
    = (fun i => if (i 0).val < 8192 then (whole m c : (⟨S8320x2048, .f32⟩ : BufTy).Contents (Elt Ideal)) i else (dat0 (V0 m ρ) c).A 8 i) := by
  refine (dat0 (V0 m ρ) c).arrAt_eq_of_coversWhere 8 (whole m c : (⟨S8320x2048, .f32⟩ : BufTy).Contents (Elt Ideal))
    (fun β => β (0 : Fin 2) < 32) (by decide +kernel) (fun t hf y => ?_) (fun j => by blk_simp [Pipeline.Window.cell_apply]; omega)
  blk_simp
  rw [after0_8]
  have e := (prompt_idx t).2.2.2.2.2.2.2.2
  have hN : t.val < 32 := lt_of_lt_of_eq t.isLt (by decide)
  obtain ⟨p, d, hz⟩ : ∃ (p : Fin 256) (d : Fin 2048), (cfg0.win 8).xinj (cfg0.grid.coords t) y = ix2 p d := ⟨_, _, eq_ix2 _⟩
  have hp : p.val = (y 0).val := (congrArg (fun z : S256x2048.Idx => (z 0).val) hz).symm
  have hd : d.val = (y 1).val := (congrArg (fun z : S256x2048.Idx => (z 1).val) hz).symm
  rw [hz]
  refine (prompt_block (V0 m ρ) c t p d ⟨t.val * 256 + p.val, by omega⟩ rfl).trans ?_
  blk_ext [e, hp, hd]

/-- Between the calls the arrays are handed on, -/
theorem handed (c : Dev nD) : V2 m ρ c main_v1_0 = (dat0 (V0 m ρ) c).arrAt 7 cfg0.N
    ∧ V2 m ρ c main_v1_1 = (dat0 (V0 m ρ) c).arrAt 8 cfg0.N := by
  constructor
  · refine Eq.trans ?_ (W1_arr m ρ c 7)
    rfl
  · refine Eq.trans ?_ (W1_arr m ρ c 8)
    rfl

/-- and the second call reads the arguments as launched. -/
theorem kept (c : Dev nD) : result (V2 m ρ c main_arg0) (V2 m ρ c main_arg1) (V2 m ρ c main_arg2) (V2 m ρ c main_arg3) (V2 m ρ c main_arg4)
    (V2 m ρ c main_arg5) (V2 m ρ c main_arg6) (V2 m ρ c main_arg7) = whole m c := by
  have h := W2_args m ρ c
  have h0 : V2 m ρ c main_arg0 = _ := h main_arg0 (by decide)
  have h1 : V2 m ρ c main_arg1 = _ := h main_arg1 (by decide)
  have h2 : V2 m ρ c main_arg2 = _ := h main_arg2 (by decide)
  have h3 : V2 m ρ c main_arg3 = _ := h main_arg3 (by decide)
  have h4 : V2 m ρ c main_arg4 = _ := h main_arg4 (by decide)
  have h5 : V2 m ρ c main_arg5 = _ := h main_arg5 (by decide)
  have h6 : V2 m ρ c main_arg6 = _ := h main_arg6 (by decide)
  have h7 : V2 m ρ c main_arg7 = _ := h main_arg7 (by decide)
  rw [h0, h1, h2, h3, h4, h5, h6, h7]

/-- After both calls every row is written. -/
theorem both_wide (c : Dev nD) : (dat1 (V2 m ρ) c).arrAt 7 cfg1.N = (whole m c : (⟨S8320x2048, .f32⟩ : BufTy).Contents (Elt Ideal)) := by
  refine (dat1 (V2 m ρ) c).arrAt_eq_of_coversWhere_of_agree 7 (whole m c : (⟨S8320x2048, .f32⟩ : BufTy).Contents (Elt Ideal))
    (fun β => 64 ≤ β (0 : Fin 2)) (by decide +kernel) (fun t hf y => ?_) (fun j hj => ?_)
  · blk_simp
    rw [after1_7]
    have e := (sample_idx t).2.2.2.2.2.2.2.1
    obtain ⟨p, d, rfl⟩ : ∃ (p : Fin 128) (d : Fin 2048), y = ix2 p d := ⟨y 0, y 1, eq_ix2 y⟩
    refine (sample_block (V2 m ρ) c t p d ⟨8192 + p.val, by omega⟩ rfl).trans ?_
    rw [kept m ρ c]
    blk_ext [e]
  · blk_simp [Pipeline.Window.cell_apply] at hj
    refine (congrFun ((handed m ρ c).1.trans (first_wide m ρ c)) j).trans (if_pos ?_)
    omega

theorem both_narrow (c : Dev nD) : (dat1 (V2 m ρ) c).arrAt 8 cfg1.N = (whole m c : (⟨S8320x2048, .f32⟩ : BufTy).Contents (Elt Ideal)) := by
  refine (dat1 (V2 m ρ) c).arrAt_eq_of_coversWhere_of_agree 8 (whole m c : (⟨S8320x2048, .f32⟩ : BufTy).Contents (Elt Ideal))
    (fun β => 64 ≤ β (0 : Fin 2)) (by decide +kernel) (fun t hf y => ?_) (fun j hj => ?_)
  · blk_simp
    rw [after1_8]
    have e := (sample_idx t).2.2.2.2.2.2.2.2
    obtain ⟨p, d, rfl⟩ : ∃ (p : Fin 128) (d : Fin 2048), y = ix2 p d := ⟨y 0, y 1, eq_ix2 y⟩
    refine (sample_block (V2 m ρ) c t p d ⟨8192 + p.val, by omega⟩ rfl).trans ?_
    rw [kept m ρ c]
    blk_ext [e]
  · blk_simp [Pipeline.Window.cell_apply] at hj
    refine (congrFun ((handed m ρ c).2.trans (first_narrow m ρ c)) j).trans (if_pos ?_)
    omega

/-- The kernel's run, its results and arguments named. -/
theorem kernel_run : θ_run defs (onTc (τ := τ) (main (F := Ideal))) ⟨m, fun _ => 0, ρ⟩ (fun r => ∀ c : Dev nD,
    r.2.mem (c.tc.loc main_v1_0) = (whole m c : (⟨S8320x2048, .f32⟩ : BufTy).Contents (Elt Ideal))
    ∧ r.2.mem (c.tc.loc main_v1_1) = (whole m c : (⟨S8320x2048, .f32⟩ : BufTy).Contents (Elt Ideal))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)) :=
  (θ_run _ _ _).mono (fun r h c => by
    exact ⟨(h.1 c _ (mem_uc main_v1_0 (by decide))).trans ((W3_arr m ρ c 7).trans (both_wide m ρ c)),
      (h.1 c _ (mem_uc main_v1_1 (by decide))).trans ((W3_arr m ρ c 8).trans (both_narrow m ρ c)),
      (h.1 c _ (mem_uc main_arg0 (by decide))).trans (W3_args m ρ c _ (by decide)),
      (h.1 c _ (mem_uc main_arg1 (by decide))).trans (W3_args m ρ c _ (by decide)),
      (h.1 c _ (mem_uc main_arg2 (by decide))).trans (W3_args m ρ c _ (by decide)),
      (h.1 c _ (mem_uc main_arg3 (by decide))).trans (W3_args m ρ c _ (by decide)),
      (h.1 c _ (mem_uc main_arg4 (by decide))).trans (W3_args m ρ c _ (by decide)),
      (h.1 c _ (mem_uc main_arg5 (by decide))).trans (W3_args m ρ c _ (by decide)),
      (h.1 c _ (mem_uc main_arg6 (by decide))).trans (W3_args m ρ c _ (by decide)),
      (h.1 c _ (mem_uc main_arg7 (by decide))).trans (W3_args m ρ c _ (by decide))⟩) (ends m ρ)

open Cert.MidReferenceIdeal.Value in
theorem reference_at (m : (ℓ : Loc Cert.MidReferenceIdeal.nD Cert.MidReferenceIdeal.τ Cert.MidReferenceIdeal.sig) → Buf (Elt Ideal) ℓ)
    (c : Dev Cert.MidReferenceIdeal.nD) (t : Fin 8320) (d : Fin 2048) :
    res_main_v50 m c (ix2 t d) = result (m (c.tc.loc Cert.MidReferenceIdeal.main_arg0)) (m (c.tc.loc Cert.MidReferenceIdeal.main_arg1)) (m
        (c.tc.loc Cert.MidReferenceIdeal.main_arg2)) (m (c.tc.loc Cert.MidReferenceIdeal.main_arg3)) (m (c.tc.loc
        Cert.MidReferenceIdeal.main_arg4)) (m (c.tc.loc Cert.MidReferenceIdeal.main_arg5)) (m (c.tc.loc Cert.MidReferenceIdeal.main_arg6))
        (m (c.tc.loc Cert.MidReferenceIdeal.main_arg7)) (ix2 t d) := by
  pointwise [res_main_v50]
  rfl

theorem quiescent_P : Cert.quiescent_Mid := fun m ρ _ => Cert.Mid.Gen.frame m ρ
theorem quiescent_PI : Cert.quiescent_MidIdeal := fun m ρ _ => Cert.MidIdeal.Gen.frame m ρ
theorem quiescent_RI : Cert.quiescent_MidReferenceIdeal := fun m ρ _ =>
  (θ_run _ _ _).mono (fun r h => ⟨fun c => (h c).2.2, sem_eq_zero_of_no_sems (by decide) r.2⟩)
    (Cert.MidReferenceIdeal.Value.run m ρ)

theorem results_equal : Cert.algebraic_MidIdeal_MidReferenceIdeal := by
  intro m ρ m' ρ' hpre hag
  have agree (c) : Cert.MidReferenceIdeal.Value.res_main_v50 m' c = whole m c := by
    obtain ⟨h0, h1, h2, h3, h4, h5, h6, h7⟩ := hag c
    unfold whole
    rw [← h0, ← h1, ← h2, ← h3, ← h4, ← h5, ← h6, ← h7]
    funext i
    obtain ⟨t, d, rfl⟩ : ∃ (t : Fin 8320) (d : Fin 2048), i = ix2 t d := ⟨i 0, i 1, eq_ix2 i⟩
    exact reference_at m' c t d
  exact ⟨fun c => whole m c, fun c => whole m c, kernel_run m ρ,
    (θ_run _ _ _).mono (fun _ h c => ⟨(h c).1.trans (agree c), (h c).2.1.trans (agree c), (h c).2.2⟩)
      (Cert.MidReferenceIdeal.Value.run m' ρ')⟩

end Cert.MidIdeal.Val

end
-- ==== Proof.lean ====
module

public import proofs.«01_k».proof.Defs
public import proofs.«01_k».proof.Proof.FfnClaims
public import proofs.«01_k».proof.Proof.SbClaims
public import proofs.«01_k».proof.Proof.DenseClaims
public import proofs.«01_k».proof.Proof.InProj
public import proofs.«01_k».proof.Proof.QProj
public import proofs.«01_k».proof.Proof.Final
public import proofs.«01_k».proof.Proof.OutProj
public import proofs.«01_k».proof.Proof.KvProj
public import proofs.«01_k».proof.Proof.Mid

@[expose] public section

noncomputable section

namespace Cert.Proof

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Dense.Gen.facts, Cert.DenseIdeal.Gen.facts, Cert.DenseReferenceIdeal.Gen.facts,
    Cert.InProj.Gen.facts, Cert.InProjIdeal.Gen.facts, Cert.InProjReferenceIdeal.Gen.facts,
    Cert.QProj.Gen.facts, Cert.QProjIdeal.Gen.facts, Cert.QProjReferenceIdeal.Gen.facts,
    Cert.Final.Gen.facts, Cert.FinalIdeal.Gen.facts, Cert.FinalReferenceIdeal.Gen.facts,
    Cert.OutProj.Gen.facts, Cert.OutProjIdeal.Gen.facts, Cert.OutProjReferenceIdeal.Gen.facts,
    Cert.KvProj.Gen.facts, Cert.KvProjIdeal.Gen.facts, Cert.KvProjReferenceIdeal.Gen.facts,
    Cert.Mid.Gen.facts, Cert.MidIdeal.Gen.facts, Cert.MidReferenceIdeal.Gen.facts,
    Cert.Pre_scores_finite.Gen.facts, Cert.Pre_gates_ok.Gen.facts,
    Cert.KernelIdeal.Sb.quiescent_P, Cert.KernelIdeal.Sb.quiescent_PI, Cert.KernelIdeal.Sb.quiescent_PI_pre,
    Cert.KernelIdeal.Sb.quiescent_RI, Cert.KernelIdeal.Sb.quiescent_RI_pre,
    Cert.FfnIdeal.Val.quiescent_P, Cert.FfnIdeal.Val.quiescent_PI, Cert.FfnIdeal.Val.quiescent_PI_pre,
    Cert.FfnIdeal.Val.quiescent_RI, Cert.FfnIdeal.Val.quiescent_RI_pre,
    Cert.DenseIdeal.Val.quiescent_P, Cert.DenseIdeal.Val.quiescent_PI, Cert.DenseIdeal.Val.quiescent_RI,
    Cert.InProjIdeal.Val.quiescent_P, Cert.InProjIdeal.Val.quiescent_PI, Cert.InProjIdeal.Val.quiescent_RI,
    Cert.QProjIdeal.Val.quiescent_P, Cert.QProjIdeal.Val.quiescent_PI, Cert.QProjIdeal.Val.quiescent_RI,
    Cert.FinalIdeal.Val.quiescent_P, Cert.FinalIdeal.Val.quiescent_PI, Cert.FinalIdeal.Val.quiescent_RI,
    Cert.OutProjIdeal.Val.quiescent_P, Cert.OutProjIdeal.Val.quiescent_PI, Cert.OutProjIdeal.Val.quiescent_RI,
    Cert.KvProjIdeal.Val.quiescent_P, Cert.KvProjIdeal.Val.quiescent_PI, Cert.KvProjIdeal.Val.quiescent_RI,
    Cert.MidIdeal.Val.quiescent_P, Cert.MidIdeal.Val.quiescent_PI, Cert.MidIdeal.Val.quiescent_RI,
    trivial, Cert.KernelIdeal.Sb.results_equal,
    trivial, Cert.FfnIdeal.Val.results_equal,
    trivial, Cert.DenseIdeal.Val.results_equal,
    trivial, Cert.InProjIdeal.Val.results_equal,
    trivial, Cert.QProjIdeal.Val.results_equal,
    trivial, Cert.FinalIdeal.Val.results_equal,
    trivial, Cert.OutProjIdeal.Val.results_equal,
    trivial, Cert.KvProjIdeal.Val.results_equal,
    trivial, Cert.MidIdeal.Val.results_equal⟩

end Cert.Proof

end
